-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_dt_nonneg [hPre_dt_nonneg : Cert.Pre_dt_nonneg.Facts] (m : (ℓ : Loc Cert.SsdIdeal.nD Cert.SsdIdeal.τ Cert.SsdIdeal.sig) → Buf (Elt Ideal) ℓ) : Prop :=
  ∀ c : Dev Cert.SsdIdeal.nD,
    (Cert.Pre_dt_nonneg.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5))) = (fun _ => 1#1)

def Pre_SsdReferenceIdeal (m : (ℓ : Loc Cert.SsdReferenceIdeal.nD Cert.SsdReferenceIdeal.τ Cert.SsdReferenceIdeal.sig) → Buf (Elt Ideal) ℓ) : Prop :=
  True

def Pre_SsdReferenceIdeal_dt_nonneg [hPre_dt_nonneg : Cert.Pre_dt_nonneg.Facts] (m : (ℓ : Loc Cert.SsdReferenceIdeal.nD Cert.SsdReferenceIdeal.τ Cert.SsdReferenceIdeal.sig) → Buf (Elt Ideal) ℓ) : Prop :=
  ∀ c : Dev Cert.SsdReferenceIdeal.nD,
    (Cert.Pre_dt_nonneg.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4)) (m ((c.tc : Thread Cert.SsdReferenceIdeal.nD Cert.SsdReferenceIdeal.τ).loc Cert.SsdReferenceIdeal.main_arg5))) = (fun _ => 1#1)

def Pre_OutMlp (m : (ℓ : Loc Cert.OutMlp.nD Cert.OutMlp.τ Cert.OutMlp.sig) → Buf (Elt Bits) ℓ) : Prop :=
  True

def Pre_OutMlpIdeal (m : (ℓ : Loc Cert.OutMlpIdeal.nD Cert.OutMlpIdeal.τ Cert.OutMlpIdeal.sig) → Buf (Elt Ideal) ℓ) : Prop :=
  True

def Pre_OutMlpReferenceIdeal (m : (ℓ : Loc Cert.OutMlpReferenceIdeal.nD Cert.OutMlpReferenceIdeal.τ Cert.OutMlpReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5))
      ∧ r.2.sem = fun _ => 0)

def quiescent_SsdIdeal_pre_dt_nonneg [hSsdIdeal : Cert.SsdIdeal.Facts] [hPre_dt_nonneg : Cert.Pre_dt_nonneg.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_dt_nonneg m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5))
      ∧ r.2.sem = fun _ => 0)

def quiescent_SsdReferenceIdeal_pre_dt_nonneg [hSsdReferenceIdeal : Cert.SsdReferenceIdeal.Facts] [hPre_dt_nonneg : Cert.Pre_dt_nonneg.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal_dt_nonneg m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5))
      ∧ r.2.sem = fun _ => 0)

def quiescent_OutMlp [hOutMlp : Cert.OutMlp.Facts] : Prop :=
  ∀ (m : (ℓ : Loc Cert.OutMlp.nD Cert.OutMlp.τ Cert.OutMlp.sig) → Buf (Elt Bits) ℓ) (g : Dev Cert.OutMlp.nD → PrngReg), Pre_OutMlp m →
    θ_run (Cert.OutMlp.defs (F := Bits)) (onTc (τ := Cert.OutMlp.τ) (Cert.OutMlp.main (F := Bits))) ⟨m, fun _ => 0, g⟩ (fun r => (∀ c : Dev Cert.OutMlp.nD,
      r.2.mem ((c.tc : Thread Cert.OutMlp.nD Cert.OutMlp.τ).loc Cert.OutMlp.main_arg0) = m ((c.tc : Thread Cert.OutMlp.nD Cert.OutMlp.τ).loc Cert.OutMlp.main_arg0)
      ∧ r.2.mem ((c.tc : Thread Cert.OutMlp.nD Cert.OutMlp.τ).loc Cert.OutMlp.main_arg1) = m ((c.tc : Thread Cert.OutMlp.nD Cert.OutMlp.τ).loc Cert.OutMlp.main_arg1)
      ∧ r.2.mem ((c.tc : Thread Cert.OutMlp.nD Cert.OutMlp.τ).loc Cert.OutMlp.main_arg2) = m ((c.tc : Thread Cert.OutMlp.nD Cert.OutMlp.τ).loc Cert.OutMlp.main_arg2)
      ∧ r.2.mem ((c.tc : Thread Cert.OutMlp.nD Cert.OutMlp.τ).loc Cert.OutMlp.main_arg3) = m ((c.tc : Thread Cert.OutMlp.nD Cert.OutMlp.τ).loc Cert.OutMlp.main_arg3)
      ∧ r.2.mem ((c.tc : Thread Cert.OutMlp.nD Cert.OutMlp.τ).loc Cert.OutMlp.main_arg4) = m ((c.tc : Thread Cert.OutMlp.nD Cert.OutMlp.τ).loc Cert.OutMlp.main_arg4)
      ∧ r.2.mem ((c.tc : Thread Cert.OutMlp.nD Cert.OutMlp.τ).loc Cert.OutMlp.main_arg5) = m ((c.tc : Thread Cert.OutMlp.nD Cert.OutMlp.τ).loc Cert.OutMlp.main_arg5)
      ∧ r.2.mem ((c.tc : Thread Cert.OutMlp.nD Cert.OutMlp.τ).loc Cert.OutMlp.main_arg6) = m ((c.tc : Thread Cert.OutMlp.nD Cert.OutMlp.τ).loc Cert.OutMlp.main_arg6))
      ∧ r.2.sem = fun _ => 0)

def quiescent_OutMlpIdeal [hOutMlpIdeal : Cert.OutMlpIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg), Pre_OutMlpIdeal m →
    θ_run (Cert.OutMlpIdeal.defs (F := Ideal)) (onTc (τ := Cert.OutMlpIdeal.τ) (Cert.OutMlpIdeal.main (F := Ideal))) ⟨m, fun _ => 0, g⟩ (fun r => (∀ c : Dev Cert.OutMlpIdeal.nD,
      r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
      ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
      ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
      ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
      ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
      ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
      ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6))
      ∧ r.2.sem = fun _ => 0)

def quiescent_OutMlpReferenceIdeal [hOutMlpReferenceIdeal : Cert.OutMlpReferenceIdeal.Facts] : Prop :=
  ∀ (m : (ℓ : Loc Cert.OutMlpReferenceIdeal.nD Cert.OutMlpReferenceIdeal.τ Cert.OutMlpReferenceIdeal.sig) → Buf (Elt Ideal) ℓ) (g : Dev Cert.OutMlpReferenceIdeal.nD → PrngReg), Pre_OutMlpReferenceIdeal m →
    θ_run (Cert.OutMlpReferenceIdeal.defs (F := Ideal)) (onTc (τ := Cert.OutMlpReferenceIdeal.τ) (Cert.OutMlpReferenceIdeal.main (F := Ideal))) ⟨m, fun _ => 0, g⟩ (fun r => (∀ c : Dev Cert.OutMlpReferenceIdeal.nD,
      r.2.mem ((c.tc : Thread Cert.OutMlpReferenceIdeal.nD Cert.OutMlpReferenceIdeal.τ).loc Cert.OutMlpReferenceIdeal.main_arg0) = m ((c.tc : Thread Cert.OutMlpReferenceIdeal.nD Cert.OutMlpReferenceIdeal.τ).loc Cert.OutMlpReferenceIdeal.main_arg0)
      ∧ r.2.mem ((c.tc : Thread Cert.OutMlpReferenceIdeal.nD Cert.OutMlpReferenceIdeal.τ).loc Cert.OutMlpReferenceIdeal.main_arg1) = m ((c.tc : Thread Cert.OutMlpReferenceIdeal.nD Cert.OutMlpReferenceIdeal.τ).loc Cert.OutMlpReferenceIdeal.main_arg1)
      ∧ r.2.mem ((c.tc : Thread Cert.OutMlpReferenceIdeal.nD Cert.OutMlpReferenceIdeal.τ).loc Cert.OutMlpReferenceIdeal.main_arg2) = m ((c.tc : Thread Cert.OutMlpReferenceIdeal.nD Cert.OutMlpReferenceIdeal.τ).loc Cert.OutMlpReferenceIdeal.main_arg2)
      ∧ r.2.mem ((c.tc : Thread Cert.OutMlpReferenceIdeal.nD Cert.OutMlpReferenceIdeal.τ).loc Cert.OutMlpReferenceIdeal.main_arg3) = m ((c.tc : Thread Cert.OutMlpReferenceIdeal.nD Cert.OutMlpReferenceIdeal.τ).loc Cert.OutMlpReferenceIdeal.main_arg3)
      ∧ r.2.mem ((c.tc : Thread Cert.OutMlpReferenceIdeal.nD Cert.OutMlpReferenceIdeal.τ).loc Cert.OutMlpReferenceIdeal.main_arg4) = m ((c.tc : Thread Cert.OutMlpReferenceIdeal.nD Cert.OutMlpReferenceIdeal.τ).loc Cert.OutMlpReferenceIdeal.main_arg4)
      ∧ r.2.mem ((c.tc : Thread Cert.OutMlpReferenceIdeal.nD Cert.OutMlpReferenceIdeal.τ).loc Cert.OutMlpReferenceIdeal.main_arg5) = m ((c.tc : Thread Cert.OutMlpReferenceIdeal.nD Cert.OutMlpReferenceIdeal.τ).loc Cert.OutMlpReferenceIdeal.main_arg5)
      ∧ r.2.mem ((c.tc : Thread Cert.OutMlpReferenceIdeal.nD Cert.OutMlpReferenceIdeal.τ).loc Cert.OutMlpReferenceIdeal.main_arg6) = m ((c.tc : Thread Cert.OutMlpReferenceIdeal.nD Cert.OutMlpReferenceIdeal.τ).loc Cert.OutMlpReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7))
      ∧ r.2.sem = fun _ => 0)

def preserves_Ssd_SsdIdeal : Prop :=
  IdealRules.named_const.Statement Cert.SsdIdeal.κ "log2_e" .f32 0x3FB8AA3B#32 (((Real.log 2)⁻¹ : ℝ) : EReal)
  ∧ IdealRules.named_const.Statement Cert.SsdIdeal.κ "mask" .f32 0xF149F2CA#32 ⊥

def algebraic_SsdIdeal_SsdReferenceIdeal_pre_dt_nonneg [hSsdIdeal : Cert.SsdIdeal.Facts] [hSsdReferenceIdeal : Cert.SsdReferenceIdeal.Facts] [hPre_dt_nonneg : Cert.Pre_dt_nonneg.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdIdeal_dt_nonneg m →
    (∀ c : Dev Cert.SsdIdeal.nD,
      m' ((c.tc : Thread Cert.SsdReferenceIdeal.nD Cert.SsdReferenceIdeal.τ).loc Cert.SsdReferenceIdeal.main_arg0) = m ((c.tc : Thread Cert.SsdIdeal.nD Cert.SsdIdeal.τ).loc Cert.SsdIdeal.main_arg0)
      ∧ m' ((c.tc : Thread Cert.SsdReferenceIdeal.nD Cert.SsdReferenceIdeal.τ).loc Cert.SsdReferenceIdeal.main_arg1) = m ((c.tc : Thread Cert.SsdIdeal.nD Cert.SsdIdeal.τ).loc Cert.SsdIdeal.main_arg1)
      ∧ m' ((c.tc : Thread Cert.SsdReferenceIdeal.nD Cert.SsdReferenceIdeal.τ).loc Cert.SsdReferenceIdeal.main_arg2) = m ((c.tc : Thread Cert.SsdIdeal.nD Cert.SsdIdeal.τ).loc Cert.SsdIdeal.main_arg2)
      ∧ m' ((c.tc : Thread Cert.SsdReferenceIdeal.nD Cert.SsdReferenceIdeal.τ).loc Cert.SsdReferenceIdeal.main_arg3) = m ((c.tc : Thread Cert.SsdIdeal.nD Cert.SsdIdeal.τ).loc Cert.SsdIdeal.main_arg3)
      ∧ m' ((c.tc : Thread Cert.SsdReferenceIdeal.nD Cert.SsdReferenceIdeal.τ).loc Cert.SsdReferenceIdeal.main_arg4) = m ((c.tc : Thread Cert.SsdIdeal.nD Cert.SsdIdeal.τ).loc Cert.SsdIdeal.main_arg4)
      ∧ m' ((c.tc : Thread Cert.SsdReferenceIdeal.nD Cert.SsdReferenceIdeal.τ).loc Cert.SsdReferenceIdeal.main_arg5) = m ((c.tc : Thread Cert.SsdIdeal.nD Cert.SsdIdeal.τ).loc Cert.SsdIdeal.main_arg5)) →
    ∃ (v0 : (c : Dev Cert.SsdIdeal.nD) → Buf (Elt Ideal) ((c.tc : Thread Cert.SsdIdeal.nD Cert.SsdIdeal.τ).loc Cert.SsdIdeal.main_v11)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v11) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v225) = v0 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4)
          ∧ r.2.mem ((c.tc : Thread Cert.SsdReferenceIdeal.nD Cert.SsdReferenceIdeal.τ).loc Cert.SsdReferenceIdeal.main_arg5) = m' ((c.tc : Thread Cert.SsdReferenceIdeal.nD Cert.SsdReferenceIdeal.τ).loc Cert.SsdReferenceIdeal.main_arg5))

def preserves_OutMlp_OutMlpIdeal : Prop :=
  True

def algebraic_OutMlpIdeal_OutMlpReferenceIdeal [hOutMlpIdeal : Cert.OutMlpIdeal.Facts] [hOutMlpReferenceIdeal : Cert.OutMlpReferenceIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg)
    (m' : (ℓ : Loc Cert.OutMlpReferenceIdeal.nD Cert.OutMlpReferenceIdeal.τ Cert.OutMlpReferenceIdeal.sig) → Buf (Elt Ideal) ℓ) (g' : Dev Cert.OutMlpReferenceIdeal.nD → PrngReg), Pre_OutMlpIdeal m →
    (∀ c : Dev Cert.OutMlpIdeal.nD,
      m' ((c.tc : Thread Cert.OutMlpReferenceIdeal.nD Cert.OutMlpReferenceIdeal.τ).loc Cert.OutMlpReferenceIdeal.main_arg0) = m ((c.tc : Thread Cert.OutMlpIdeal.nD Cert.OutMlpIdeal.τ).loc Cert.OutMlpIdeal.main_arg0)
      ∧ m' ((c.tc : Thread Cert.OutMlpReferenceIdeal.nD Cert.OutMlpReferenceIdeal.τ).loc Cert.OutMlpReferenceIdeal.main_arg1) = m ((c.tc : Thread Cert.OutMlpIdeal.nD Cert.OutMlpIdeal.τ).loc Cert.OutMlpIdeal.main_arg1)
      ∧ m' ((c.tc : Thread Cert.OutMlpReferenceIdeal.nD Cert.OutMlpReferenceIdeal.τ).loc Cert.OutMlpReferenceIdeal.main_arg2) = m ((c.tc : Thread Cert.OutMlpIdeal.nD Cert.OutMlpIdeal.τ).loc Cert.OutMlpIdeal.main_arg2)
      ∧ m' ((c.tc : Thread Cert.OutMlpReferenceIdeal.nD Cert.OutMlpReferenceIdeal.τ).loc Cert.OutMlpReferenceIdeal.main_arg3) = m ((c.tc : Thread Cert.OutMlpIdeal.nD Cert.OutMlpIdeal.τ).loc Cert.OutMlpIdeal.main_arg3)
      ∧ m' ((c.tc : Thread Cert.OutMlpReferenceIdeal.nD Cert.OutMlpReferenceIdeal.τ).loc Cert.OutMlpReferenceIdeal.main_arg4) = m ((c.tc : Thread Cert.OutMlpIdeal.nD Cert.OutMlpIdeal.τ).loc Cert.OutMlpIdeal.main_arg4)
      ∧ m' ((c.tc : Thread Cert.OutMlpReferenceIdeal.nD Cert.OutMlpReferenceIdeal.τ).loc Cert.OutMlpReferenceIdeal.main_arg5) = m ((c.tc : Thread Cert.OutMlpIdeal.nD Cert.OutMlpIdeal.τ).loc Cert.OutMlpIdeal.main_arg5)
      ∧ m' ((c.tc : Thread Cert.OutMlpReferenceIdeal.nD Cert.OutMlpReferenceIdeal.τ).loc Cert.OutMlpReferenceIdeal.main_arg6) = m ((c.tc : Thread Cert.OutMlpIdeal.nD Cert.OutMlpIdeal.τ).loc Cert.OutMlpIdeal.main_arg6)) →
    ∃ (v0 : (c : Dev Cert.OutMlpIdeal.nD) → Buf (Elt Ideal) ((c.tc : Thread Cert.OutMlpIdeal.nD Cert.OutMlpIdeal.τ).loc Cert.OutMlpIdeal.main_v7)),
      θ_run (Cert.OutMlpIdeal.defs (F := Ideal)) (onTc (τ := Cert.OutMlpIdeal.τ) (Cert.OutMlpIdeal.main (F := Ideal))) ⟨m, fun _ => 0, g⟩ (fun r => ∀ c : Dev Cert.OutMlpIdeal.nD,
          r.2.mem ((c.tc : Thread Cert.OutMlpIdeal.nD Cert.OutMlpIdeal.τ).loc Cert.OutMlpIdeal.main_v7) = v0 c
          ∧ r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
          ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
          ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
          ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
          ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
          ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
          ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6))
      ∧ θ_run (Cert.OutMlpReferenceIdeal.defs (F := Ideal)) (onTc (τ := Cert.OutMlpReferenceIdeal.τ) (Cert.OutMlpReferenceIdeal.main (F := Ideal))) ⟨m', fun _ => 0, g'⟩ (fun r => ∀ c : Dev Cert.OutMlpReferenceIdeal.nD,
          r.2.mem ((c.tc : Thread Cert.OutMlpReferenceIdeal.nD Cert.OutMlpReferenceIdeal.τ).loc Cert.OutMlpReferenceIdeal.main_v22) = v0 c
          ∧ r.2.mem ((c.tc : Thread Cert.OutMlpReferenceIdeal.nD Cert.OutMlpReferenceIdeal.τ).loc Cert.OutMlpReferenceIdeal.main_arg0) = m' ((c.tc : Thread Cert.OutMlpReferenceIdeal.nD Cert.OutMlpReferenceIdeal.τ).loc Cert.OutMlpReferenceIdeal.main_arg0)
          ∧ r.2.mem ((c.tc : Thread Cert.OutMlpReferenceIdeal.nD Cert.OutMlpReferenceIdeal.τ).loc Cert.OutMlpReferenceIdeal.main_arg1) = m' ((c.tc : Thread Cert.OutMlpReferenceIdeal.nD Cert.OutMlpReferenceIdeal.τ).loc Cert.OutMlpReferenceIdeal.main_arg1)
          ∧ r.2.mem ((c.tc : Thread Cert.OutMlpReferenceIdeal.nD Cert.OutMlpReferenceIdeal.τ).loc Cert.OutMlpReferenceIdeal.main_arg2) = m' ((c.tc : Thread Cert.OutMlpReferenceIdeal.nD Cert.OutMlpReferenceIdeal.τ).loc Cert.OutMlpReferenceIdeal.main_arg2)
          ∧ r.2.mem ((c.tc : Thread Cert.OutMlpReferenceIdeal.nD Cert.OutMlpReferenceIdeal.τ).loc Cert.OutMlpReferenceIdeal.main_arg3) = m' ((c.tc : Thread Cert.OutMlpReferenceIdeal.nD Cert.OutMlpReferenceIdeal.τ).loc Cert.OutMlpReferenceIdeal.main_arg3)
          ∧ r.2.mem ((c.tc : Thread Cert.OutMlpReferenceIdeal.nD Cert.OutMlpReferenceIdeal.τ).loc Cert.OutMlpReferenceIdeal.main_arg4) = m' ((c.tc : Thread Cert.OutMlpReferenceIdeal.nD Cert.OutMlpReferenceIdeal.τ).loc Cert.OutMlpReferenceIdeal.main_arg4)
          ∧ r.2.mem ((c.tc : Thread Cert.OutMlpReferenceIdeal.nD Cert.OutMlpReferenceIdeal.τ).loc Cert.OutMlpReferenceIdeal.main_arg5) = m' ((c.tc : Thread Cert.OutMlpReferenceIdeal.nD Cert.OutMlpReferenceIdeal.τ).loc Cert.OutMlpReferenceIdeal.main_arg5)
          ∧ r.2.mem ((c.tc : Thread Cert.OutMlpReferenceIdeal.nD Cert.OutMlpReferenceIdeal.τ).loc Cert.OutMlpReferenceIdeal.main_arg6) = m' ((c.tc : Thread Cert.OutMlpReferenceIdeal.nD Cert.OutMlpReferenceIdeal.τ).loc Cert.OutMlpReferenceIdeal.main_arg6))

def preserves_InProj_InProjIdeal : Prop :=
  True

def Claim : Prop :=
  ∃ (hSsd : Cert.Ssd.Facts) (hSsdIdeal : Cert.SsdIdeal.Facts) (hSsdReferenceIdeal : Cert.SsdReferenceIdeal.Facts) (hOutMlp : Cert.OutMlp.Facts) (hOutMlpIdeal : Cert.OutMlpIdeal.Facts) (hOutMlpReferenceIdeal : Cert.OutMlpReferenceIdeal.Facts) (hInProj : Cert.InProj.Facts) (hInProjIdeal : Cert.InProjIdeal.Facts) (hInProjReferenceIdeal : Cert.InProjReferenceIdeal.Facts) (hPre_dt_nonneg : Cert.Pre_dt_nonneg.Facts),
    quiescent_Ssd (hSsd := hSsd)
    ∧ quiescent_SsdIdeal (hSsdIdeal := hSsdIdeal)
    ∧ quiescent_SsdIdeal_pre_dt_nonneg (hSsdIdeal := hSsdIdeal) (hPre_dt_nonneg := hPre_dt_nonneg)
    ∧ quiescent_SsdReferenceIdeal (hSsdReferenceIdeal := hSsdReferenceIdeal)
    ∧ quiescent_SsdReferenceIdeal_pre_dt_nonneg (hSsdReferenceIdeal := hSsdReferenceIdeal) (hPre_dt_nonneg := hPre_dt_nonneg)
    ∧ quiescent_OutMlp (hOutMlp := hOutMlp)
    ∧ quiescent_OutMlpIdeal (hOutMlpIdeal := hOutMlpIdeal)
    ∧ quiescent_OutMlpReferenceIdeal (hOutMlpReferenceIdeal := hOutMlpReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Ssd_SsdIdeal
    ∧ algebraic_SsdIdeal_SsdReferenceIdeal_pre_dt_nonneg (hSsdIdeal := hSsdIdeal) (hSsdReferenceIdeal := hSsdReferenceIdeal) (hPre_dt_nonneg := hPre_dt_nonneg)
    ∧ preserves_OutMlp_OutMlpIdeal
    ∧ algebraic_OutMlpIdeal_OutMlpReferenceIdeal (hOutMlpIdeal := hOutMlpIdeal) (hOutMlpReferenceIdeal := hOutMlpReferenceIdeal)
    ∧ preserves_InProj_InProjIdeal
-- ==== Pre_dt_nonneg.lean ====
abbrev S8x2048x1024 : Shape := ⟨3, ![8, 2048, 1024]⟩
abbrev S8x2048x512 : Shape := ⟨3, ![8, 2048, 512]⟩
abbrev S8x2048x8 : Shape := ⟨3, ![8, 2048, 8]⟩
abbrev S8 : Shape := ⟨1, ![8]⟩
abbrev S512 : Shape := ⟨1, ![512]⟩
abbrev S_ : Shape := ⟨0, ![]⟩

class Facts : Prop where
  bcast_S_S8x2048x8 : S_.BroadcastsInDim S8x2048x8 (![] : Fin 0 → Fin S8x2048x8.rank)

variable [Facts]

def fn {F : FTy → Type} [FloatOps F] (main_arg0 : FVec F S8x2048x1024 .f32) (main_arg1 : FVec F S8x2048x512 .f32) (main_arg2 : FVec F S8x2048x8 .f32) (main_arg3 : FVec F S8 .f32) (main_arg4 : FVec F S8 .f32) (main_arg5 : FVec F S512 .f32) : IVec S8x2048x8 1 :=
  let main_cst : FVec F S_ .f32 := constant S_ .f32 0x00000000#32
  let main_v0 : FVec F S8x2048x8 .f32 := broadcastInDim S8x2048x8 ![] bcast_S_S8x2048x8 main_cst
  let main_v1 : IVec S8x2048x8 1 := cmpf .oge main_arg2 main_v0
  main_v1
-- ==== Ssd.lean ====
abbrev S8x2048x1024 : Shape := ⟨3, ![8, 2048, 1024]⟩
abbrev S8x2048x512 : Shape := ⟨3, ![8, 2048, 512]⟩
abbrev S8x2048x8 : Shape := ⟨3, ![8, 2048, 8]⟩
abbrev S8 : Shape := ⟨1, ![8]⟩
abbrev S512 : Shape := ⟨1, ![512]⟩
abbrev S_ : Shape := ⟨0, ![]⟩
abbrev S8x2048x128 : Shape := ⟨3, ![8, 2048, 128]⟩
abbrev S8x8x2048 : Shape := ⟨3, ![8, 8, 2048]⟩
abbrev S8x16x2048 : Shape := ⟨3, ![8, 16, 2048]⟩
abbrev S1x8 : Shape := ⟨2, ![1, 8]⟩
abbrev S1x128 : Shape := ⟨2, ![1, 128]⟩
abbrev S8x1 : Shape := ⟨2, ![8, 1]⟩
abbrev S16x1 : Shape := ⟨2, ![16, 1]⟩
abbrev S8x64 : Shape := ⟨2, ![8, 64]⟩
abbrev S1x512 : Shape := ⟨2, ![1, 512]⟩
abbrev S1x2048x1024 : Shape := ⟨3, ![1, 2048, 1024]⟩
abbrev S1x2048x512 : Shape := ⟨3, ![1, 2048, 512]⟩
abbrev S1x2048x128 : Shape := ⟨3, ![1, 2048, 128]⟩
abbrev S1x16x2048 : Shape := ⟨3, ![1, 16, 2048]⟩
abbrev S4x128x128 : Shape := ⟨3, ![4, 128, 128]⟩
abbrev S128x128 : Shape := ⟨2, ![128, 128]⟩
abbrev S128x512 : Shape := ⟨2, ![128, 512]⟩
abbrev S1x128x128 : Shape := ⟨3, ![1, 128, 128]⟩
abbrev S1x128x1024 : Shape := ⟨3, ![1, 128, 1024]⟩
abbrev S128x1024 : Shape := ⟨2, ![128, 1024]⟩
abbrev S128x256 : Shape := ⟨2, ![128, 256]⟩
abbrev S1x16x128 : Shape := ⟨3, ![1, 16, 128]⟩
abbrev S16x128 : Shape := ⟨2, ![16, 128]⟩
abbrev S256x128 : Shape := ⟨2, ![256, 128]⟩
abbrev S128x1 : Shape := ⟨2, ![128, 1]⟩
abbrev S1x1 : Shape := ⟨2, ![1, 1]⟩
abbrev S1x128x512 : Shape := ⟨3, ![1, 128, 512]⟩
abbrev S128 : Shape := ⟨1, ![128]⟩

abbrev nBuf : Space → Nat
  | .hbm => 26
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x8, .f32⟩
  | .hbm, ⟨3, _⟩ => ⟨S8, .f32⟩
  | .hbm, ⟨4, _⟩ => ⟨S8, .f32⟩
  | .hbm, ⟨5, _⟩ => ⟨S512, .f32⟩
  | .hbm, ⟨6, _⟩ => ⟨S_, .i32⟩
  | .hbm, ⟨7, _⟩ => ⟨S_, .f32⟩
  | .hbm, ⟨8, _⟩ => ⟨S8x2048x128, .f32⟩
  | .hbm, ⟨9, _⟩ => ⟨S8x8x2048, .f32⟩
  | .hbm, ⟨10, _⟩ => ⟨S_, .i32⟩
  | .hbm, ⟨11, _⟩ => ⟨S_, .f32⟩
  | .hbm, ⟨12, _⟩ => ⟨S8x16x2048, .f32⟩
  | .hbm, ⟨13, _⟩ => ⟨S1x8, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S8x1, .f32⟩
  | .hbm, ⟨18, _⟩ => ⟨S_, .i32⟩
  | .hbm, ⟨19, _⟩ => ⟨S_, .f32⟩
  | .hbm, ⟨20, _⟩ => ⟨S16x1, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S1x512, .f32⟩
  | .hbm, ⟨25, _⟩ => ⟨S8x2048x512, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x128, .f32⟩
  | .local _ .vmem, ⟨5, _⟩ => ⟨S1x2048x128, .f32⟩
  | .local _ .vmem, ⟨6, _⟩ => ⟨S1x16x2048, .f32⟩
  | .local _ .vmem, ⟨7, _⟩ => ⟨S1x16x2048, .f32⟩
  | .local _ .vmem, ⟨8, _⟩ => ⟨S1x128, .f32⟩
  | .local _ .vmem, ⟨9, _⟩ => ⟨S16x1, .f32⟩
  | .local _ .vmem, ⟨10, _⟩ => ⟨S1x512, .f32⟩
  | .local _ .vmem, ⟨11, _⟩ => ⟨S1x512, .f32⟩
  | .local _ .vmem, ⟨12, _⟩ => ⟨S1x2048x512, .bf16⟩
  | .local _ .vmem, ⟨13, _⟩ => ⟨S1x2048x512, .bf16⟩
  | .local _ .vmem, ⟨14, _⟩ => ⟨S4x128x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_call3_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SsdIdeal.lean ====
variable {F : FTy → Type} [FloatOps F] [Named F]
def κ : String → Option EReal := fun
  | "log2_e" => some (((Real.log 2)⁻¹ : ℝ) : EReal)
  | "mask" => some ⊥
  | _ => none
-- ==== SsdReferenceIdeal.lean ====
abbrev S8x2048x1024 : Shape := ⟨3, ![8, 2048, 1024]⟩
abbrev S8x2048x512 : Shape := ⟨3, ![8, 2048, 512]⟩
abbrev S8x2048x8 : Shape := ⟨3, ![8, 2048, 8]⟩
abbrev S8 : Shape := ⟨1, ![8]⟩
abbrev S512 : Shape := ⟨1, ![512]⟩
abbrev S8x2048x256 : Shape := ⟨3, ![8, 2048, 256]⟩
abbrev S8x2048x8x64 : Shape := ⟨4, ![8, 2048, 8, 64]⟩
abbrev S8x2048x2x128 : Shape := ⟨4, ![8, 2048, 2, 128]⟩
abbrev S8x2048x8x1 : Shape := ⟨4, ![8, 2048, 8, 1]⟩
abbrev S8x16x128x8x64 : Shape := ⟨5, ![8, 16, 128, 8, 64]⟩
abbrev S1x1x8 : Shape := ⟨3, ![1, 1, 8]⟩
abbrev S8x16x128x8 : Shape := ⟨4, ![8, 16, 128, 8]⟩
abbrev S8x16x128x2x128 : Shape := ⟨5, ![8, 16, 128, 2, 128]⟩
abbrev S8x16x128x2x4x128 : Shape := ⟨6, ![8, 16, 128, 2, 4, 128]⟩
abbrev S8x16x128x8x128 : Shape := ⟨5, ![8, 16, 128, 8, 128]⟩
abbrev S_ : Shape := ⟨0, ![]⟩
abbrev S8x16x8x128 : Shape := ⟨4, ![8, 16, 8, 128]⟩
abbrev S128x128 : Shape := ⟨2, ![128, 128]⟩
abbrev S8x16x8x128x1 : Shape := ⟨5, ![8, 16, 8, 128, 1]⟩
abbrev S8x16x8x1x128 : Shape := ⟨5, ![8, 16, 8, 1, 128]⟩
abbrev S8x16x8x128x128 : Shape := ⟨5, ![8, 16, 8, 128, 128]⟩
abbrev S8x16x8x64x128 : Shape := ⟨5, ![8, 16, 8, 64, 128]⟩
abbrev S8x16x1x8 : Shape := ⟨4, ![8, 16, 1, 8]⟩
abbrev S8x16x128x8x1 : Shape := ⟨5, ![8, 16, 128, 8, 1]⟩
abbrev S8x16x8 : Shape := ⟨3, ![8, 16, 8]⟩
abbrev S8x8x64x128 : Shape := ⟨4, ![8, 8, 64, 128]⟩
abbrev S8x1x8 : Shape := ⟨3, ![8, 1, 8]⟩
abbrev S8x8 : Shape := ⟨2, ![8, 8]⟩
abbrev S8x8x1x1 : Shape := ⟨4, ![8, 8, 1, 1]⟩
abbrev S8x1x8x64x128 : Shape := ⟨5, ![8, 1, 8, 64, 128]⟩
abbrev S8x1 : Shape := ⟨2, ![8, 1]⟩
abbrev S1x1x8x1 : Shape := ⟨4, ![1, 1, 8, 1]⟩
abbrev S8x2048x2x256 : Shape := ⟨4, ![8, 2048, 2, 256]⟩
abbrev S2x256 : Shape := ⟨2, ![2, 256]⟩
abbrev S8x2048x2 : Shape := ⟨3, ![8, 2048, 2]⟩
abbrev S8x2048x2x1 : Shape := ⟨4, ![8, 2048, 2, 1]⟩
abbrev S1x1x2x256 : Shape := ⟨4, ![1, 1, 2, 256]⟩

abbrev nBuf : Space → Nat
  | .hbm => 251
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x8, .f32⟩
  | 3 => ⟨S8, .f32⟩
  | 4 => ⟨S8, .f32⟩
  | 5 => ⟨S512, .f32⟩
  | 6 => ⟨S8x2048x512, .f32⟩
  | 7 => ⟨S8x2048x256, .f32⟩
  | 8 => ⟨S8x2048x256, .f32⟩
  | 9 => ⟨S8x2048x8x64, .f32⟩
  | 10 => ⟨S8x2048x2x128, .f32⟩
  | 11 => ⟨S8x2048x2x128, .f32⟩
  | 12 => ⟨S8, .f32⟩
  | 13 => ⟨S8, .f32⟩
  | 14 => ⟨S8x2048x8x1, .f32⟩
  | 15 => ⟨S8x2048x8x64, .f32⟩
  | 16 => ⟨S8x2048x8x64, .f32⟩
  | 17 => ⟨S8x16x128x8x64, .f32⟩
  | 18 => ⟨S1x1x8, .f32⟩
  | 19 => ⟨S8x2048x8, .f32⟩
  | 20 => ⟨S8x2048x8, .f32⟩
  | 21 => ⟨S8x16x128x8, .f32⟩
  | 22 => ⟨S8x16x128x2x128, .f32⟩
  | 23 => ⟨S8x16x128x2x4x128, .f32⟩
  | 24 => ⟨S8x16x128x8x128, .f32⟩
  | 25 => ⟨S8x16x128x2x128, .f32⟩
  | 26 => ⟨S8x16x128x2x4x128, .f32⟩
  | 27 => ⟨S8x16x128x8x128, .f32⟩
  | 28 => ⟨S_, .f32⟩
  | 29 => ⟨S_, .f32⟩
  | 30 => ⟨S8x16x128x8, .f32⟩
  | 31 => ⟨S8x16x8x128, .f32⟩
  | 32 => ⟨S_, .i1⟩
  | 33 => ⟨S128x128, .i1⟩
  | 34 => ⟨S128x128, .i32⟩
  | 35 => ⟨S_, .i32⟩
  | 36 => ⟨S128x128, .i32⟩
  | 37 => ⟨S128x128, .i32⟩
  | 38 => ⟨S128x128, .i32⟩
  | 39 => ⟨S128x128, .i1⟩
  | 40 => ⟨S_, .i1⟩
  | 41 => ⟨S128x128, .i1⟩
  | 42 => ⟨S128x128, .i1⟩
  | 43 => ⟨S8x16x8x128x1, .f32⟩
  | 44 => ⟨S8x16x8x1x128, .f32⟩
  | 45 => ⟨S8x16x8x128x128, .f32⟩
  | 46 => ⟨S8x16x8x128x128, .f32⟩
  | 47 => ⟨S8x16x8x128x128, .f32⟩
  | 48 => ⟨S_, .f32⟩
  | 49 => ⟨S_, .f32⟩
  | 50 => ⟨S8x16x8x128x128, .i1⟩
  | 51 => ⟨S8x16x8x128x128, .f32⟩
  | 52 => ⟨S8x16x8x128x128, .f32⟩
  | 53 => ⟨S8x16x8x128x128, .f32⟩
  | 54 => ⟨S8x16x8x128x128, .f32⟩
  | 55 => ⟨S8x16x8x128x128, .f32⟩
  | 56 => ⟨S8x16x8x64x128, .f32⟩
  | 57 => ⟨S8x16x128x8x64, .f32⟩
  | 58 => ⟨S8x16x1x8, .f32⟩
  | 59 => ⟨S8x16x128x8, .f32⟩
  | 60 => ⟨S8x16x128x8, .f32⟩
  | 61 => ⟨S8x16x128x8, .f32⟩
  | 62 => ⟨S8x16x128x8x1, .f32⟩
  | 63 => ⟨S8x16x128x8x64, .f32⟩
  | 64 => ⟨S8x16x128x8x64, .f32⟩
  | 65 => ⟨S8x16x8x64x128, .f32⟩
  | 66 => ⟨S8x16x1x8, .f32⟩
  | 67 => ⟨S8x16x8, .f32⟩
  | 68 => ⟨S8x16x8, .f32⟩
  | 69 => ⟨S_, .f32⟩
  | 70 => ⟨S8x8x64x128, .f32⟩
  | 71 => ⟨S8x1x8, .f32⟩
  | 72 => ⟨S8x8, .f32⟩
  | 73 => ⟨S8x8x1x1, .f32⟩
  | 74 => ⟨S8x8x64x128, .f32⟩
  | 75 => ⟨S8x8x64x128, .f32⟩
  | 76 => ⟨S8x1x8x64x128, .f32⟩
  | 77 => ⟨S8x8x64x128, .f32⟩
  | 78 => ⟨S8x8x64x128, .f32⟩
  | 79 => ⟨S8x1x8, .f32⟩
  | 80 => ⟨S8x8, .f32⟩
  | 81 => ⟨S8x8x1x1, .f32⟩
  | 82 => ⟨S8x8x64x128, .f32⟩
  | 83 => ⟨S8x8x64x128, .f32⟩
  | 84 => ⟨S8x1x8x64x128, .f32⟩
  | 85 => ⟨S8x8x64x128, .f32⟩
  | 86 => ⟨S8x8x64x128, .f32⟩
  | 87 => ⟨S8x1x8, .f32⟩
  | 88 => ⟨S8x8, .f32⟩
  | 89 => ⟨S8x8x1x1, .f32⟩
  | 90 => ⟨S8x8x64x128, .f32⟩
  | 91 => ⟨S8x8x64x128, .f32⟩
  | 92 => ⟨S8x1x8x64x128, .f32⟩
  | 93 => ⟨S8x8x64x128, .f32⟩
  | 94 => ⟨S8x8x64x128, .f32⟩
  | 95 => ⟨S8x1x8, .f32⟩
  | 96 => ⟨S8x8, .f32⟩
  | 97 => ⟨S8x8x1x1, .f32⟩
  | 98 => ⟨S8x8x64x128, .f32⟩
  | 99 => ⟨S8x8x64x128, .f32⟩
  | 100 => ⟨S8x1x8x64x128, .f32⟩
  | 101 => ⟨S8x8x64x128, .f32⟩
  | 102 => ⟨S8x8x64x128, .f32⟩
  | 103 => ⟨S8x1x8, .f32⟩
  | 104 => ⟨S8x8, .f32⟩
  | 105 => ⟨S8x8x1x1, .f32⟩
  | 106 => ⟨S8x8x64x128, .f32⟩
  | 107 => ⟨S8x8x64x128, .f32⟩
  | 108 => ⟨S8x1x8x64x128, .f32⟩
  | 109 => ⟨S8x8x64x128, .f32⟩
  | 110 => ⟨S8x8x64x128, .f32⟩
  | 111 => ⟨S8x1x8, .f32⟩
  | 112 => ⟨S8x8, .f32⟩
  | 113 => ⟨S8x8x1x1, .f32⟩
  | 114 => ⟨S8x8x64x128, .f32⟩
  | 115 => ⟨S8x8x64x128, .f32⟩
  | 116 => ⟨S8x1x8x64x128, .f32⟩
  | 117 => ⟨S8x8x64x128, .f32⟩
  | 118 => ⟨S8x8x64x128, .f32⟩
  | 119 => ⟨S8x1x8, .f32⟩
  | 120 => ⟨S8x8, .f32⟩
  | 121 => ⟨S8x8x1x1, .f32⟩
  | 122 => ⟨S8x8x64x128, .f32⟩
  | 123 => ⟨S8x8x64x128, .f32⟩
  | 124 => ⟨S8x1x8x64x128, .f32⟩
  | 125 => ⟨S8x8x64x128, .f32⟩
  | 126 => ⟨S8x8x64x128, .f32⟩
  | 127 => ⟨S8x1x8, .f32⟩
  | _ => ⟨S8x2048x1024, .f32⟩

abbrev hbmTy0_1 (i : Nat) : BufTy := match i % 128 with
  | 0 => ⟨S8x8, .f32⟩
  | 1 => ⟨S8x8x1x1, .f32⟩
  | 2 => ⟨S8x8x64x128, .f32⟩
  | 3 => ⟨S8x8x64x128, .f32⟩
  | 4 => ⟨S8x1x8x64x128, .f32⟩
  | 5 => ⟨S8x8x64x128, .f32⟩
  | 6 => ⟨S8x8x64x128, .f32⟩
  | 7 => ⟨S8x1x8, .f32⟩
  | 8 => ⟨S8x8, .f32⟩
  | 9 => ⟨S8x8x1x1, .f32⟩
  | 10 => ⟨S8x8x64x128, .f32⟩
  | 11 => ⟨S8x8x64x128, .f32⟩
  | 12 => ⟨S8x1x8x64x128, .f32⟩
  | 13 => ⟨S8x8x64x128, .f32⟩
  | 14 => ⟨S8x8x64x128, .f32⟩
  | 15 => ⟨S8x1x8, .f32⟩
  | 16 => ⟨S8x8, .f32⟩
  | 17 => ⟨S8x8x1x1, .f32⟩
  | 18 => ⟨S8x8x64x128, .f32⟩
  | 19 => ⟨S8x8x64x128, .f32⟩
  | 20 => ⟨S8x1x8x64x128, .f32⟩
  | 21 => ⟨S8x8x64x128, .f32⟩
  | 22 => ⟨S8x8x64x128, .f32⟩
  | 23 => ⟨S8x1x8, .f32⟩
  | 24 => ⟨S8x8, .f32⟩
  | 25 => ⟨S8x8x1x1, .f32⟩
  | 26 => ⟨S8x8x64x128, .f32⟩
  | 27 => ⟨S8x8x64x128, .f32⟩
  | 28 => ⟨S8x1x8x64x128, .f32⟩
  | 29 => ⟨S8x8x64x128, .f32⟩
  | 30 => ⟨S8x8x64x128, .f32⟩
  | 31 => ⟨S8x1x8, .f32⟩
  | 32 => ⟨S8x8, .f32⟩
  | 33 => ⟨S8x8x1x1, .f32⟩
  | 34 => ⟨S8x8x64x128, .f32⟩
  | 35 => ⟨S8x8x64x128, .f32⟩
  | 36 => ⟨S8x1x8x64x128, .f32⟩
  | 37 => ⟨S8x8x64x128, .f32⟩
  | 38 => ⟨S8x8x64x128, .f32⟩
  | 39 => ⟨S8x1x8, .f32⟩
  | 40 => ⟨S8x8, .f32⟩
  | 41 => ⟨S8x8x1x1, .f32⟩
  | 42 => ⟨S8x8x64x128, .f32⟩
  | 43 => ⟨S8x8x64x128, .f32⟩
  | 44 => ⟨S8x1x8x64x128, .f32⟩
  | 45 => ⟨S8x8x64x128, .f32⟩
  | 46 => ⟨S8x8x64x128, .f32⟩
  | 47 => ⟨S8x1x8, .f32⟩
  | 48 => ⟨S8x8, .f32⟩
  | 49 => ⟨S8x8x1x1, .f32⟩
  | 50 => ⟨S8x8x64x128, .f32⟩
  | 51 => ⟨S8x8x64x128, .f32⟩
  | 52 => ⟨S8x1x8x64x128, .f32⟩
  | 53 => ⟨S8x8x64x128, .f32⟩
  | 54 => ⟨S8x8x64x128, .f32⟩
  | 55 => ⟨S8x1x8, .f32⟩
  | 56 => ⟨S8x8, .f32⟩
  | 57 => ⟨S8x8x1x1, .f32⟩
  | 58 => ⟨S8x8x64x128, .f32⟩
  | 59 => ⟨S8x8x64x128, .f32⟩
  | 60 => ⟨S8x1x8x64x128, .f32⟩
  | 61 => ⟨S8x8x64x128, .f32⟩
  | 62 => ⟨S8x8x64x128, .f32⟩
  | 63 => ⟨S8x1x8, .f32⟩
  | 64 => ⟨S8x8, .f32⟩
  | 65 => ⟨S8x8x1x1, .f32⟩
  | 66 => ⟨S8x8x64x128, .f32⟩
  | 67 => ⟨S8x8x64x128, .f32⟩
  | 68 => ⟨S8x1x8x64x128, .f32⟩
  | 69 => ⟨S8x8x64x128, .f32⟩
  | 70 => ⟨S8x8x64x128, .f32⟩
  | 71 => ⟨S8x1x8x64x128, .f32⟩
  | 72 => ⟨S8x1x8x64x128, .f32⟩
  | 73 => ⟨S8x1x8x64x128, .f32⟩
  | 74 => ⟨S8x1x8x64x128, .f32⟩
  | 75 => ⟨S8x1x8x64x128, .f32⟩
  | 76 => ⟨S8x1x8x64x128, .f32⟩
  | 77 => ⟨S8x1x8x64x128, .f32⟩
  | 78 => ⟨S8x1x8x64x128, .f32⟩
  | 79 => ⟨S8x1x8x64x128, .f32⟩
  | 80 => ⟨S8x1x8x64x128, .f32⟩
  | 81 => ⟨S8x1x8x64x128, .f32⟩
  | 82 => ⟨S8x1x8x64x128, .f32⟩
  | 83 => ⟨S8x1x8x64x128, .f32⟩
  | 84 => ⟨S8x1x8x64x128, .f32⟩
  | 85 => ⟨S8x1x8x64x128, .f32⟩
  | 86 => ⟨S8x1x8x64x128, .f32⟩
  | 87 => ⟨S8x16x8x64x128, .f32⟩
  | 88 => ⟨S8x16x8x64x128, .f32⟩
  | 89 => ⟨S8x16x128x8x64, .f32⟩
  | 90 => ⟨S8x16x128x8, .f32⟩
  | 91 => ⟨S8x16x128x8x1, .f32⟩
  | 92 => ⟨S8x16x128x8x64, .f32⟩
  | 93 => ⟨S8x16x128x8x64, .f32⟩
  | 94 => ⟨S8x16x128x8x64, .f32⟩
  | 95 => ⟨S8x2048x8x64, .f32⟩
  | 96 => ⟨S8x1, .f32⟩
  | 97 => ⟨S1x1x8x1, .f32⟩
  | 98 => ⟨S8x2048x8x64, .f32⟩
  | 99 => ⟨S8x2048x8x64, .f32⟩
  | 100 => ⟨S8x2048x8x64, .f32⟩
  | 101 => ⟨S8x2048x512, .f32⟩
  | 102 => ⟨S8x2048x512, .f32⟩
  | 103 => ⟨S8x2048x2x256, .f32⟩
  | 104 => ⟨S2x256, .f32⟩
  | 105 => ⟨S8x2048x2x256, .f32⟩
  | 106 => ⟨S_, .f32⟩
  | 107 => ⟨S8x2048x2, .f32⟩
  | 108 => ⟨S8x2048x2x1, .f32⟩
  | 109 => ⟨S_, .f32⟩
  | 110 => ⟨S8x2048x2x1, .f32⟩
  | 111 => ⟨S8x2048x2x1, .f32⟩
  | 112 => ⟨S_, .f32⟩
  | 113 => ⟨S8x2048x2x1, .f32⟩
  | 114 => ⟨S8x2048x2x1, .f32⟩
  | 115 => ⟨S8x2048x2x1, .f32⟩
  | 116 => ⟨S8x2048x2x256, .f32⟩
  | 117 => ⟨S8x2048x2x256, .f32⟩
  | 118 => ⟨S1x1x2x256, .f32⟩
  | 119 => ⟨S8x2048x2x256, .f32⟩
  | 120 => ⟨S8x2048x2x256, .f32⟩
  | 121 => ⟨S8x2048x512, .f32⟩
  | 122 => ⟨S8x2048x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_call0_cst : Ref sig .tc := ⟨.hbm, 28, rfl⟩
abbrev main_call0_call0_v0 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_0 : Ref sig .tc := ⟨.hbm, 40, rfl⟩
abbrev main_call1_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_cst_1 : Ref sig .tc := ⟨.hbm, 234, rfl⟩
abbrev main_v212 : Ref sig .tc := ⟨.hbm, 235, rfl⟩
abbrev main_v213 : Ref sig .tc := ⟨.hbm, 236, rfl⟩
abbrev main_cst_2 : Ref sig .tc := ⟨.hbm, 237, rfl⟩
abbrev main_v214 : Ref sig .tc := ⟨.hbm, 238, rfl⟩
abbrev main_v215 : Ref sig .tc := ⟨.hbm, 239, rfl⟩
abbrev main_cst_3 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩

abbrev nD : Nat := 1
abbrev τ : Topo := Topo.v7x

variable {F : FTy → Type} [FloatOps F]
-- ==== OutMlp.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x4096 : Shape := ⟨2, ![512, 4096]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S512x1024, .f32⟩
  | .hbm, ⟨8, _⟩ => ⟨S512x1024, .bf16⟩
  | .hbm, ⟨9, _⟩ => ⟨S512x1024, .f32⟩
  | .hbm, ⟨10, _⟩ => ⟨S512x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutMlpReferenceIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S16384x512, .f32⟩
  | .hbm, ⟨8, _⟩ => ⟨S16384x512, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== InProj.lean ====
abbrev S8x2048x1024 : Shape := ⟨3, ![8, 2048, 1024]⟩
abbrev S1024 : Shape := ⟨1, ![1024]⟩
abbrev S1024x3080 : Shape := ⟨2, ![1024, 3080]⟩
abbrev S64 : Shape := ⟨1, ![64]⟩
abbrev S4x1024 : Shape := ⟨2, ![4, 1024]⟩
abbrev S8 : Shape := ⟨1, ![8]⟩
abbrev S2 : Shape := ⟨1, ![2]⟩
abbrev S3080x1024 : Shape := ⟨2, ![3080, 1024]⟩
abbrev S8x1024 : Shape := ⟨2, ![8, 1024]⟩
abbrev S_ : Shape := ⟨0, ![]⟩
abbrev S128x1024 : Shape := ⟨2, ![128, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32 : Shape := ⟨1, ![32]⟩
abbrev S1x32 : Shape := ⟨2, ![1, 32]⟩
abbrev S4x32 : Shape := ⟨2, ![4, 32]⟩
abbrev S128 : Shape := ⟨1, ![128]⟩
abbrev S2x32 : Shape := ⟨2, ![2, 32]⟩
abbrev S1x64 : Shape := ⟨2, ![1, 64]⟩
abbrev S2x64 : Shape := ⟨2, ![2, 64]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S1x1024 : Shape := ⟨2, ![1, 1024]⟩
abbrev S8x64 : Shape := ⟨2, ![8, 64]⟩
abbrev S1x8 : Shape := ⟨2, ![1, 8]⟩
abbrev S8x2048x512 : Shape := ⟨3, ![8, 2048, 512]⟩
abbrev S8x2048x128 : Shape := ⟨3, ![8, 2048, 128]⟩
abbrev S8x16x2048 : Shape := ⟨3, ![8, 16, 2048]⟩
abbrev S1x1024x1024 : Shape := ⟨3, ![1, 1024, 1024]⟩
abbrev S1x16x1024 : Shape := ⟨3, ![1, 16, 1024]⟩
abbrev S1024x128 : Shape := ⟨2, ![1024, 128]⟩
abbrev S1x1024x512 : Shape := ⟨3, ![1, 1024, 512]⟩
abbrev S1x1024x128 : Shape := ⟨3, ![1, 1024, 128]⟩
abbrev S1040x1024 : Shape := ⟨2, ![1040, 1024]⟩
abbrev S1024x1024 : Shape := ⟨2, ![1024, 1024]⟩
abbrev S1024x1 : Shape := ⟨2, ![1024, 1]⟩
abbrev S512x1024 : Shape := ⟨2, ![512, 1024]⟩
abbrev S1024x512 : Shape := ⟨2, ![1024, 512]⟩
abbrev S512x128 : Shape := ⟨2, ![512, 128]⟩
abbrev S1x512x512 : Shape := ⟨3, ![1, 512, 512]⟩
abbrev S16x1024 : Shape := ⟨2, ![16, 1024]⟩
abbrev S16 : Shape := ⟨1, ![16]⟩
abbrev S16x1 : Shape := ⟨2, ![16, 1]⟩
abbrev S256x1024 : Shape := ⟨2, ![256, 1024]⟩
abbrev S1024x256 : Shape := ⟨2, ![1024, 256]⟩
abbrev S16x256 : Shape := ⟨2, ![16, 256]⟩
abbrev S1x256 : Shape := ⟨2, ![1, 256]⟩
abbrev S1x1024x256 : Shape := ⟨3, ![1, 1024, 256]⟩

abbrev nBuf : Space → Nat
  | .hbm => 94
  | .vmem => 32
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3080, .f32⟩
  | .hbm, ⟨3, _⟩ => ⟨S64, .f32⟩
  | .hbm, ⟨4, _⟩ => ⟨S64, .f32⟩
  | .hbm, ⟨5, _⟩ => ⟨S4x1024, .f32⟩
  | .hbm, ⟨6, _⟩ => ⟨S1024, .f32⟩
  | .hbm, ⟨7, _⟩ => ⟨S8, .f32⟩
  | .hbm, ⟨8, _⟩ => ⟨S2, .f32⟩
  | .hbm, ⟨9, _⟩ => ⟨S3080x1024, .f32⟩
  | .hbm, ⟨10, _⟩ => ⟨S3080x1024, .bf16⟩
  | .hbm, ⟨11, _⟩ => ⟨S8x1024, .f32⟩
  | .hbm, ⟨12, _⟩ => ⟨S_, .i32⟩
  | .hbm, ⟨13, _⟩ => ⟨S_, .f32⟩
  | .hbm, ⟨14, _⟩ => ⟨S128x1024, .f32⟩
  | .hbm, ⟨15, _⟩ => ⟨S128x1024, .bf16⟩
  | .hbm, ⟨16, _⟩ => ⟨S512, .i32⟩
  | .hbm, ⟨17, _⟩ => ⟨S_, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S1x512, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S_, .f32⟩
  | .hbm, ⟨41, _⟩ => ⟨S_, .f32⟩
  | .hbm, ⟨42, _⟩ => ⟨S512x512, .f32⟩
  | .hbm, ⟨43, _⟩ => ⟨S512x512, .f32⟩
  | .hbm, ⟨44, _⟩ => ⟨S512x512, .f32⟩
  | .hbm, ⟨45, _⟩ => ⟨S512x512, .bf16⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S1x32, .f32⟩
  | .hbm, ⟨55, _⟩ => ⟨S4x32, .f32⟩
  | .hbm, ⟨56, _⟩ => ⟨S128, .f32⟩
  | .hbm, ⟨57, _⟩ => ⟨S2x32, .f32⟩
  | .hbm, ⟨58, _⟩ => ⟨S64, .f32⟩
  | .hbm, ⟨59, _⟩ => ⟨S1x64, .f32⟩
  | .hbm, ⟨60, _⟩ => ⟨S2x64, .f32⟩
  | .hbm, ⟨61, _⟩ => ⟨S128, .f32⟩
  | .hbm, ⟨62, _⟩ => ⟨S2048, .f32⟩
  | .hbm, ⟨63, _⟩ => ⟨S2048x1, .f32⟩
  | .hbm, ⟨64, _⟩ => ⟨S1x128, .f32⟩
  | .hbm, ⟨65, _⟩ => ⟨S2048x128, .f32⟩
  | .hbm, ⟨66, _⟩ => ⟨S2048x128, .f32⟩
  | .hbm, ⟨67, _⟩ => ⟨S2048x128, .f32⟩
  | .hbm, ⟨68, _⟩ => ⟨S2048x128, .f32⟩
  | .hbm, ⟨69, _⟩ => ⟨S2048x128, .f32⟩
  | .hbm, ⟨70, _⟩ => ⟨S1x128, .f32⟩
  | .hbm, ⟨71, _⟩ => ⟨S2048x128, .f32⟩
  | .hbm, ⟨72, _⟩ => ⟨S2048x128, .f32⟩
  | .hbm, ⟨73, _⟩ => ⟨S1x1024, .f32⟩
  | .hbm, ⟨74, _⟩ => ⟨S1x64, .f32⟩
  | .hbm, ⟨75, _⟩ => ⟨S8x64, .f32⟩
  | .hbm, ⟨76, _⟩ => ⟨S512, .f32⟩
  | .hbm, ⟨77, _⟩ => ⟨S1x512, .f32⟩
  | .hbm, ⟨78, _⟩ => ⟨S1x64, .f32⟩
  | .hbm, ⟨79, _⟩ => ⟨S8x64, .f32⟩
  | .hbm, ⟨80, _⟩ => ⟨S512, .f32⟩
  | .hbm, ⟨81, _⟩ => ⟨S1x512, .f32⟩
  | .hbm, ⟨82, _⟩ => ⟨S1x1024, .f32⟩
  | .hbm, ⟨83, _⟩ => ⟨S1x8, .f32⟩
  | .hbm, ⟨84, _⟩ => ⟨S_, .i32⟩
  | .hbm, ⟨85, _⟩ => ⟨S_, .f32⟩
  | .hbm, ⟨86, _⟩ => ⟨S1x128, .f32⟩
  | .hbm, ⟨87, _⟩ => ⟨S8x2048x512, .bf16⟩
  | .hbm, ⟨88, _⟩ => ⟨S8x2048x512, .bf16⟩
  | .hbm, ⟨89, _⟩ => ⟨S8x2048x512, .bf16⟩
  | .hbm, ⟨90, _⟩ => ⟨S8x2048x512, .f32⟩
  | .hbm, ⟨91, _⟩ => ⟨S8x2048x1024, .f32⟩
  | .hbm, ⟨92, _⟩ => ⟨S8x2048x128, .f32⟩
  | .hbm, ⟨93, _⟩ => ⟨S8x16x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1024, .f32⟩
  | .local _ .vmem, ⟨5, _⟩ => ⟨S3080x1024, .bf16⟩
  | .local _ .vmem, ⟨6, _⟩ => ⟨S128x1024, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S4x1024, .f32⟩
  | .local _ .vmem, ⟨15, _⟩ => ⟨S1x1024, .f32⟩
  | .local _ .vmem, ⟨16, _⟩ => ⟨S1x128, .f32⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x512, .f32⟩
  | .local _ .vmem, ⟨24, _⟩ => ⟨S1x1024x512, .f32⟩
  | .local _ .vmem, ⟨25, _⟩ => ⟨S1x1024x1024, .f32⟩
  | .local _ .vmem, ⟨26, _⟩ => ⟨S1x1024x1024, .f32⟩
  | .local _ .vmem, ⟨27, _⟩ => ⟨S1x1024x128, .f32⟩
  | .local _ .vmem, ⟨28, _⟩ => ⟨S1x1024x128, .f32⟩
  | .local _ .vmem, ⟨29, _⟩ => ⟨S1x16x1024, .f32⟩
  | .local _ .vmem, ⟨30, _⟩ => ⟨S1x16x1024, .f32⟩
  | .local _ .vmem, ⟨31, _⟩ => ⟨S1040x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_cst_2 : Ref sig .tc := ⟨.hbm, 41, rfl⟩
abbrev main_call2_v0 : Ref sig .tc := ⟨.hbm, 42, rfl⟩
abbrev main_call2_v1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_3 : Ref sig .tc := ⟨.hbm, 48, rfl⟩
abbrev main_v16 : Ref sig .tc := ⟨.hbm, 49, rfl⟩
abbrev main_v17 : Ref sig .tc := ⟨.hbm, 50, rfl⟩
abbrev main_cst_4 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_5 : Ref sig .tc := ⟨.hbm, 84, rfl⟩
abbrev main_call3_v0 : Ref sig .tc := ⟨.hbm, 85, rfl⟩
abbrev main_v50 : Ref sig .tc := ⟨.hbm, 86, rfl⟩
abbrev main_v51_0 : Ref sig .tc := ⟨.hbm, 87, rfl⟩
abbrev main_v51_1 : Ref sig .tc := ⟨.hbm, 88, rfl⟩
abbrev main_v51_2 : Ref sig .tc := ⟨.hbm, 89, rfl⟩
abbrev main_v51_3 : Ref sig .tc := ⟨.hbm, 90, rfl⟩
abbrev main_v51_4 : Ref sig .tc := ⟨.hbm, 91, rfl⟩
abbrev main_v51_5 : Ref sig .tc := ⟨.hbm, 92, rfl⟩
abbrev main_v51_6 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3080x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== InProjReferenceIdeal.lean ====
abbrev S8x2048x1024 : Shape := ⟨3, ![8, 2048, 1024]⟩
abbrev S1024 : Shape := ⟨1, ![1024]⟩
abbrev S1024x3080 : Shape := ⟨2, ![1024, 3080]⟩
abbrev S64 : Shape := ⟨1, ![64]⟩
abbrev S4x1024 : Shape := ⟨2, ![4, 1024]⟩
abbrev S8 : Shape := ⟨1, ![8]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3080 : Shape := ⟨3, ![8, 2048, 3080]⟩
abbrev S8x2048x512 : Shape := ⟨3, ![8, 2048, 512]⟩
abbrev S8x2048x8 : Shape := ⟨3, ![8, 2048, 8]⟩
abbrev S8x2048x8x64 : Shape := ⟨4, ![8, 2048, 8, 64]⟩
abbrev S8x2048x8x1 : Shape := ⟨4, ![8, 2048, 8, 1]⟩
abbrev S1x1x1x64 : Shape := ⟨4, ![1, 1, 1, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2051x1024 : Shape := ⟨3, ![8, 2051, 1024]⟩
abbrev S1x1024 : Shape := ⟨2, ![1, 1024]⟩
abbrev S1x1x8 : Shape := ⟨3, ![1, 1, 8]⟩
abbrev S8x2048x128 : Shape := ⟨3, ![8, 2048, 128]⟩
abbrev S8x2048x16 : Shape := ⟨3, ![8, 2048, 16]⟩
abbrev S8x16x2048 : Shape := ⟨3, ![8, 16, 2048]⟩

abbrev nBuf : Space → Nat
  | .hbm => 208
  | .vmem => 0
  | .smem => 0
  | _ => 0

abbrev hbmTy0_0 (i : Nat) : BufTy := match i % 128 with
  | 0 => ⟨S8x2048x1024, .f32⟩
  | 1 => ⟨S1024, .f32⟩
  | 2 => ⟨S1024x3080, .f32⟩
  | 3 => ⟨S64, .f32⟩
  | 4 => ⟨S64, .f32⟩
  | 5 => ⟨S4x1024, .f32⟩
  | 6 => ⟨S1024, .f32⟩
  | 7 => ⟨S8, .f32⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S8x2048x3080, .f32⟩
  | 25 => ⟨S8x2048x512, .f32⟩
  | 26 => ⟨S8x2048x512, .f32⟩
  | 27 => ⟨S8x2048x512, .f32⟩
  | 28 => ⟨S8x2048x512, .f32⟩
  | 29 => ⟨S8x2048x1024, .f32⟩
  | 30 => ⟨S8x2048x8, .f32⟩
  | 31 => ⟨S8x2048x8x64, .f32⟩
  | 32 => ⟨S8x2048x8x64, .f32⟩
  | 33 => ⟨S_, .f32⟩
  | 34 => ⟨S8x2048x8, .f32⟩
  | 35 => ⟨S8x2048x8x1, .f32⟩
  | 36 => ⟨S_, .f32⟩
  | 37 => ⟨S8x2048x8x1, .f32⟩
  | 38 => ⟨S8x2048x8x1, .f32⟩
  | 39 => ⟨S_, .f32⟩
  | 40 => ⟨S8x2048x8x1, .f32⟩
  | 41 => ⟨S8x2048x8x1, .f32⟩
  | 42 => ⟨S8x2048x8x1, .f32⟩
  | 43 => ⟨S8x2048x8x64, .f32⟩
  | 44 => ⟨S8x2048x8x64, .f32⟩
  | 45 => ⟨S1x1x1x64, .f32⟩
  | 46 => ⟨S8x2048x8x64, .f32⟩
  | 47 => ⟨S8x2048x8x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S2048, .f32⟩
  | 57 => ⟨S2048x1, .f32⟩
  | 58 => ⟨S1x32, .f32⟩
  | 59 => ⟨S2048x32, .f32⟩
  | 60 => ⟨S2048x32, .f32⟩
  | 61 => ⟨S2048x32, .f32⟩
  | 62 => ⟨S2048x32, .f32⟩
  | 63 => ⟨S1x2048x1x32, .f32⟩
  | 64 => ⟨S2048x32, .f32⟩
  | 65 => ⟨S1x2048x1x32, .f32⟩
  | 66 => ⟨S8x2048x8x32, .f32⟩
  | 67 => ⟨S8x2048x8x32, .f32⟩
  | 68 => ⟨S8x2048x8x32, .f32⟩
  | 69 => ⟨S8x2048x8x32, .f32⟩
  | 70 => ⟨S8x2048x8x32, .f32⟩
  | 71 => ⟨S8x2048x8x32, .f32⟩
  | 72 => ⟨S8x2048x8x32, .f32⟩
  | 73 => ⟨S8x2048x8x32, .f32⟩
  | 74 => ⟨S8x2048x8x32, .f32⟩
  | 75 => ⟨S8x2048x8x32, .f32⟩
  | 76 => ⟨S8x2048x8x32, .f32⟩
  | 77 => ⟨S8x2048x8x32, .f32⟩
  | 78 => ⟨S8x2048x8x64, .f32⟩
  | 79 => ⟨S_, .f32⟩
  | 80 => ⟨S8x2048x8x64, .f32⟩
  | 81 => ⟨S8x2048x8x64, .f32⟩
  | 82 => ⟨S8x2048x8x64, .f32⟩
  | 83 => ⟨S8x2048x8x64, .f32⟩
  | 84 => ⟨S_, .f32⟩
  | 85 => ⟨S8x2048x8, .f32⟩
  | 86 => ⟨S8x2048x8x1, .f32⟩
  | 87 => ⟨S_, .f32⟩
  | 88 => ⟨S8x2048x8x1, .f32⟩
  | 89 => ⟨S8x2048x8x1, .f32⟩
  | 90 => ⟨S_, .f32⟩
  | 91 => ⟨S8x2048x8x1, .f32⟩
  | 92 => ⟨S8x2048x8x1, .f32⟩
  | 93 => ⟨S8x2048x8x1, .f32⟩
  | 94 => ⟨S8x2048x8x64, .f32⟩
  | 95 => ⟨S8x2048x8x64, .f32⟩
  | 96 => ⟨S1x1x1x64, .f32⟩
  | 97 => ⟨S8x2048x8x64, .f32⟩
  | 98 => ⟨S8x2048x8x64, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S2048, .f32⟩
  | 108 => ⟨S2048x1, .f32⟩
  | 109 => ⟨S1x32, .f32⟩
  | 110 => ⟨S2048x32, .f32⟩
  | 111 => ⟨S2048x32, .f32⟩
  | 112 => ⟨S2048x32, .f32⟩
  | 113 => ⟨S2048x32, .f32⟩
  | 114 => ⟨S1x2048x1x32, .f32⟩
  | 115 => ⟨S2048x32, .f32⟩
  | 116 => ⟨S1x2048x1x32, .f32⟩
  | 117 => ⟨S8x2048x8x32, .f32⟩
  | 118 => ⟨S8x2048x8x32, .f32⟩
  | 119 => ⟨S8x2048x8x32, .f32⟩
  | 120 => ⟨S8x2048x8x32, .f32⟩
  | 121 => ⟨S8x2048x8x32, .f32⟩
  | 122 => ⟨S8x2048x8x32, .f32⟩
  | 123 => ⟨S8x2048x8x32, .f32⟩
  | 124 => ⟨S8x2048x8x32, .f32⟩
  | 125 => ⟨S8x2048x8x32, .f32⟩
  | 126 => ⟨S8x2048x8x32, .f32⟩
  | 127 => ⟨S8x2048x8x32, .f32⟩
  | _ => ⟨S8x2048x1024, .f32⟩

abbrev hbmTy0_1 (i : Nat) : BufTy := match i % 128 with
  | 0 => ⟨S8x2048x8x32, .f32⟩
  | 1 => ⟨S8x2048x8x64, .f32⟩
  | 2 => ⟨S_, .i32⟩
  | 3 => ⟨S_, .f32⟩
  | 4 => ⟨S8x2051x1024, .f32⟩
  | 5 => ⟨S8x2048x1024, .f32⟩
  | 6 => ⟨S1x1024, .f32⟩
  | 7 => ⟨S1024, .f32⟩
  | 8 => ⟨S1x1x1024, .f32⟩
  | 9 => ⟨S8x2048x1024, .f32⟩
  | 10 => ⟨S8x2048x1024, .f32⟩
  | 11 => ⟨S1x1x1024, .f32⟩
  | 12 => ⟨S8x2048x1024, .f32⟩
  | 13 => ⟨S8x2048x1024, .f32⟩
  | 14 => ⟨S8x2048x1024, .f32⟩
  | 15 => ⟨S1x1024, .f32⟩
  | 16 => ⟨S1024, .f32⟩
  | 17 => ⟨S1x1x1024, .f32⟩
  | 18 => ⟨S8x2048x1024, .f32⟩
  | 19 => ⟨S8x2048x1024, .f32⟩
  | 20 => ⟨S8x2048x1024, .f32⟩
  | 21 => ⟨S8x2048x1024, .f32⟩
  | 22 => ⟨S1x1024, .f32⟩
  | 23 => ⟨S1024, .f32⟩
  | 24 => ⟨S1x1x1024, .f32⟩
  | 25 => ⟨S8x2048x1024, .f32⟩
  | 26 => ⟨S8x2048x1024, .f32⟩
  | 27 => ⟨S8x2048x1024, .f32⟩
  | 28 => ⟨S8x2048x1024, .f32⟩
  | 29 => ⟨S1x1024, .f32⟩
  | 30 => ⟨S1024, .f32⟩
  | 31 => ⟨S1x1x1024, .f32⟩
  | 32 => ⟨S8x2048x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S_, .f32⟩
  | 38 => ⟨S8x2048x1024, .f32⟩
  | 39 => ⟨S8x2048x1024, .f32⟩
  | 40 => ⟨S_, .f32⟩
  | 41 => ⟨S8x2048x1024, .f32⟩
  | 42 => ⟨S8x2048x1024, .f32⟩
  | 43 => ⟨S8x2048x1024, .f32⟩
  | 44 => ⟨S1x1x8, .f32⟩
  | 45 => ⟨S8x2048x8, .f32⟩
  | 46 => ⟨S8x2048x8, .f32⟩
  | 47 => ⟨S_, .i32⟩
  | 48 => ⟨S_, .f32⟩
  | 49 => ⟨S8x2048x128, .f32⟩
  | 50 => ⟨S_, .f32⟩
  | 51 => ⟨S8x2048x128, .f32⟩
  | 52 => ⟨S8x2048x128, .f32⟩
  | 53 => ⟨S8x2048x128, .f32⟩
  | 54 => ⟨S8x2048x128, .f32⟩
  | 55 => ⟨S8x2048x128, .i1⟩
  | 56 => ⟨S8x2048x128, .f32⟩
  | 57 => ⟨S8x2048x128, .f32⟩
  | 58 => ⟨S8x2048x128, .f32⟩
  | 59 => ⟨S8x2048x128, .f32⟩
  | 60 => ⟨S8x2048x128, .f32⟩
  | 61 => ⟨S8x2048x128, .f32⟩
  | 62 => ⟨S8x2048x128, .f32⟩
  | 63 => ⟨S8x2048x128, .f32⟩
  | 64 => ⟨S8x2048x512, .f32⟩
  | 65 => ⟨S8x2048x512, .bf16⟩
  | 66 => ⟨S8x2048x512, .f32⟩
  | 67 => ⟨S8x2048x512, .bf16⟩
  | 68 => ⟨S8x2048x512, .bf16⟩
  | 69 => ⟨S8x2048x512, .f32⟩
  | 70 => ⟨S8x2048x512, .f32⟩
  | 71 => ⟨S_, .f32⟩
  | 72 => ⟨S8x2048x512, .f32⟩
  | 73 => ⟨S8x2048x512, .f32⟩
  | 74 => ⟨S_, .f32⟩
  | 75 => ⟨S8x2048x512, .f32⟩
  | 76 => ⟨S8x2048x512, .f32⟩
  | 77 => ⟨S8x2048x512, .f32⟩
  | 78 => ⟨S8x2048x16, .f32⟩
  | 79 => ⟨S8x16x2048, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_11 : Ref sig .tc := ⟨.hbm, 101, rfl⟩
abbrev main_v81 : Ref sig .tc := ⟨.hbm, 102, rfl⟩
abbrev main_v82 : Ref sig .tc := ⟨.hbm, 103, rfl⟩
abbrev main_cst_12 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_c : Ref sig .tc := ⟨.hbm, 130, rfl⟩
abbrev main_call0_v0 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_call1_v0 : Ref sig .tc := ⟨.hbm, 163, rfl⟩
abbrev main_call1_v1 : Ref sig .tc := ⟨.hbm, 164, rfl⟩
abbrev main_call1_cst : Ref sig .tc := ⟨.hbm, 165, rfl⟩
abbrev main_call1_v2 : Ref sig .tc := ⟨.hbm, 166, rfl⟩
abbrev main_call1_v3 : Ref sig .tc := ⟨.hbm, 167, rfl⟩
abbrev main_call1_cst_0 : Ref sig .tc := ⟨.hbm, 168, rfl⟩
abbrev main_call1_v4 : Ref sig .tc := ⟨.hbm, 169, rfl⟩
abbrev main_call1_v5 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_c_13 : Ref sig .tc := ⟨.hbm, 175, rfl⟩
abbrev main_call2_v0 : Ref sig .tc := ⟨.hbm, 176, rfl⟩
abbrev main_v143 : Ref sig .tc := ⟨.hbm, 177, rfl⟩
abbrev main_call3_cst : Ref sig .tc := ⟨.hbm, 178, rfl⟩
abbrev main_call3_v0 : Ref sig .tc := ⟨.hbm, 179, rfl⟩
abbrev main_call3_v1 : Ref sig .tc := ⟨.hbm, 180, rfl⟩
abbrev main_call3_v2 : Ref sig .tc := ⟨.hbm, 181, rfl⟩
abbrev main_call3_v3 : Ref sig .tc := ⟨.hbm, 182, rfl⟩
abbrev main_call3_v4 : Ref sig .tc := ⟨.hbm, 183, rfl⟩
abbrev main_call3_v5 : Ref sig .tc := ⟨.hbm, 184, rfl⟩
abbrev main_call3_v6 : Ref sig .tc := ⟨.hbm, 185, rfl⟩
abbrev main_call3_v7 : Ref sig .tc := ⟨.hbm, 186, rfl⟩
abbrev main_call3_v8 : Ref sig .tc := ⟨.hbm, 187, rfl⟩
abbrev main_call3_v9 : Ref sig .tc := ⟨.hbm, 188, rfl⟩
abbrev main_call3_v10 : Ref sig .tc := ⟨.hbm, 189, rfl⟩
abbrev main_call3_v11 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_call4_v0 : Ref sig .tc := ⟨.hbm, 197, rfl⟩
abbrev main_call4_v1 : Ref sig .tc := ⟨.hbm, 198, rfl⟩
abbrev main_call4_cst : Ref sig .tc := ⟨.hbm, 199, rfl⟩
abbrev main_call4_v2 : Ref sig .tc := ⟨.hbm, 200, rfl⟩
abbrev main_call4_v3 : Ref sig .tc := ⟨.hbm, 201, rfl⟩
abbrev main_call4_cst_0 : Ref sig .tc := ⟨.hbm, 202, rfl⟩
abbrev main_call4_v4 : Ref sig .tc := ⟨.hbm, 203, rfl⟩
abbrev main_call4_v5 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩

abbrev nD : Nat := 1
abbrev τ : Topo := Topo.v7x

variable {F : FTy → Type} [FloatOps F]
-- ==== Proof.MlpPay.lean ====
/-
  The output projection and the feed-forward part of the layer, one row of tokens at a time: what the kernel stores for a
  row of its block, as a function of that row of the residual stream and of the weights.
-/
module

public import proofs.«01_k».proof.Proof.Gen.OutMlpIdeal.Value
public import Idealize.ShloMosaic.Lib.Pointwise

@[expose] public section

set_option maxRecDepth 16384

noncomputable section

namespace Cert.Proof.Mlp

open Idealize.ShloMosaic Cert.OutMlpIdeal Cert.OutMlpIdeal.Gen
open Idealize.ShloMosaic.Pointwise

/-- One row of the feed-forward part: the row `x` of the residual stream is divided by its root mean square, scaled by
    `nw`, multiplied into `wu`, cut off below zero and squared, multiplied into `wd` and added back to `x`. -/
def mlpRow (x nw : Fin 1024 → EReal) (wu : Fin 1024 → Fin 4096 → EReal) (wd : Fin 4096 → Fin 1024 → EReal)
    (q : Fin 1024) : EReal :=
  x q + ∑ f : Fin 4096,
    (max (∑ k : Fin 1024, x k * Ideal.rsqrt (Ideal.div (∑ j : Fin 1024, x j * x j) (Ideal.ofBits .f32 0x44800000#32)
          + Ideal.ofBits .f32 0x358637BD#32) * nw k * wu k f) 0
      * max (∑ k : Fin 1024, x k * Ideal.rsqrt (Ideal.div (∑ j : Fin 1024, x j * x j) (Ideal.ofBits .f32 0x44800000#32)
          + Ideal.ofBits .f32 0x358637BD#32) * nw k * wu k f) 0) * wd f q

/-- The residual stream of the block at row `r`, column `q`: the input plus the two halves of the output projection. -/
theorem pay2_apply (v0 : Vec Ideal S512x1024 .f32) (v1 : Vec Ideal S512x512 .bf16) (v2 : Vec Ideal S512x1024 .bf16)
    (v6 : Vec Ideal S512x512 .bf16) (v7 : Vec Ideal S512x1024 .bf16) (r : Fin 512) (q : Fin 1024) :
    k0_pay2 v0 v1 v2 v6 v7 (ix2 r q)
      = v0 (ix2 r q) + (∑ k : Fin 512, v1 (ix2 r k) * v2 (ix2 k q)) + ∑ k : Fin 512, v6 (ix2 r k) * v7 (ix2 k q) := by
  pointwise [k0_pay2]

/-- The squared activations of the block at row `r`, hidden unit `f`. -/
theorem pay3_apply (v0 : Vec Ideal S512x1024 .f32) (v1 : Vec Ideal S512x512 .bf16) (v2 : Vec Ideal S512x1024 .bf16)
    (v6 : Vec Ideal S512x512 .bf16) (v7 : Vec Ideal S512x1024 .bf16) (v21 : Vec Ideal S1x1024 .f32)
    (v26 : Vec Ideal S1024x4096 .bf16) (r : Fin 512) (f : Fin 4096) (x : Fin 1024 → EReal)
    (hx : ∀ q, k0_pay2 v0 v1 v2 v6 v7 (ix2 r q) = x q) :
    k0_pay3 v0 v1 v2 v6 v7 v21 v26 (ix2 r f)
      = (max (∑ k : Fin 1024, x k * Ideal.rsqrt (Ideal.div (∑ j : Fin 1024, x j * x j) (Ideal.ofBits .f32 0x44800000#32)
          + Ideal.ofBits .f32 0x358637BD#32) * v21 (ix2 0 k) * v26 (ix2 k f)) 0
        * max (∑ k : Fin 1024, x k * Ideal.rsqrt (Ideal.div (∑ j : Fin 1024, x j * x j) (Ideal.ofBits .f32 0x44800000#32)
          + Ideal.ofBits .f32 0x358637BD#32) * v21 (ix2 0 k) * v26 (ix2 k f)) 0) := by
  unfold k0_pay3
  generalize k0_pay2 v0 v1 v2 v6 v7 = y at hx ⊢
  pointwise
  simp only [hx]

/-- What is stored for the block at row `r`, column `q`. -/
theorem pay1_apply (v10 : FVec Ideal S512x1024 .f32) (v32 : FVec Ideal S512x4096 .bf16)
    (v33 : Vec Ideal S4096x1024 .bf16) (r : Fin 512) (q : Fin 1024) :
    k0_pay1 v10 v32 (k0_pay4 v33) (constant S512x1024 .f32 0x00000000#32) (ix2 r q)
      = v10 (ix2 r q) + ∑ f : Fin 4096, v32 (ix2 r f) * v33 (ix2 f q) := by
  pointwise [k0_pay1, k0_pay4]

end Cert.Proof.Mlp

end
-- ==== Proof.MlpValue.lean ====
/-
  The result array of the output-projection and feed-forward kernel: the 32 blocks of 512 rows the grid writes make up one
  array, whose row `r` is the feed-forward row function at the residual stream of token `r`.
-/
module

public import proofs.«01_k».proof.Proof.MlpPay

@[expose] public section

set_option maxRecDepth 16384

noncomputable section

namespace Cert.Proof.Mlp

open Idealize.ShloMosaic Idealize.ShloMosaic.TcCoe Idealize.SL.Sem
open Idealize.ShloMosaic.Pipeline (Dat)
open Cert.OutMlpIdeal Cert.OutMlpIdeal.Gen Cert.OutMlpIdeal.Value
open Idealize.ShloMosaic.Pointwise

/-- The residual stream of token `r` at column `q`: the input plus the attention and the recurrence output, each through
    its half of the output projection. -/
def resid (x : Vec Ideal S16384x1024 .f32) (oa ys : Vec Ideal S16384x512 .bf16) (w : Vec Ideal S1024x1024 .f32)
    (r : Fin 16384) (q : Fin 1024) : EReal :=
  x (ix2 r q) + (∑ k : Fin 512, oa (ix2 r k) * w (ix2 (⟨k.val, by omega⟩ : Fin 1024) q))
    + ∑ k : Fin 512, ys (ix2 r k) * w (ix2 (⟨512 + k.val, by omega⟩ : Fin 1024) q)

/-- The whole result array as one function of the argument arrays. -/
def G (x : Vec Ideal S16384x1024 .f32) (oa ys : Vec Ideal S16384x512 .bf16) (w : Vec Ideal S1024x1024 .f32)
    (nw : Vec Ideal S1024 .f32) (wu : Vec Ideal S1024x4096 .f32) (wd : Vec Ideal S4096x1024 .f32) :
    Vec Ideal S16384x1024 .f32 := fun i =>
  mlpRow (resid x oa ys w (i 0)) (fun k => nw (ix1 k)) (fun k f => wu (ix2 k f)) (fun f q => wd (ix2 f q)) (i 1)

theorem hz : (![0, 0] : Fin 2 → Nat) = fun _ => 0 := funext fun a => by fin_cases a <;> rfl

/-- The contents the body leaves in the result's staging buffer, at row `r` and column `q`. -/
theorem out_apply (x0 : Vec Ideal S512x1024 .f32) (x1 x2 : Vec Ideal S512x512 .bf16) (x3 x4 : Vec Ideal S512x1024 .bf16)
    (x5 : Vec Ideal S1x1024 .f32) (x6 : Vec Ideal S1024x4096 .bf16) (x7 : Vec Ideal S4096x1024 .bf16)
    (r : Fin 512) (q : Fin 1024) :
    out0_8 x0 x1 x2 x3 x4 x5 x6 x7 (ix2 r q)
      = mlpRow (fun q => x0 (ix2 r q) + (∑ k : Fin 512, x1 (ix2 r k) * x3 (ix2 k q))
            + ∑ k : Fin 512, x2 (ix2 r k) * x4 (ix2 k q))
          (fun k => x5 (ix2 0 k)) (fun k f => x6 (ix2 k f)) (fun f q => x7 (ix2 f q)) q := by
  unfold out0_8
  rw [View.canon_unit_zero hz, View.ld_unit_zero hz, View.ld_unit_zero hz, View.ld_unit_zero hz, View.ld_unit_zero hz,
    View.ld_unit_zero hz, View.ld_unit_zero hz, View.ld_unit_zero hz, View.ld_unit_zero hz, pay1_apply]
  unfold mlpRow
  refine congrArg₂ (· + ·) (pay2_apply _ _ _ _ _ r q) (Finset.sum_congr rfl fun f _ => ?_)
  rw [pay3_apply x0 x1 x3 x2 x4 x5 x6 r f _ (fun q => pay2_apply _ _ _ _ _ r q)]

variable (m : (ℓ : Loc nD τ sig) → Buf (Elt Ideal) ℓ) (ρ : Dev nD → PrngReg)

/-- Where each window's block begins at point `t`: the token windows at row block `t`, the weights at the origin. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-- Row `p` of block `t` is token `512 t + p`. -/
def tok (t : Fin cfg0.N) (p : Fin 512) : Fin 16384 :=
  ⟨t.val * 512 + p.val, by have := t.isLt; have h : cfg0.N = 32 := by decide
                           omega⟩

/-- Row `p` of the block of the residual input at point `t`. -/
theorem iblk0 (c : Dev nD) (t : Fin cfg0.N) (p : Fin 512) (q : Fin 1024) :
    iblk m c 0 t (ix2 p q) = V m c main_arg0 (ix2 (tok t p) q) := by
  obtain ⟨e0, e1⟩ := idx0 t
  show V m c main_arg0 (((cfg0.win 0).blk t).view.emb (ix2 p q)) = _
  congr 1; funext a; apply Fin.ext
  match a with
  | ⟨0, _⟩ => show win0_0.index t (0 : Fin 2) * 512 + 1 * p.val = t.val * 512 + p.val; omega
  | ⟨1, _⟩ => show win0_0.index t (1 : Fin 2) * 1024 + 1 * q.val = q.val; omega

/-- Row `p` of the block of the attention output at point `t`. -/
theorem iblk1 (c : Dev nD) (t : Fin cfg0.N) (p : Fin 512) (q : Fin 512) :
    iblk m c 1 t (ix2 p q) = V m c main_arg1 (ix2 (tok t p) q) := by
  obtain ⟨e0, e1⟩ := idx1 t
  show V m c main_arg1 (((cfg0.win 1).blk t).view.emb (ix2 p q)) = _
  congr 1; funext a; apply Fin.ext
  match a with
  | ⟨0, _⟩ => show win0_1.index t (0 : Fin 2) * 512 + 1 * p.val = t.val * 512 + p.val; omega
  | ⟨1, _⟩ => show win0_1.index t (1 : Fin 2) * 512 + 1 * q.val = q.val; omega

/-- Row `p` of the block of the recurrence output at point `t`. -/
theorem iblk2 (c : Dev nD) (t : Fin cfg0.N) (p : Fin 512) (q : Fin 512) :
    iblk m c 2 t (ix2 p q) = V m c main_arg2 (ix2 (tok t p) q) := by
  obtain ⟨e0, e1⟩ := idx2 t
  show V m c main_arg2 (((cfg0.win 2).blk t).view.emb (ix2 p q)) = _
  congr 1; funext a; apply Fin.ext
  match a with
  | ⟨0, _⟩ => show win0_2.index t (0 : Fin 2) * 512 + 1 * p.val = t.val * 512 + p.val; omega
  | ⟨1, _⟩ => show win0_2.index t (1 : Fin 2) * 512 + 1 * q.val = q.val; omega

/-- The weight windows' blocks are their whole arrays. -/
theorem iblk3 (c : Dev nD) (t : Fin cfg0.N) (p : Fin 512) (q : Fin 1024) :
    iblk m c 3 t (ix2 p q) = V m c main_v1 (ix2 p q) := by
  obtain ⟨e0, e1⟩ := idx3 t
  show V m c main_v1 (((cfg0.win 3).blk t).view.emb (ix2 p q)) = _
  congr 1; funext a; apply Fin.ext
  match a with
  | ⟨0, _⟩ => show win0_3.index t (0 : Fin 2) * 512 + 1 * p.val = p.val; omega
  | ⟨1, _⟩ => show win0_3.index t (1 : Fin 2) * 1024 + 1 * q.val = q.val; omega
theorem iblk4 (c : Dev nD) (t : Fin cfg0.N) (p : Fin 512) (q : Fin 1024) :
    iblk m c 4 t (ix2 p q) = V m c main_v3 (ix2 p q) := by
  obtain ⟨e0, e1⟩ := idx4 t
  show V m c main_v3 (((cfg0.win 4).blk t).view.emb (ix2 p q)) = _
  congr 1; funext a; apply Fin.ext
  match a with
  | ⟨0, _⟩ => show win0_4.index t (0 : Fin 2) * 512 + 1 * p.val = p.val; omega
  | ⟨1, _⟩ => show win0_4.index t (1 : Fin 2) * 1024 + 1 * q.val = q.val; omega
theorem iblk5 (c : Dev nD) (t : Fin cfg0.N) (q : Fin 1024) :
    iblk m c 5 t (ix2 0 q) = V m c main_v4 (ix2 0 q) := by
  obtain ⟨e0, e1⟩ := idx5 t
  show V m c main_v4 (((cfg0.win 5).blk t).view.emb (ix2 0 q)) = _
  congr 1; funext a; apply Fin.ext
  match a with
  | ⟨0, _⟩ => show win0_5.index t (0 : Fin 2) * 1 + 1 * 0 = 0; omega
  | ⟨1, _⟩ => show win0_5.index t (1 : Fin 2) * 1024 + 1 * q.val = q.val; omega
theorem iblk6 (c : Dev nD) (t : Fin cfg0.N) (p : Fin 1024) (q : Fin 4096) :
    iblk m c 6 t (ix2 p q) = V m c main_v5 (ix2 p q) := by
  obtain ⟨e0, e1⟩ := idx6 t
  show V m c main_v5 (((cfg0.win 6).blk t).view.emb (ix2 p q)) = _
  congr 1; funext a; apply Fin.ext
  match a with
  | ⟨0, _⟩ => show win0_6.index t (0 : Fin 2) * 1024 + 1 * p.val = p.val; omega
  | ⟨1, _⟩ => show win0_6.index t (1 : Fin 2) * 4096 + 1 * q.val = q.val; omega
theorem iblk7 (c : Dev nD) (t : Fin cfg0.N) (p : Fin 4096) (q : Fin 1024) :
    iblk m c 7 t (ix2 p q) = V m c main_v6 (ix2 p q) := by
  obtain ⟨e0, e1⟩ := idx7 t
  show V m c main_v6 (((cfg0.win 7).blk t).view.emb (ix2 p q)) = _
  congr 1; funext a; apply Fin.ext
  match a with
  | ⟨0, _⟩ => show win0_7.index t (0 : Fin 2) * 4096 + 1 * p.val = p.val; omega
  | ⟨1, _⟩ => show win0_7.index t (1 : Fin 2) * 1024 + 1 * q.val = q.val; omega

/-- The arrays the host prepares for the weight windows, as the region finds them. -/
theorem V_v1 (c : Dev nD) : (V m c main_v1 : Vec Ideal S512x1024 .bf16)
    = truncf (F := Ideal) .bf16 (extractStridedSlice S512x1024 ![0, 0] (m ((c : Thread nD τ).loc main_arg3)) slices_S1024x1024_S512x1024_0_0)
        bitsLt_bf16_f32 := by
  show StableHlo.after hostOps0 (fun b => m (c, b)) main_v1 = _
  unfold hostOps0; after_results
theorem V_v3 (c : Dev nD) : (V m c main_v3 : Vec Ideal S512x1024 .bf16)
    = truncf (F := Ideal) .bf16 (extractStridedSlice S512x1024 ![512, 0] (m ((c : Thread nD τ).loc main_arg3)) slices_S1024x1024_S512x1024_512_0)
        bitsLt_bf16_f32 := by
  show StableHlo.after hostOps0 (fun b => m (c, b)) main_v3 = _
  unfold hostOps0; after_results
theorem V_v4 (c : Dev nD) : (V m c main_v4 : Vec Ideal S1x1024 .f32)
    = broadcastInDim S1x1024 ![1] bcast_S1024_S1x1024_1 (m ((c : Thread nD τ).loc main_arg4)) := by
  show StableHlo.after hostOps0 (fun b => m (c, b)) main_v4 = _
  unfold hostOps0; after_results
theorem V_v5 (c : Dev nD) : (V m c main_v5 : Vec Ideal S1024x4096 .bf16)
    = truncf (F := Ideal) .bf16 (m ((c : Thread nD τ).loc main_arg5)) bitsLt_bf16_f32 := by
  show StableHlo.after hostOps0 (fun b => m (c, b)) main_v5 = _
  unfold hostOps0; after_results
theorem V_v6 (c : Dev nD) : (V m c main_v6 : Vec Ideal S4096x1024 .bf16)
    = truncf (F := Ideal) .bf16 (m ((c : Thread nD τ).loc main_arg6)) bitsLt_bf16_f32 := by
  show StableHlo.after hostOps0 (fun b => m (c, b)) main_v6 = _
  unfold hostOps0; after_results

/-- The first half of the output projection's weight is its first 512 rows, the second the other 512. -/
theorem wlo_apply (w : Vec Ideal S1024x1024 .f32) (k : Fin 512) (q : Fin 1024) :
    (truncf (F := Ideal) .bf16 (extractStridedSlice S512x1024 ![0, 0] w slices_S1024x1024_S512x1024_0_0 : Vec Ideal S512x1024 .f32)
        bitsLt_bf16_f32 : Vec Ideal S512x1024 .bf16) (ix2 k q) = w (ix2 (⟨k.val, by omega⟩ : Fin 1024) q) := by
  pointwise
theorem whi_apply (w : Vec Ideal S1024x1024 .f32) (k : Fin 512) (q : Fin 1024) :
    (truncf (F := Ideal) .bf16 (extractStridedSlice S512x1024 ![512, 0] w slices_S1024x1024_S512x1024_512_0 : Vec Ideal S512x1024 .f32)
        bitsLt_bf16_f32 : Vec Ideal S512x1024 .bf16) (ix2 k q) = w (ix2 (⟨512 + k.val, by omega⟩ : Fin 1024) q) := by
  pointwise
theorem nw_apply (w : Vec Ideal S1024 .f32) (q : Fin 1024) :
    (broadcastInDim S1x1024 ![1] bcast_S1024_S1x1024_1 w : Vec Ideal S1x1024 .f32) (ix2 0 q) = w (ix1 q) := by
  pointwise

/-- The whole result array of the run from memory `m` on device `c`. -/
def final (c : Dev nD) : Vec Ideal S16384x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What point `t` writes back is its block of the whole array. -/
theorem flushed_eq (c : Dev nD) (t : Fin cfg0.N) :
    (dats m 0 c).flushed 8 t = ((cfg0.win 8).blk t).view.read (Elt Ideal) (final m c) := by
  rw [flushed8]
  obtain ⟨e0, e1⟩ := idx8 t
  have key : ∀ (p : Fin 512) (q : Fin 1024),
      out0_8 (iblk m c 0 t) (iblk m c 1 t) (iblk m c 2 t) (iblk m c 3 t) (iblk m c 4 t) (iblk m c 5 t) (iblk m c 6 t)
        (iblk m c 7 t) (ix2 p q) = final m c (ix2 (tok t p) q) := by
    intro p q
    rw [out_apply]
    unfold final G
    congr 1
    · funext q
      unfold resid
      refine congrArg₂ (· + ·) (congrArg₂ (· + ·) ((iblk0 m c t p q).trans (congrFun (V_main_arg0 m c) _))
        (Finset.sum_congr rfl fun k _ => congrArg₂ (· * ·) ((iblk1 m c t p k).trans (congrFun (V_main_arg1 m c) _)) ?_))
        (Finset.sum_congr rfl fun k _ => congrArg₂ (· * ·) ((iblk2 m c t p k).trans (congrFun (V_main_arg2 m c) _)) ?_)
      · exact (iblk3 m c t k q).trans ((congrFun (V_v1 m c) _).trans (wlo_apply _ k q))
      · exact (iblk4 m c t k q).trans ((congrFun (V_v3 m c) _).trans (whi_apply _ k q))
    · funext k; rw [iblk5, V_v4, nw_apply]
    · funext k f; rw [iblk6, V_v5]; rfl
    · funext f k; rw [iblk7, V_v6]; rfl
  funext j
  have hj : j = ix2 (j 0) (j 1) := by funext a; match a with
    | ⟨0, _⟩ => rfl
    | ⟨1, _⟩ => rfl
  show out0_8 (iblk m c 0 t) (iblk m c 1 t) (iblk m c 2 t) (iblk m c 3 t) (iblk m c 4 t) (iblk m c 5 t) (iblk m c 6 t)
        (iblk m c 7 t) j = final m c (((cfg0.win 8).blk t).view.emb j)
  refine ((congrArg (out0_8 (iblk m c 0 t) (iblk m c 1 t) (iblk m c 2 t) (iblk m c 3 t) (iblk m c 4 t) (iblk m c 5 t)
    (iblk m c 6 t) (iblk m c 7 t)) hj).trans (key (j 0) (j 1))).trans ?_
  congr 1; funext a; apply Fin.ext
  match a with
  | ⟨0, _⟩ => show t.val * 512 + (j 0).val = win0_8.index t (0 : Fin 2) * 512 + 1 * (j 0).val; omega
  | ⟨1, _⟩ => show (j 1).val = win0_8.index t (1 : Fin 2) * 1024 + 1 * (j 1).val; omega

/-- Every index of the result array lies in the block of the point its row falls in. -/
theorem covered (i : S16384x1024.Idx) :
    ∃ t : Fin cfg0.N, (cfg0.win 8).flush t = true ∧ i ∈ ((cfg0.win 8).blk t).view.set := by
  have h0 := (i 0).isLt
  have hN : cfg0.N = 32 := by decide
  have h0' : (i 0).val < 16384 := h0
  obtain ⟨t, ht⟩ : ∃ t : Fin cfg0.N, t.val = (i 0).val / 512 := ⟨⟨(i 0).val / 512, by omega⟩, rfl⟩
  refine ⟨t, flush0_8 _, ?_⟩
  have h := ((cfg0.win 8).blk t).view.emb_mem_set (ix2 (⟨(i 0).val % 512, by omega⟩ : Fin 512) (i 1) : S512x1024.Idx)
  obtain ⟨e0, e1⟩ := idx8 t
  have he : ((cfg0.win 8).blk t).view.emb (ix2 (⟨(i 0).val % 512, by omega⟩ : Fin 512) (i 1) : S512x1024.Idx) = i := by
    funext a; apply Fin.ext
    match a with
    | ⟨0, _⟩ => show win0_8.index t (0 : Fin 2) * 512 + 1 * ((i 0).val % 512) = (i 0).val; omega
    | ⟨1, _⟩ => show win0_8.index t (1 : Fin 2) * 1024 + 1 * (i 1).val = (i 1).val; omega
  rwa [he] at h

/-- The result array after the run. -/
theorem arr_eq (c : Dev nD) : (dats m 0 c).arrAt 8 cfg0.N = final m c :=
  (dats m 0 c).arrAt_eq_of_cover 8 (final m c) (fun t _ => flushed_eq m c t) covered

end Cert.Proof.Mlp

end
-- ==== Proof.MlpRef.lean ====
/-
  The reference of the output projection and the feed-forward part, read at an index: the same row function, at the
  residual stream with the two outputs side by side in one product; and the claim that the two programs agree.
-/
module

public import proofs.«01_k».proof.Proof.MlpValue
public import proofs.«01_k».proof.Proof.Gen.OutMlpReferenceIdeal.Read
public import proofs.«01_k».proof.Defs

@[expose] public section

set_option maxRecDepth 16384

noncomputable section

namespace Cert.Proof.Mlp

open Idealize.ShloMosaic Idealize.ShloMosaic.TcCoe Idealize.SL.Sem
open Cert.OutMlpReferenceIdeal Cert.OutMlpReferenceIdeal.Read
open Idealize.ShloMosaic.Pointwise

variable (x0 : Vec Ideal S16384x1024 .f32) (x1 x2 : Vec Ideal S16384x512 .bf16) (x3 : Vec Ideal S1024x1024 .f32)
  (x4 : Vec Ideal S1024 .f32) (x5 : Vec Ideal S1024x4096 .f32) (x6 : Vec Ideal S4096x1024 .f32)

/-- The two outputs side by side: the first 512 columns are the attention's, the others the recurrence's. -/
theorem cat_lo (r : Fin 16384) (k : Fin 512) :
    val_main_v2 (F := Ideal) x1 x2 (ix2 r (⟨k.val, by omega⟩ : Fin 1024)) = x1 (ix2 r k) := by
  unfold val_main_v2 val_main_v0 val_main_v1
  pointwise
theorem cat_hi (r : Fin 16384) (k : Fin 512) :
    val_main_v2 (F := Ideal) x1 x2 (ix2 r (⟨512 + k.val, by omega⟩ : Fin 1024)) = x2 (ix2 r k) := by
  unfold val_main_v2 val_main_v0 val_main_v1
  pointwise

/-- The reference's residual stream is the kernel's: the one sum over 1024 columns is the two sums over 512. -/
theorem v4_eq (r : Fin 16384) (q : Fin 1024) :
    val_main_v4 (F := Ideal) x0 x1 x2 x3 (ix2 r q) = resid x0 x1 x2 x3 r q := by
  have e : val_main_v4 (F := Ideal) x0 x1 x2 x3 (ix2 r q)
      = x0 (ix2 r q) + ∑ k : Fin 1024, val_main_v2 (F := Ideal) x1 x2 (ix2 r k) * x3 (ix2 k q) := by
    unfold val_main_v4 val_main_v3
    generalize val_main_v2 (F := Ideal) x1 x2 = y
    pointwise
  have h := Fin.sum_univ_two_halves 512 512 (by norm_num)
    (fun k : Fin 1024 => val_main_v2 (F := Ideal) x1 x2 (ix2 r k) * x3 (ix2 k q))
  rw [e, h]
  unfold resid
  rw [add_assoc]
  refine congrArg _ (congrArg₂ (· + ·) (Finset.sum_congr rfl fun k _ => ?_) (Finset.sum_congr rfl fun k _ => ?_))
  · exact congrArg (· * _) (cat_lo x1 x2 r k)
  · exact congrArg (· * _) (cat_hi x1 x2 r k)

/-- The reference's result array is the kernel's. -/
theorem ref_eq : val_main_v22 (F := Ideal) x0 x1 x2 x3 x4 x5 x6 = G x0 x1 x2 x3 x4 x5 x6 := by
  funext j
  idx_vars j
  unfold val_main_v22 val_main_v21 val_main_v20 val_main_v19 val_main_v18 val_main_v17 val_main_v16 val_main_v15 val_main_v14
    val_main_v13 val_main_v12 val_main_v11 val_main_v10 val_main_v9 val_main_v8 val_main_v7 val_main_v6 val_main_v5
    val_main_cst val_main_cst_0 val_main_cst_1 val_main_call0_v0 val_main_call0_cst
  generalize hy : val_main_v4 (F := Ideal) x0 x1 x2 x3 = y
  pointwise
  have hr : ∀ q, y (ix2 j0 q) = resid x0 x1 x2 x3 j0 q := fun q => by rw [← hy]; exact v4_eq x0 x1 x2 x3 j0 q
  simp only [hr]
  rfl

end Cert.Proof.Mlp

end
-- ==== Proof.MlpClaim.lean ====
/-
  The two programs of the output projection and the feed-forward part end with the same array.
-/
module

public import proofs.«01_k».proof.Proof.MlpRef

@[expose] public section

set_option maxRecDepth 16384

noncomputable section

namespace Cert.Proof.Mlp

open Idealize.ShloMosaic Idealize.ShloMosaic.TcCoe Idealize.SL.Sem

/-- The reference runs, leaves its arguments as they were, and every counter at zero. -/
theorem ref_frame : Cert.quiescent_OutMlpReferenceIdeal := fun m g _ =>
  (θ_run _ _ _).mono
    (fun r h => ⟨fun c => (h c).2, Idealize.ShloMosaic.sem_eq_zero_of_no_sems (by decide) r.2⟩)
    (Cert.OutMlpReferenceIdeal.Value.run m g)

/-- From equal arguments the kernel and the reference end with equal results. -/
theorem algebraic : Cert.algebraic_OutMlpIdeal_OutMlpReferenceIdeal := fun m g m' g' _ ha =>
  ⟨fun c => final m c,
    (θ_run _ _ _).mono (fun r h c => ⟨(h c).1.trans (arr_eq m c), (h c).2⟩) (Cert.OutMlpIdeal.Value.run_blocks m g),
    (θ_run _ _ _).mono (fun r h c => ⟨(h c).1.trans (by
        obtain ⟨a0, a1, a2, a3, a4, a5, a6⟩ := ha c
        rw [Cert.OutMlpReferenceIdeal.Read.val_main_v22_eq, a0, a1, a2, a3, a4, a5, a6]
        exact ref_eq _ _ _ _ _ _ _), (h c).2⟩) (Cert.OutMlpReferenceIdeal.Value.run m' g')⟩

end Cert.Proof.Mlp

end
-- ==== Proof.SsdDefs.lean ====
/-
  One chunk of the recurrence kernel as functions of the chunk's blocks and of the states before it, in the kernel's own
  operations: every chunk of the kernel is these functions.
-/
module

public import proofs.«01_k».proof.Proof.Gen.SsdIdeal.Value
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

variable {F : FTy → Type} [FloatOps F] [Named F]

/-- A narrow copy of a wide vector, and the wide copy of that. -/
abbrev nar {s : Shape} (t : FVec F s .f32) : FVec F s .bf16 := truncf .bf16 t bitsLt_bf16_f32
abbrev wid {s : Shape} (t : FVec F s .bf16) : FVec F s .f32 := extf .f32 t bitsLt_bf16_f32
/-- What the narrow copy of a wide vector leaves out. -/
abbrev rest {s : Shape} (t : FVec F s .f32) : FVec F s .f32 := subf t (wid (nar t))

/-- The logarithmic decays of a chunk's tokens, summed over the tokens up to each: tokens along the rows. -/
def acsCol (dtc : FVec F S128x128 .f32) (ar : FVec F S1x128 .f32) : FVec F S128x128 .f32 :=
  have t := mulf dtc (broadcastTo S128x128 ar broadcasts_S1x128_S128x128)
  addf (addf (matmul dot_S128x128_S128x128_S128x128_1_0_0_1_n_n none k0_pay10 (nar t) (constant S128x128 .f32 0x00000000#32))
      (matmul dot_S128x128_S128x128_S128x128_1_0_0_1_n_n none k0_pay10 (nar (rest t)) (constant S128x128 .f32 0x00000000#32)))
    (matmul dot_S128x128_S128x128_S128x128_1_0_0_1_n_n none k0_pay10 (nar (rest (rest t))) (constant S128x128 .f32 0x00000000#32))

/-- The same sums with the tokens along the columns. -/
def acsRow (dtr : FVec F S16x128 .f32) (ac : FVec F S16x1 .f32) : FVec F S16x128 .f32 :=
  have t := mulf dtr (broadcastTo S16x128 ac broadcasts_S16x1_S16x128)
  addf (addf (matmul dot_S16x128_S128x128_S16x128_1_0_0_1_n_n none (nar t) k0_pay11 (constant S16x128 .f32 0x00000000#32))
      (matmul dot_S16x128_S128x128_S16x128_1_0_0_1_n_n none (nar (rest t)) k0_pay11 (constant S16x128 .f32 0x00000000#32)))
    (matmul dot_S16x128_S128x128_S16x128_1_0_0_1_n_n none (nar (rest (rest t))) k0_pay11 (constant S16x128 .f32 0x00000000#32))

/-- The exponentials of the sums, each head's over the head's columns. -/
def eWide (acs : FVec F S128x128 .f32) : FVec F S128x512 .f32 :=
  addf (matmul dot_S128x128_S128x512_S128x512_1_0_0_1_n_n none (nar (exp2 acs)) kernelRun0_A.sl.v63 (constant S128x512 .f32 0x00000000#32))
    (matmul dot_S128x128_S128x512_S128x512_1_0_0_1_n_n none (nar (rest (exp2 acs))) kernelRun0_A.sl.v63 (constant S128x512 .f32 0x00000000#32))

/-- The two heads of a pair, one above the other, each with the other's columns at zero. -/
def xSplit (xp : FVec F S128x128 .bf16) : FVec F S256x128 .bf16 :=
  concatenate S256x128 0 [⟨S128x128, select k0_pay12 xp (broadcast S128x128 (Scalar.ofBits .bf16 0x0000#16))⟩,
    ⟨S128x128, select k0_pay12 (broadcast S128x128 (Scalar.ofBits .bf16 0x0000#16)) xp⟩] concatenates_S128x128_S128x128_S256x128_d0

/-- The products of C and B over a chunk's token pairs. -/
def cbDot (cg : FVec F S128x128 .bf16) (bg : FVec F S128x128 .f32) : FVec F S128x128 .f32 :=
  matmul dot_S128x128_S128x128_S128x128_1_1_0_0_n_n none cg (nar bg) (constant S128x128 .f32 0x00000000#32)

/-- One head's weights from a chunk's tokens to the same chunk's tokens. -/
def wDiag (cb : FVec F S128x128 .f32) (cA : FVec F S128x1 .f32) (rA dA : FVec F S1x128 .f32) : FVec F S128x128 .bf16 :=
  nar (mulf (mulf cb (exp2 (select k0_pay9 (subf (broadcastTo S128x128 cA broadcasts_S128x1_S128x128)
      (broadcastTo S128x128 rA broadcasts_S1x128_S128x128)) (broadcast S128x128 (Named.named κ "mask" 0xF149F2CA#32)))))
    (broadcastTo S128x128 dA broadcasts_S1x128_S128x128))

/-- One head's sum at the chunk's last token. -/
def lastOf (rA : FVec F S1x128 .f32) : FVec F S1x1 .f32 := extractStridedSlice S1x1 ![0, 127] rA slices_S1x128_o0_127_S1x1

/-- One head's weights from a chunk's tokens to the state after the chunk. -/
def wState (bt : FVec F S128x128 .f32) (rA dA : FVec F S1x128 .f32) : FVec F S128x128 .bf16 :=
  nar (mulf bt (broadcastTo S128x128 (mulf (exp2 (subf (broadcastTo S1x128 (lastOf rA) broadcasts_S1x1_S1x128) rA)) dA)
    broadcasts_S1x128_S128x128))

/-- Two heads' weights side by side, into the pair's values. -/
def pairDot (w0 w1 : FVec F S128x128 .bf16) (xp : FVec F S128x128 .bf16) : FVec F S128x128 .f32 :=
  matmul dot_S128x256_S256x128_S128x128_1_0_0_1_n_n none (concatenate S128x256 1 [⟨S128x128, w0⟩, ⟨S128x128, w1⟩] concatenates_S128x128_S128x128_S128x256_d1) (xSplit xp)
    (constant S128x128 .f32 0x00000000#32)

/-- The factor a chunk takes the state by, over a pair's columns. -/
def decayOf (rA rB : FVec F S1x128 .f32) : FVec F S1x128 .f32 :=
  select k0_pay13 (broadcastTo S1x128 (shapeCast S1x1 (exp2 (lastOf rA)) shapeCasts_S1x1_S1x1) broadcasts_S1x1_S1x128)
    (broadcastTo S1x128 (shapeCast S1x1 (exp2 (lastOf rB)) shapeCasts_S1x1_S1x1) broadcasts_S1x1_S1x128)

/-- A pair's part of the chunk's output: from the chunk's own tokens and from the state before it. -/
def yPair (cg : FVec F S128x128 .bf16) (bg : FVec F S128x128 .f32) (cA cB : FVec F S128x1 .f32) (rA rB dA dB : FVec F S1x128 .f32)
    (xp : FVec F S128x128 .bf16) (e s : FVec F S128x128 .f32) : FVec F S128x128 .f32 :=
  addf (pairDot (wDiag (cbDot cg bg) cA rA dA) (wDiag (cbDot cg bg) cB rB dB) xp)
    (mulf e (matmul dot_S128x128_S128x128_S128x128_1_0_0_1_n_n none cg (nar s) (constant S128x128 .f32 0x00000000#32)))

/-- A pair's state after the chunk. -/
def sPair (bg : FVec F S128x128 .f32) (rA rB dA dB : FVec F S1x128 .f32) (xp : FVec F S128x128 .bf16) (s : FVec F S128x128 .f32) :
    FVec F S128x128 .f32 :=
  addf (mulf (broadcastTo S128x128 (decayOf rA rB) broadcasts_S1x128_S128x128) s)
    (pairDot (wState (transpose S128x128 [1, 0] bg transposes_S128x128_p1_0_S128x128) rA dA)
      (wState (transpose S128x128 [1, 0] bg transposes_S128x128_p1_0_S128x128) rB dB) xp)

/-- One group's columns over their root mean square. -/
def rmsG (y : FVec F S128x256 .f32) : FVec F S128x256 .f32 :=
  mulf y (broadcastTo S128x256 (rsqrt (addf (divf (shapeCast S128x1 (multiReduction .add [1] S128 (mulf y y) 0x00000000#32
      reduces_S128x256_S128 (.inl rfl) rfl) shapeCasts_S128_S128x1) (broadcast S128x1 (Scalar.ofBits .f32 0x43800000#32)))
    (broadcast S128x1 (Scalar.ofBits .f32 0x358637BD#32)))) broadcasts_S128x1_S128x256)

/-- The chunk's output before the normalisation: the four pairs side by side, the skipped input added, times the gate. -/
def gated (y0 y1 y2 y3 : FVec F S128x128 .f32) (ds : FVec F S1x512 .f32) (xs gate : FVec F S128x512 .f32) : FVec F S128x512 .f32 :=
  mulf (addf (concatenate S128x512 1 [⟨S128x128, y0⟩, ⟨S128x128, y1⟩, ⟨S128x128, y2⟩, ⟨S128x128, y3⟩]
      concatenates_S128x128_S128x128_S128x128_S128x128_S128x512_d1)
    (mulf (broadcastTo S128x512 ds broadcasts_S1x512_S128x512) xs)) gate

/-- The chunk's block of the result. -/
def finish (z : FVec F S128x512 .f32) (nw : FVec F S1x512 .f32) : FVec F S1x128x512 .bf16 :=
  shapeCast S1x128x512 (nar (mulf (concatenate S128x512 1
      [⟨S128x256, rmsG (extractStridedSlice S128x256 ![0, 0] z slices_S128x512_o0_0_S128x256)⟩,
        ⟨S128x256, rmsG (extractStridedSlice S128x256 ![0, 256] z slices_S128x512_o0_256_S128x256)⟩]
      concatenates_S128x256_S128x256_S128x512_d1)
    (broadcastTo S128x512 nw broadcasts_S1x512_S128x512))) shapeCasts_S128x512_S1x128x512

/-- The columns of a chunk's activated convolution output: the inputs, B and C, and their parts by group and by pair. -/
def xsOf (act : FVec F S128x1024 .f32) : FVec F S128x512 .f32 := extractStridedSlice S128x512 ![0, 0] act slices_S128x1024_o0_0_S128x512
def bOf (act : FVec F S128x1024 .f32) : FVec F S128x256 .f32 := extractStridedSlice S128x256 ![0, 512] act slices_S128x1024_o0_512_S128x256
def cOf (act : FVec F S128x1024 .f32) : FVec F S128x256 .f32 := extractStridedSlice S128x256 ![0, 768] act slices_S128x1024_o0_768_S128x256
def bG0 (act : FVec F S128x1024 .f32) : FVec F S128x128 .f32 := extractStridedSlice S128x128 ![0, 0] (bOf act) slices_S128x256_o0_0_S128x128
def cG0 (act : FVec F S128x1024 .f32) : FVec F S128x128 .bf16 := nar (extractStridedSlice S128x128 ![0, 0] (cOf act) slices_S128x256_o0_0_S128x128)
def bG1 (act : FVec F S128x1024 .f32) : FVec F S128x128 .f32 := extractStridedSlice S128x128 ![0, 128] (bOf act) slices_S128x256_o0_128_S128x128
def cG1 (act : FVec F S128x1024 .f32) : FVec F S128x128 .bf16 := nar (extractStridedSlice S128x128 ![0, 128] (cOf act) slices_S128x256_o0_128_S128x128)
def xP0 (act : FVec F S128x1024 .f32) : FVec F S128x128 .bf16 := extractStridedSlice S128x128 ![0, 0] (nar (xsOf act)) slices_S128x512_o0_0_S128x128
def xP1 (act : FVec F S128x1024 .f32) : FVec F S128x128 .bf16 := extractStridedSlice S128x128 ![0, 128] (nar (xsOf act)) slices_S128x512_o0_128_S128x128
def xP2 (act : FVec F S128x1024 .f32) : FVec F S128x128 .bf16 := extractStridedSlice S128x128 ![0, 256] (nar (xsOf act)) slices_S128x512_o0_256_S128x128
def xP3 (act : FVec F S128x1024 .f32) : FVec F S128x128 .bf16 := extractStridedSlice S128x128 ![0, 384] (nar (xsOf act)) slices_S128x512_o0_384_S128x128

/-- Pair 0 of a chunk: its part of the output, and its state after the chunk. -/
def chunkY0 (act : FVec F S128x1024 .f32) (dtc : FVec F S128x128 .f32) (dtr : FVec F S16x128 .f32) (ar : FVec F S1x128 .f32)
    (ac : FVec F S16x1 .f32) (s : FVec F S128x128 .f32) : FVec F S128x128 .f32 :=
  yPair (cG0 act) (bG0 act) (extractStridedSlice S128x1 ![0, 0] (acsCol dtc ar) slices_S128x128_o0_0_S128x1)
    (extractStridedSlice S128x1 ![0, 1] (acsCol dtc ar) slices_S128x128_o0_1_S128x1)
    (extractStridedSlice S1x128 ![0, 0] (acsRow dtr ac) slices_S16x128_o0_0_S1x128)
    (extractStridedSlice S1x128 ![1, 0] (acsRow dtr ac) slices_S16x128_o1_0_S1x128)
    (extractStridedSlice S1x128 ![0, 0] dtr slices_S16x128_o0_0_S1x128) (extractStridedSlice S1x128 ![1, 0] dtr slices_S16x128_o1_0_S1x128)
    (xP0 act) (extractStridedSlice S128x128 ![0, 0] (eWide (acsCol dtc ar)) slices_S128x512_o0_0_S128x128) s
def chunkS0 (act : FVec F S128x1024 .f32) (dtr : FVec F S16x128 .f32) (ac : FVec F S16x1 .f32) (s : FVec F S128x128 .f32) :
    FVec F S128x128 .f32 :=
  sPair (bG0 act) (extractStridedSlice S1x128 ![0, 0] (acsRow dtr ac) slices_S16x128_o0_0_S1x128)
    (extractStridedSlice S1x128 ![1, 0] (acsRow dtr ac) slices_S16x128_o1_0_S1x128)
    (extractStridedSlice S1x128 ![0, 0] dtr slices_S16x128_o0_0_S1x128) (extractStridedSlice S1x128 ![1, 0] dtr slices_S16x128_o1_0_S1x128) (xP0 act) s

/-- Pair 1 of a chunk: its part of the output, and its state after the chunk. -/
def chunkY1 (act : FVec F S128x1024 .f32) (dtc : FVec F S128x128 .f32) (dtr : FVec F S16x128 .f32) (ar : FVec F S1x128 .f32)
    (ac : FVec F S16x1 .f32) (s : FVec F S128x128 .f32) : FVec F S128x128 .f32 :=
  yPair (cG0 act) (bG0 act) (extractStridedSlice S128x1 ![0, 2] (acsCol dtc ar) slices_S128x128_o0_2_S128x1)
    (extractStridedSlice S128x1 ![0, 3] (acsCol dtc ar) slices_S128x128_o0_3_S128x1)
    (extractStridedSlice S1x128 ![2, 0] (acsRow dtr ac) slices_S16x128_o2_0_S1x128)
    (extractStridedSlice S1x128 ![3, 0] (acsRow dtr ac) slices_S16x128_o3_0_S1x128)
    (extractStridedSlice S1x128 ![2, 0] dtr slices_S16x128_o2_0_S1x128) (extractStridedSlice S1x128 ![3, 0] dtr slices_S16x128_o3_0_S1x128)
    (xP1 act) (extractStridedSlice S128x128 ![0, 128] (eWide (acsCol dtc ar)) slices_S128x512_o0_128_S128x128) s
def chunkS1 (act : FVec F S128x1024 .f32) (dtr : FVec F S16x128 .f32) (ac : FVec F S16x1 .f32) (s : FVec F S128x128 .f32) :
    FVec F S128x128 .f32 :=
  sPair (bG0 act) (extractStridedSlice S1x128 ![2, 0] (acsRow dtr ac) slices_S16x128_o2_0_S1x128)
    (extractStridedSlice S1x128 ![3, 0] (acsRow dtr ac) slices_S16x128_o3_0_S1x128)
    (extractStridedSlice S1x128 ![2, 0] dtr slices_S16x128_o2_0_S1x128) (extractStridedSlice S1x128 ![3, 0] dtr slices_S16x128_o3_0_S1x128) (xP1 act) s

/-- Pair 2 of a chunk: its part of the output, and its state after the chunk. -/
def chunkY2 (act : FVec F S128x1024 .f32) (dtc : FVec F S128x128 .f32) (dtr : FVec F S16x128 .f32) (ar : FVec F S1x128 .f32)
    (ac : FVec F S16x1 .f32) (s : FVec F S128x128 .f32) : FVec F S128x128 .f32 :=
  yPair (cG1 act) (bG1 act) (extractStridedSlice S128x1 ![0, 4] (acsCol dtc ar) slices_S128x128_o0_4_S128x1)
    (extractStridedSlice S128x1 ![0, 5] (acsCol dtc ar) slices_S128x128_o0_5_S128x1)
    (extractStridedSlice S1x128 ![4, 0] (acsRow dtr ac) slices_S16x128_o4_0_S1x128)
    (extractStridedSlice S1x128 ![5, 0] (acsRow dtr ac) slices_S16x128_o5_0_S1x128)
    (extractStridedSlice S1x128 ![4, 0] dtr slices_S16x128_o4_0_S1x128) (extractStridedSlice S1x128 ![5, 0] dtr slices_S16x128_o5_0_S1x128)
    (xP2 act) (extractStridedSlice S128x128 ![0, 256] (eWide (acsCol dtc ar)) slices_S128x512_o0_256_S128x128) s
def chunkS2 (act : FVec F S128x1024 .f32) (dtr : FVec F S16x128 .f32) (ac : FVec F S16x1 .f32) (s : FVec F S128x128 .f32) :
    FVec F S128x128 .f32 :=
  sPair (bG1 act) (extractStridedSlice S1x128 ![4, 0] (acsRow dtr ac) slices_S16x128_o4_0_S1x128)
    (extractStridedSlice S1x128 ![5, 0] (acsRow dtr ac) slices_S16x128_o5_0_S1x128)
    (extractStridedSlice S1x128 ![4, 0] dtr slices_S16x128_o4_0_S1x128) (extractStridedSlice S1x128 ![5, 0] dtr slices_S16x128_o5_0_S1x128) (xP2 act) s

/-- Pair 3 of a chunk: its part of the output, and its state after the chunk. -/
def chunkY3 (act : FVec F S128x1024 .f32) (dtc : FVec F S128x128 .f32) (dtr : FVec F S16x128 .f32) (ar : FVec F S1x128 .f32)
    (ac : FVec F S16x1 .f32) (s : FVec F S128x128 .f32) : FVec F S128x128 .f32 :=
  yPair (cG1 act) (bG1 act) (extractStridedSlice S128x1 ![0, 6] (acsCol dtc ar) slices_S128x128_o0_6_S128x1)
    (extractStridedSlice S128x1 ![0, 7] (acsCol dtc ar) slices_S128x128_o0_7_S128x1)
    (extractStridedSlice S1x128 ![6, 0] (acsRow dtr ac) slices_S16x128_o6_0_S1x128)
    (extractStridedSlice S1x128 ![7, 0] (acsRow dtr ac) slices_S16x128_o7_0_S1x128)
    (extractStridedSlice S1x128 ![6, 0] dtr slices_S16x128_o6_0_S1x128) (extractStridedSlice S1x128 ![7, 0] dtr slices_S16x128_o7_0_S1x128)
    (xP3 act) (extractStridedSlice S128x128 ![0, 384] (eWide (acsCol dtc ar)) slices_S128x512_o0_384_S128x128) s
def chunkS3 (act : FVec F S128x1024 .f32) (dtr : FVec F S16x128 .f32) (ac : FVec F S16x1 .f32) (s : FVec F S128x128 .f32) :
    FVec F S128x128 .f32 :=
  sPair (bG1 act) (extractStridedSlice S1x128 ![6, 0] (acsRow dtr ac) slices_S16x128_o6_0_S1x128)
    (extractStridedSlice S1x128 ![7, 0] (acsRow dtr ac) slices_S16x128_o7_0_S1x128)
    (extractStridedSlice S1x128 ![6, 0] dtr slices_S16x128_o6_0_S1x128) (extractStridedSlice S1x128 ![7, 0] dtr slices_S16x128_o7_0_S1x128) (xP3 act) s

/-- The chunk's block of the result, from the blocks of the arguments, the constants and the four states before it. -/
def chunkOut (act : FVec F S128x1024 .f32) (gate : FVec F S128x512 .f32) (dtc : FVec F S128x128 .f32) (dtr : FVec F S16x128 .f32)
    (ar : FVec F S1x128 .f32) (ac : FVec F S16x1 .f32) (ds nw : FVec F S1x512 .f32) (s0 s1 s2 s3 : FVec F S128x128 .f32) :
    FVec F S1x128x512 .bf16 :=
  finish (gated (chunkY0 act dtc dtr ar ac s0) (chunkY1 act dtc dtr ar ac s1) (chunkY2 act dtc dtr ar ac s2)
    (chunkY3 act dtc dtr ar ac s3) ds (xsOf act) gate) nw

end Cert.Proof.Ssd

end
-- ==== Proof.SsdChunks.lean ====
/-
  The kernel's chunks are the chunk functions.
-/
module

public import proofs.«01_k».proof.Proof.SsdDefs
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

set_option maxHeartbeats 4000000
variable {F : FTy → Type} [FloatOps F] [Named F] (c : Dev nD)
  (arg2 : Memref sig .tc .vmem S1x2048x1024 .f32) (harg2 : arg2.IsWhole)
  (arg3 : Memref sig .tc .vmem S1x2048x512 .f32) (harg3 : arg3.IsWhole)
  (arg4 : Memref sig .tc .vmem S1x2048x128 .f32) (harg4 : arg4.IsWhole)
  (arg5 : Memref sig .tc .vmem S1x16x2048 .f32) (harg5 : arg5.IsWhole)
  (arg6 : Memref sig .tc .vmem S1x128 .f32) (harg6 : arg6.IsWhole)
  (arg7 : Memref sig .tc .vmem S16x1 .f32) (harg7 : arg7.IsWhole)
  (arg8 : Memref sig .tc .vmem S1x512 .f32) (harg8 : arg8.IsWhole)
  (arg9 : Memref sig .tc .vmem S1x512 .f32) (harg9 : arg9.IsWhole)
  (arg11 : Memref sig .tc .vmem S4x128x128 .f32)
  (x0 : Vec F S1x2048x1024 .f32) (x1 : Vec F S1x2048x512 .f32) (x2 : Vec F S1x2048x128 .f32) (x3 : Vec F S1x16x2048 .f32) (x4 : Vec F S1x128 .f32) (x5 : Vec F S16x1 .f32) (x6 : Vec F S1x512 .f32) (x7 : Vec F S1x512 .f32)

/-- The constants of the loads of whole blocks. -/
abbrev arV := k0_pay7 (View.readAt (Elt F) arg6.view (Rect.unit (s := S1x128) ![0, 0] S1x128.size inb_S1x128_S1x128_0_0).toLoadRect (harg6.unread x4))
abbrev acV := k0_pay8 (View.readAt (Elt F) arg7.view (Rect.unit (s := S16x1) ![0, 0] S16x1.size inb_S16x1_S16x1_0_0).toLoadRect (harg7.unread x5))
abbrev dsV := shapeCast S1x512 (View.readAt (Elt F) arg8.view (Rect.unit (s := S1x512) ![0, 0] S1x512.size inb_S1x512_S1x512_0_0).toLoadRect (harg8.unread x6)) shapeCasts_S1x512_S1x512
abbrev nwV := shapeCast S1x512 (View.readAt (Elt F) arg9.view (Rect.unit (s := S1x512) ![0, 0] S1x512.size inb_S1x512_S1x512_0_0).toLoadRect (harg9.unread x7)) shapeCasts_S1x512_S1x512

/-- Chunk 0 of the kernel. -/
theorem out0 : (kernelRun0_A.sl.v723 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 0, 0] S1x128x1024.size inb_S1x2048x1024_S1x128x1024_0_0_0).toLoadRect (harg2.unread x0)) shapeCasts_S1x128x1024_S128x1024)
      (shapeCast S128x512 (View.readAt (Elt F) arg3.view (Rect.unit (s := S1x2048x512) ![0, 0, 0] S1x128x512.size inb_S1x2048x512_S1x128x512_0_0_0).toLoadRect (harg3.unread x1)) shapeCasts_S1x128x512_S128x512)
      (shapeCast S128x128 (View.readAt (Elt F) arg4.view (Rect.unit (s := S1x2048x128) ![0, 0, 0] S1x128x128.size inb_S1x2048x128_S1x128x128_0_0_0).toLoadRect (harg4.unread x2)) shapeCasts_S1x128x128_S128x128)
      (shapeCast S16x128 (View.readAt (Elt F) arg5.view (Rect.unit (s := S1x16x2048) ![0, 0, 0] S1x16x128.size inb_S1x16x2048_S1x16x128_0_0_0).toLoadRect (harg5.unread x3)) shapeCasts_S1x16x128_S16x128)
      (arV arg6 harg6 x4) (acV arg7 harg7 x5) (dsV arg8 harg8 x6) (nwV arg9 harg9 x7)
      (kernelRun0_A.sl.v65 c arg11)
      (kernelRun0_A.sl.v67 c arg11)
      (kernelRun0_A.sl.v69 c arg11)
      (kernelRun0_A.sl.v71 c arg11) := rfl
theorem st1_0 : (kernelRun0_A.sl.r_74 c arg2 harg2 arg5 harg5 arg7 harg7 arg11 x0 x3 x5)
    = chunkS0 (shapeCast S128x1024 (View.readAt (Elt F) arg2.view (Rect.unit (s := S1x2048x1024) ![0, 0, 0] S1x128x1024.size inb_S1x2048x1024_S1x128x1024_0_0_0).toLoadRect (harg2.unread x0)) shapeCasts_S1x128x1024_S128x1024)
      (shapeCast S16x128 (View.readAt (Elt F) arg5.view (Rect.unit (s := S1x16x2048) ![0, 0, 0] S1x16x128.size inb_S1x16x2048_S1x16x128_0_0_0).toLoadRect (harg5.unread x3)) shapeCasts_S1x16x128_S16x128) (acV arg7 harg7 x5)
      (kernelRun0_A.sl.v65 c arg11) := rfl
theorem st1_1 : (kernelRun0_A.sl.v667 c arg2 harg2 arg5 harg5 arg7 harg7 arg11 x0 x3 x5)
    = chunkS1 (shapeCast S128x1024 (View.readAt (Elt F) arg2.view (Rect.unit (s := S1x2048x1024) ![0, 0, 0] S1x128x1024.size inb_S1x2048x1024_S1x128x1024_0_0_0).toLoadRect (harg2.unread x0)) shapeCasts_S1x128x1024_S128x1024)
      (shapeCast S16x128 (View.readAt (Elt F) arg5.view (Rect.unit (s := S1x16x2048) ![0, 0, 0] S1x16x128.size inb_S1x16x2048_S1x16x128_0_0_0).toLoadRect (harg5.unread x3)) shapeCasts_S1x16x128_S16x128) (acV arg7 harg7 x5)
      (kernelRun0_A.sl.v67 c arg11) := rfl
theorem st1_2 : (kernelRun0_A.sl.v675 c arg2 harg2 arg5 harg5 arg7 harg7 arg11 x0 x3 x5)
    = chunkS2 (shapeCast S128x1024 (View.readAt (Elt F) arg2.view (Rect.unit (s := S1x2048x1024) ![0, 0, 0] S1x128x1024.size inb_S1x2048x1024_S1x128x1024_0_0_0).toLoadRect (harg2.unread x0)) shapeCasts_S1x128x1024_S128x1024)
      (shapeCast S16x128 (View.readAt (Elt F) arg5.view (Rect.unit (s := S1x16x2048) ![0, 0, 0] S1x16x128.size inb_S1x16x2048_S1x16x128_0_0_0).toLoadRect (harg5.unread x3)) shapeCasts_S1x16x128_S16x128) (acV arg7 harg7 x5)
      (kernelRun0_A.sl.v69 c arg11) := rfl
theorem st1_3 : (kernelRun0_A.sl.v683 c arg2 harg2 arg5 harg5 arg7 harg7 arg11 x0 x3 x5)
    = chunkS3 (shapeCast S128x1024 (View.readAt (Elt F) arg2.view (Rect.unit (s := S1x2048x1024) ![0, 0, 0] S1x128x1024.size inb_S1x2048x1024_S1x128x1024_0_0_0).toLoadRect (harg2.unread x0)) shapeCasts_S1x128x1024_S128x1024)
      (shapeCast S16x128 (View.readAt (Elt F) arg5.view (Rect.unit (s := S1x16x2048) ![0, 0, 0] S1x16x128.size inb_S1x16x2048_S1x16x128_0_0_0).toLoadRect (harg5.unread x3)) shapeCasts_S1x16x128_S16x128) (acV arg7 harg7 x5)
      (kernelRun0_A.sl.v71 c arg11) := rfl

/-- Chunk 1 of the kernel. -/
theorem out1 : (kernelRun0_A.sl.v1085 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 128, 0] S1x128x1024.size inb_S1x2048x1024_S1x128x1024_0_128_0).toLoadRect (harg2.unread x0)) shapeCasts_S1x128x1024_S128x1024)
      (shapeCast S128x512 (View.readAt (Elt F) arg3.view (Rect.unit (s := S1x2048x512) ![0, 128, 0] S1x128x512.size inb_S1x2048x512_S1x128x512_0_128_0).toLoadRect (harg3.unread x1)) shapeCasts_S1x128x512_S128x512)
      (shapeCast S128x128 (View.readAt (Elt F) arg4.view (Rect.unit (s := S1x2048x128) ![0, 128, 0] S1x128x128.size inb_S1x2048x128_S1x128x128_0_128_0).toLoadRect (harg4.unread x2)) shapeCasts_S1x128x128_S128x128)
      (shapeCast S16x128 (View.readAt (Elt F) arg5.view (Rect.unit (s := S1x16x2048) ![0, 0, 128] S1x16x128.size inb_S1x16x2048_S1x16x128_0_0_128).toLoadRect (harg5.unread x3)) shapeCasts_S1x16x128_S16x128)
      (arV arg6 harg6 x4) (acV arg7 harg7 x5) (dsV arg8 harg8 x6) (nwV arg9 harg9 x7)
      (kernelRun0_A.sl.r_74 c arg2 harg2 arg5 harg5 arg7 harg7 arg11 x0 x3 x5)
      (kernelRun0_A.sl.v667 c arg2 harg2 arg5 harg5 arg7 harg7 arg11 x0 x3 x5)
      (kernelRun0_A.sl.v675 c arg2 harg2 arg5 harg5 arg7 harg7 arg11 x0 x3 x5)
      (kernelRun0_A.sl.v683 c arg2 harg2 arg5 harg5 arg7 harg7 arg11 x0 x3 x5) := rfl
theorem st2_0 : (kernelRun0_A.sl.r_114 c arg2 harg2 arg5 harg5 arg7 harg7 arg11 x0 x3 x5)
    = chunkS0 (shapeCast S128x1024 (View.readAt (Elt F) arg2.view (Rect.unit (s := S1x2048x1024) ![0, 128, 0] S1x128x1024.size inb_S1x2048x1024_S1x128x1024_0_128_0).toLoadRect (harg2.unread x0)) shapeCasts_S1x128x1024_S128x1024)
      (shapeCast S16x128 (View.readAt (Elt F) arg5.view (Rect.unit (s := S1x16x2048) ![0, 0, 128] S1x16x128.size inb_S1x16x2048_S1x16x128_0_0_128).toLoadRect (harg5.unread x3)) shapeCasts_S1x16x128_S16x128) (acV arg7 harg7 x5)
      (kernelRun0_A.sl.r_74 c arg2 harg2 arg5 harg5 arg7 harg7 arg11 x0 x3 x5) := rfl
theorem st2_1 : (kernelRun0_A.sl.v1029 c arg2 harg2 arg5 harg5 arg7 harg7 arg11 x0 x3 x5)
    = chunkS1 (shapeCast S128x1024 (View.readAt (Elt F) arg2.view (Rect.unit (s := S1x2048x1024) ![0, 128, 0] S1x128x1024.size inb_S1x2048x1024_S1x128x1024_0_128_0).toLoadRect (harg2.unread x0)) shapeCasts_S1x128x1024_S128x1024)
      (shapeCast S16x128 (View.readAt (Elt F) arg5.view (Rect.unit (s := S1x16x2048) ![0, 0, 128] S1x16x128.size inb_S1x16x2048_S1x16x128_0_0_128).toLoadRect (harg5.unread x3)) shapeCasts_S1x16x128_S16x128) (acV arg7 harg7 x5)
      (kernelRun0_A.sl.v667 c arg2 harg2 arg5 harg5 arg7 harg7 arg11 x0 x3 x5) := rfl
theorem st2_2 : (kernelRun0_A.sl.v1037 c arg2 harg2 arg5 harg5 arg7 harg7 arg11 x0 x3 x5)
    = chunkS2 (shapeCast S128x1024 (View.readAt (Elt F) arg2.view (Rect.unit (s := S1x2048x1024) ![0, 128, 0] S1x128x1024.size inb_S1x2048x1024_S1x128x1024_0_128_0).toLoadRect (harg2.unread x0)) shapeCasts_S1x128x1024_S128x1024)
      (shapeCast S16x128 (View.readAt (Elt F) arg5.view (Rect.unit (s := S1x16x2048) ![0, 0, 128] S1x16x128.size inb_S1x16x2048_S1x16x128_0_0_128).toLoadRect (harg5.unread x3)) shapeCasts_S1x16x128_S16x128) (acV arg7 harg7 x5)
      (kernelRun0_A.sl.v675 c arg2 harg2 arg5 harg5 arg7 harg7 arg11 x0 x3 x5) := rfl
theorem st2_3 : (kernelRun0_A.sl.v1045 c arg2 harg2 arg5 harg5 arg7 harg7 arg11 x0 x3 x5)
    = chunkS3 (shapeCast S128x1024 (View.readAt (Elt F) arg2.view (Rect.unit (s := S1x2048x1024) ![0, 128, 0] S1x128x1024.size inb_S1x2048x1024_S1x128x1024_0_128_0).toLoadRect (harg2.unread x0)) shapeCasts_S1x128x1024_S128x1024)
      (shapeCast S16x128 (View.readAt (Elt F) arg5.view (Rect.unit (s := S1x16x2048) ![0, 0, 128] S1x16x128.size inb_S1x16x2048_S1x16x128_0_0_128).toLoadRect (harg5.unread x3)) shapeCasts_S1x16x128_S16x128) (acV arg7 harg7 x5)
      (kernelRun0_A.sl.v683 c arg2 harg2 arg5 harg5 arg7 harg7 arg11 x0 x3 x5) := rfl

/-- Chunk 2 of the kernel. -/
theorem out2 : (kernelRun0_A.sl.v1447 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 256, 0] S1x128x1024.size inb_S1x2048x1024_S1x128x1024_0_256_0).toLoadRect (harg2.unread x0)) shapeCasts_S1x128x1024_S128x1024)
      (shapeCast S128x512 (View.readAt (Elt F) arg3.view (Rect.unit (s := S1x2048x512) ![0, 256, 0] S1x128x512.size inb_S1x2048x512_S1x128x512_0_256_0).toLoadRect (harg3.unread x1)) shapeCasts_S1x128x512_S128x512)
      (shapeCast S128x128 (View.readAt (Elt F) arg4.view (Rect.unit (s := S1x2048x128) ![0, 256, 0] S1x128x128.size inb_S1x2048x128_S1x128x128_0_256_0).toLoadRect (harg4.unread x2)) shapeCasts_S1x128x128_S128x128)
      (shapeCast S16x128 (View.readAt (Elt F) arg5.view (Rect.unit (s := S1x16x2048) ![0, 0, 256] S1x16x128.size inb_S1x16x2048_S1x16x128_0_0_256).toLoadRect (harg5.unread x3)) shapeCasts_S1x16x128_S16x128)
      (arV arg6 harg6 x4) (acV arg7 harg7 x5) (dsV arg8 harg8 x6) (nwV arg9 harg9 x7)
      (kernelRun0_A.sl.r_114 c arg2 harg2 arg5 harg5 arg7 harg7 arg11 x0 x3 x5)
      (kernelRun0_A.sl.v1029 c arg2 harg2 arg5 harg5 arg7 harg7 arg11 x0 x3 x5)
      (kernelRun0_A.sl.v1037 c arg2 harg2 arg5 harg5 arg7 harg7 arg11 x0 x3 x5)
      (kernelRun0_A.sl.v1045 c arg2 harg2 arg5 harg5 arg7 harg7 arg11 x0 x3 x5) := rfl
theorem st3_0 : (kernelRun0_A.sl.v1383 c arg2 harg2 arg5 harg5 arg7 harg7 arg11 x0 x3 x5)
    = chunkS0 (shapeCast S128x1024 (View.readAt (Elt F) arg2.view (Rect.unit (s := S1x2048x1024) ![0, 256, 0] S1x128x1024.size inb_S1x2048x1024_S1x128x1024_0_256_0).toLoadRect (harg2.unread x0)) shapeCasts_S1x128x1024_S128x1024)
      (shapeCast S16x128 (View.readAt (Elt F) arg5.view (Rect.unit (s := S1x16x2048) ![0, 0, 256] S1x16x128.size inb_S1x16x2048_S1x16x128_0_0_256).toLoadRect (harg5.unread x3)) shapeCasts_S1x16x128_S16x128) (acV arg7 harg7 x5)
      (kernelRun0_A.sl.r_114 c arg2 harg2 arg5 harg5 arg7 harg7 arg11 x0 x3 x5) := rfl
theorem st3_1 : (kernelRun0_A.sl.v1391 c arg2 harg2 arg5 harg5 arg7 harg7 arg11 x0 x3 x5)
    = chunkS1 (shapeCast S128x1024 (View.readAt (Elt F) arg2.view (Rect.unit (s := S1x2048x1024) ![0, 256, 0] S1x128x1024.size inb_S1x2048x1024_S1x128x1024_0_256_0).toLoadRect (harg2.unread x0)) shapeCasts_S1x128x1024_S128x1024)
      (shapeCast S16x128 (View.readAt (Elt F) arg5.view (Rect.unit (s := S1x16x2048) ![0, 0, 256] S1x16x128.size inb_S1x16x2048_S1x16x128_0_0_256).toLoadRect (harg5.unread x3)) shapeCasts_S1x16x128_S16x128) (acV arg7 harg7 x5)
      (kernelRun0_A.sl.v1029 c arg2 harg2 arg5 harg5 arg7 harg7 arg11 x0 x3 x5) := rfl
theorem st3_2 : (kernelRun0_A.sl.v1399 c arg2 harg2 arg5 harg5 arg7 harg7 arg11 x0 x3 x5)
    = chunkS2 (shapeCast S128x1024 (View.readAt (Elt F) arg2.view (Rect.unit (s := S1x2048x1024) ![0, 256, 0] S1x128x1024.size inb_S1x2048x1024_S1x128x1024_0_256_0).toLoadRect (harg2.unread x0)) shapeCasts_S1x128x1024_S128x1024)
      (shapeCast S16x128 (View.readAt (Elt F) arg5.view (Rect.unit (s := S1x16x2048) ![0, 0, 256] S1x16x128.size inb_S1x16x2048_S1x16x128_0_0_256).toLoadRect (harg5.unread x3)) shapeCasts_S1x16x128_S16x128) (acV arg7 harg7 x5)
      (kernelRun0_A.sl.v1037 c arg2 harg2 arg5 harg5 arg7 harg7 arg11 x0 x3 x5) := rfl
theorem st3_3 : (kernelRun0_A.sl.v1407 c arg2 harg2 arg5 harg5 arg7 harg7 arg11 x0 x3 x5)
    = chunkS3 (shapeCast S128x1024 (View.readAt (Elt F) arg2.view (Rect.unit (s := S1x2048x1024) ![0, 256, 0] S1x128x1024.size inb_S1x2048x1024_S1x128x1024_0_256_0).toLoadRect (harg2.unread x0)) shapeCasts_S1x128x1024_S128x1024)
      (shapeCast S16x128 (View.readAt (Elt F) arg5.view (Rect.unit (s := S1x16x2048) ![0, 0, 256] S1x16x128.size inb_S1x16x2048_S1x16x128_0_0_256).toLoadRect (harg5.unread x3)) shapeCasts_S1x16x128_S16x128) (acV arg7 harg7 x5)
      (kernelRun0_A.sl.v1045 c arg2 harg2 arg5 harg5 arg7 harg7 arg11 x0 x3 x5) := rfl

/-- Chunk 3 of the kernel. -/
theorem out3 : (kernelRun0_A.sl.v1809 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 384, 0] S1x128x1024.size inb_S1x2048x1024_S1x128x1024_0_384_0).toLoadRect (harg2.unread x0)) shapeCasts_S1x128x1024_S128x1024)
      (shapeCast S128x512 (View.readAt (Elt F) arg3.view (Rect.unit (s := S1x2048x512) ![0, 384, 0] S1x128x512.size inb_S1x2048x512_S1x128x512_0_384_0).toLoadRect (harg3.unread x1)) shapeCasts_S1x128x512_S128x512)
      (shapeCast S128x128 (View.readAt (Elt F) arg4.view (Rect.unit (s := S1x2048x128) ![0, 384, 0] S1x128x128.size inb_S1x2048x128_S1x128x128_0_384_0).toLoadRect (harg4.unread x2)) shapeCasts_S1x128x128_S128x128)
      (shapeCast S16x128 (View.readAt (Elt F) arg5.view (Rect.unit (s := S1x16x2048) ![0, 0, 384] S1x16x128.size inb_S1x16x2048_S1x16x128_0_0_384).toLoadRect (harg5.unread x3)) shapeCasts_S1x16x128_S16x128)
      (arV arg6 harg6 x4) (acV arg7 harg7 x5) (dsV arg8 harg8 x6) (nwV arg9 harg9 x7)
      (kernelRun0_A.sl.v1383 c arg2 harg2 arg5 harg5 arg7 harg7 arg11 x0 x3 x5)
      (kernelRun0_A.sl.v1391 c arg2 harg2 arg5 harg5 arg7 harg7 arg11 x0 x3 x5)
      (kernelRun0_A.sl.v1399 c arg2 harg2 arg5 harg5 arg7 harg7 arg11 x0 x3 x5)
      (kernelRun0_A.sl.v1407 c arg2 harg2 arg5 harg5 arg7 harg7 arg11 x0 x3 x5) := rfl
theorem st4_0 : (kernelRun0_A.sl.v1745 c arg2 harg2 arg5 harg5 arg7 harg7 arg11 x0 x3 x5)
    = chunkS0 (shapeCast S128x1024 (View.readAt (Elt F) arg2.view (Rect.unit (s := S1x2048x1024) ![0, 384, 0] S1x128x1024.size inb_S1x2048x1024_S1x128x1024_0_384_0).toLoadRect (harg2.unread x0)) shapeCasts_S1x128x1024_S128x1024)
      (shapeCast S16x128 (View.readAt (Elt F) arg5.view (Rect.unit (s := S1x16x2048) ![0, 0, 384] S1x16x128.size inb_S1x16x2048_S1x16x128_0_0_384).toLoadRect (harg5.unread x3)) shapeCasts_S1x16x128_S16x128) (acV arg7 harg7 x5)
      (kernelRun0_A.sl.v1383 c arg2 harg2 arg5 harg5 arg7 harg7 arg11 x0 x3 x5) := rfl
theorem st4_1 : (kernelRun0_A.sl.v1753 c arg2 harg2 arg5 harg5 arg7 harg7 arg11 x0 x3 x5)
    = chunkS1 (shapeCast S128x1024 (View.readAt (Elt F) arg2.view (Rect.unit (s := S1x2048x1024) ![0, 384, 0] S1x128x1024.size inb_S1x2048x1024_S1x128x1024_0_384_0).toLoadRect (harg2.unread x0)) shapeCasts_S1x128x1024_S128x1024)
      (shapeCast S16x128 (View.readAt (Elt F) arg5.view (Rect.unit (s := S1x16x2048) ![0, 0, 384] S1x16x128.size inb_S1x16x2048_S1x16x128_0_0_384).toLoadRect (harg5.unread x3)) shapeCasts_S1x16x128_S16x128) (acV arg7 harg7 x5)
      (kernelRun0_A.sl.v1391 c arg2 harg2 arg5 harg5 arg7 harg7 arg11 x0 x3 x5) := rfl
theorem st4_2 : (kernelRun0_A.sl.v1761 c arg2 harg2 arg5 harg5 arg7 harg7 arg11 x0 x3 x5)
    = chunkS2 (shapeCast S128x1024 (View.readAt (Elt F) arg2.view (Rect.unit (s := S1x2048x1024) ![0, 384, 0] S1x128x1024.size inb_S1x2048x1024_S1x128x1024_0_384_0).toLoadRect (harg2.unread x0)) shapeCasts_S1x128x1024_S128x1024)
      (shapeCast S16x128 (View.readAt (Elt F) arg5.view (Rect.unit (s := S1x16x2048) ![0, 0, 384] S1x16x128.size inb_S1x16x2048_S1x16x128_0_0_384).toLoadRect (harg5.unread x3)) shapeCasts_S1x16x128_S16x128) (acV arg7 harg7 x5)
      (kernelRun0_A.sl.v1399 c arg2 harg2 arg5 harg5 arg7 harg7 arg11 x0 x3 x5) := rfl
theorem st4_3 : (kernelRun0_A.sl.v1769 c arg2 harg2 arg5 harg5 arg7 harg7 arg11 x0 x3 x5)
    = chunkS3 (shapeCast S128x1024 (View.readAt (Elt F) arg2.view (Rect.unit (s := S1x2048x1024) ![0, 384, 0] S1x128x1024.size inb_S1x2048x1024_S1x128x1024_0_384_0).toLoadRect (harg2.unread x0)) shapeCasts_S1x128x1024_S128x1024)
      (shapeCast S16x128 (View.readAt (Elt F) arg5.view (Rect.unit (s := S1x16x2048) ![0, 0, 384] S1x16x128.size inb_S1x16x2048_S1x16x128_0_0_384).toLoadRect (harg5.unread x3)) shapeCasts_S1x16x128_S16x128) (acV arg7 harg7 x5)
      (kernelRun0_A.sl.v1407 c arg2 harg2 arg5 harg5 arg7 harg7 arg11 x0 x3 x5) := rfl

/-- Chunk 4 of the kernel. -/
theorem out4 : (kernelRun0_A.sl.v2171 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 512, 0] S1x128x1024.size inb_S1x2048x1024_S1x128x1024_0_512_0).toLoadRect (harg2.unread x0)) shapeCasts_S1x128x1024_S128x1024)
      (shapeCast S128x512 (View.readAt (Elt F) arg3.view (Rect.unit (s := S1x2048x512) ![0, 512, 0] S1x128x512.size inb_S1x2048x512_S1x128x512_0_512_0).toLoadRect (harg3.unread x1)) shapeCasts_S1x128x512_S128x512)
      (shapeCast S128x128 (View.readAt (Elt F) arg4.view (Rect.unit (s := S1x2048x128) ![0, 512, 0] S1x128x128.size inb_S1x2048x128_S1x128x128_0_512_0).toLoadRect (harg4.unread x2)) shapeCasts_S1x128x128_S128x128)
      (shapeCast S16x128 (View.readAt (Elt F) arg5.view (Rect.unit (s := S1x16x2048) ![0, 0, 512] S1x16x128.size inb_S1x16x2048_S1x16x128_0_0_512).toLoadRect (harg5.unread x3)) shapeCasts_S1x16x128_S16x128)
      (arV arg6 harg6 x4) (acV arg7 harg7 x5) (dsV arg8 harg8 x6) (nwV arg9 harg9 x7)
      (kernelRun0_A.sl.v1745 c arg2 harg2 arg5 harg5 arg7 harg7 arg11 x0 x3 x5)
      (kernelRun0_A.sl.v1753 c arg2 harg2 arg5 harg5 arg7 harg7 arg11 x0 x3 x5)
      (kernelRun0_A.sl.v1761 c arg2 harg2 arg5 harg5 arg7 harg7 arg11 x0 x3 x5)
      (kernelRun0_A.sl.v1769 c arg2 harg2 arg5 harg5 arg7 harg7 arg11 x0 x3 x5) := rfl
theorem st5_0 : (kernelRun0_A.sl.v2107 c arg2 harg2 arg5 harg5 arg7 harg7 arg11 x0 x3 x5)
    = chunkS0 (shapeCast S128x1024 (View.readAt (Elt F) arg2.view (Rect.unit (s := S1x2048x1024) ![0, 512, 0] S1x128x1024.size inb_S1x2048x1024_S1x128x1024_0_512_0).toLoadRect (harg2.unread x0)) shapeCasts_S1x128x1024_S128x1024)
      (shapeCast S16x128 (View.readAt (Elt F) arg5.view (Rect.unit (s := S1x16x2048) ![0, 0, 512] S1x16x128.size inb_S1x16x2048_S1x16x128_0_0_512).toLoadRect (harg5.unread x3)) shapeCasts_S1x16x128_S16x128) (acV arg7 harg7 x5)
      (kernelRun0_A.sl.v1745 c arg2 harg2 arg5 harg5 arg7 harg7 arg11 x0 x3 x5) := rfl
theorem st5_1 : (kernelRun0_A.sl.v2115 c arg2 harg2 arg5 harg5 arg7 harg7 arg11 x0 x3 x5)
    = chunkS1 (shapeCast S128x1024 (View.readAt (Elt F) arg2.view (Rect.unit (s := S1x2048x1024) ![0, 512, 0] S1x128x1024.size inb_S1x2048x1024_S1x128x1024_0_512_0).toLoadRect (harg2.unread x0)) shapeCasts_S1x128x1024_S128x1024)
      (shapeCast S16x128 (View.readAt (Elt F) arg5.view (Rect.unit (s := S1x16x2048) ![0, 0, 512] S1x16x128.size inb_S1x16x2048_S1x16x128_0_0_512).toLoadRect (harg5.unread x3)) shapeCasts_S1x16x128_S16x128) (acV arg7 harg7 x5)
      (kernelRun0_A.sl.v1753 c arg2 harg2 arg5 harg5 arg7 harg7 arg11 x0 x3 x5) := rfl
theorem st5_2 : (kernelRun0_A.sl.v2123 c arg2 harg2 arg5 harg5 arg7 harg7 arg11 x0 x3 x5)
    = chunkS2 (shapeCast S128x1024 (View.readAt (Elt F) arg2.view (Rect.unit (s := S1x2048x1024) ![0, 512, 0] S1x128x1024.size inb_S1x2048x1024_S1x128x1024_0_512_0).toLoadRect (harg2.unread x0)) shapeCasts_S1x128x1024_S128x1024)
      (shapeCast S16x128 (View.readAt (Elt F) arg5.view (Rect.unit (s := S1x16x2048) ![0, 0, 512] S1x16x128.size inb_S1x16x2048_S1x16x128_0_0_512).toLoadRect (harg5.unread x3)) shapeCasts_S1x16x128_S16x128) (acV arg7 harg7 x5)
      (kernelRun0_A.sl.v1761 c arg2 harg2 arg5 harg5 arg7 harg7 arg11 x0 x3 x5) := rfl
theorem st5_3 : (kernelRun0_A.sl.v2131 c arg2 harg2 arg5 harg5 arg7 harg7 arg11 x0 x3 x5)
    = chunkS3 (shapeCast S128x1024 (View.readAt (Elt F) arg2.view (Rect.unit (s := S1x2048x1024) ![0, 512, 0] S1x128x1024.size inb_S1x2048x1024_S1x128x1024_0_512_0).toLoadRect (harg2.unread x0)) shapeCasts_S1x128x1024_S128x1024)
      (shapeCast S16x128 (View.readAt (Elt F) arg5.view (Rect.unit (s := S1x16x2048) ![0, 0, 512] S1x16x128.size inb_S1x16x2048_S1x16x128_0_0_512).toLoadRect (harg5.unread x3)) shapeCasts_S1x16x128_S16x128) (acV arg7 harg7 x5)
      (kernelRun0_A.sl.v1769 c arg2 harg2 arg5 harg5 arg7 harg7 arg11 x0 x3 x5) := rfl

/-- Chunk 5 of the kernel. -/
theorem out5 : (kernelRun0_A.sl.v2533 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 640, 0] S1x128x1024.size inb_S1x2048x1024_S1x128x1024_0_640_0).toLoadRect (harg2.unread x0)) shapeCasts_S1x128x1024_S128x1024)
      (shapeCast S128x512 (View.readAt (Elt F) arg3.view (Rect.unit (s := S1x2048x512) ![0, 640, 0] S1x128x512.size inb_S1x2048x512_S1x128x512_0_640_0).toLoadRect (harg3.unread x1)) shapeCasts_S1x128x512_S128x512)
      (shapeCast S128x128 (View.readAt (Elt F) arg4.view (Rect.unit (s := S1x2048x128) ![0, 640, 0] S1x128x128.size inb_S1x2048x128_S1x128x128_0_640_0).toLoadRect (harg4.unread x2)) shapeCasts_S1x128x128_S128x128)
      (shapeCast S16x128 (View.readAt (Elt F) arg5.view (Rect.unit (s := S1x16x2048) ![0, 0, 640] S1x16x128.size inb_S1x16x2048_S1x16x128_0_0_640).toLoadRect (harg5.unread x3)) shapeCasts_S1x16x128_S16x128)
      (arV arg6 harg6 x4) (acV arg7 harg7 x5) (dsV arg8 harg8 x6) (nwV arg9 harg9 x7)
      (kernelRun0_A.sl.v2107 c arg2 harg2 arg5 harg5 arg7 harg7 arg11 x0 x3 x5)
      (kernelRun0_A.sl.v2115 c arg2 harg2 arg5 harg5 arg7 harg7 arg11 x0 x3 x5)
      (kernelRun0_A.sl.v2123 c arg2 harg2 arg5 harg5 arg7 harg7 arg11 x0 x3 x5)
      (kernelRun0_A.sl.v2131 c arg2 harg2 arg5 harg5 arg7 harg7 arg11 x0 x3 x5) := rfl
theorem st6_0 : (kernelRun0_A.sl.v2469 c arg2 harg2 arg5 harg5 arg7 harg7 arg11 x0 x3 x5)
    = chunkS0 (shapeCast S128x1024 (View.readAt (Elt F) arg2.view (Rect.unit (s := S1x2048x1024) ![0, 640, 0] S1x128x1024.size inb_S1x2048x1024_S1x128x1024_0_640_0).toLoadRect (harg2.unread x0)) shapeCasts_S1x128x1024_S128x1024)
      (shapeCast S16x128 (View.readAt (Elt F) arg5.view (Rect.unit (s := S1x16x2048) ![0, 0, 640] S1x16x128.size inb_S1x16x2048_S1x16x128_0_0_640).toLoadRect (harg5.unread x3)) shapeCasts_S1x16x128_S16x128) (acV arg7 harg7 x5)
      (kernelRun0_A.sl.v2107 c arg2 harg2 arg5 harg5 arg7 harg7 arg11 x0 x3 x5) := rfl
theorem st6_1 : (kernelRun0_A.sl.v2477 c arg2 harg2 arg5 harg5 arg7 harg7 arg11 x0 x3 x5)
    = chunkS1 (shapeCast S128x1024 (View.readAt (Elt F) arg2.view (Rect.unit (s := S1x2048x1024) ![0, 640, 0] S1x128x1024.size inb_S1x2048x1024_S1x128x1024_0_640_0).toLoadRect (harg2.unread x0)) shapeCasts_S1x128x1024_S128x1024)
      (shapeCast S16x128 (View.readAt (Elt F) arg5.view (Rect.unit (s := S1x16x2048) ![0, 0, 640] S1x16x128.size inb_S1x16x2048_S1x16x128_0_0_640).toLoadRect (harg5.unread x3)) shapeCasts_S1x16x128_S16x128) (acV arg7 harg7 x5)
      (kernelRun0_A.sl.v2115 c arg2 harg2 arg5 harg5 arg7 harg7 arg11 x0 x3 x5) := rfl
theorem st6_2 : (kernelRun0_A.sl.v2485 c arg2 harg2 arg5 harg5 arg7 harg7 arg11 x0 x3 x5)
    = chunkS2 (shapeCast S128x1024 (View.readAt (Elt F) arg2.view (Rect.unit (s := S1x2048x1024) ![0, 640, 0] S1x128x1024.size inb_S1x2048x1024_S1x128x1024_0_640_0).toLoadRect (harg2.unread x0)) shapeCasts_S1x128x1024_S128x1024)
      (shapeCast S16x128 (View.readAt (Elt F) arg5.view (Rect.unit (s := S1x16x2048) ![0, 0, 640] S1x16x128.size inb_S1x16x2048_S1x16x128_0_0_640).toLoadRect (harg5.unread x3)) shapeCasts_S1x16x128_S16x128) (acV arg7 harg7 x5)
      (kernelRun0_A.sl.v2123 c arg2 harg2 arg5 harg5 arg7 harg7 arg11 x0 x3 x5) := rfl
theorem st6_3 : (kernelRun0_A.sl.v2493 c arg2 harg2 arg5 harg5 arg7 harg7 arg11 x0 x3 x5)
    = chunkS3 (shapeCast S128x1024 (View.readAt (Elt F) arg2.view (Rect.unit (s := S1x2048x1024) ![0, 640, 0] S1x128x1024.size inb_S1x2048x1024_S1x128x1024_0_640_0).toLoadRect (harg2.unread x0)) shapeCasts_S1x128x1024_S128x1024)
      (shapeCast S16x128 (View.readAt (Elt F) arg5.view (Rect.unit (s := S1x16x2048) ![0, 0, 640] S1x16x128.size inb_S1x16x2048_S1x16x128_0_0_640).toLoadRect (harg5.unread x3)) shapeCasts_S1x16x128_S16x128) (acV arg7 harg7 x5)
      (kernelRun0_A.sl.v2131 c arg2 harg2 arg5 harg5 arg7 harg7 arg11 x0 x3 x5) := rfl

/-- Chunk 6 of the kernel. -/
theorem out6 : (kernelRun0_A.sl.v2895 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 768, 0] S1x128x1024.size inb_S1x2048x1024_S1x128x1024_0_768_0).toLoadRect (harg2.unread x0)) shapeCasts_S1x128x1024_S128x1024)
      (shapeCast S128x512 (View.readAt (Elt F) arg3.view (Rect.unit (s := S1x2048x512) ![0, 768, 0] S1x128x512.size inb_S1x2048x512_S1x128x512_0_768_0).toLoadRect (harg3.unread x1)) shapeCasts_S1x128x512_S128x512)
      (shapeCast S128x128 (View.readAt (Elt F) arg4.view (Rect.unit (s := S1x2048x128) ![0, 768, 0] S1x128x128.size inb_S1x2048x128_S1x128x128_0_768_0).toLoadRect (harg4.unread x2)) shapeCasts_S1x128x128_S128x128)
      (shapeCast S16x128 (View.readAt (Elt F) arg5.view (Rect.unit (s := S1x16x2048) ![0, 0, 768] S1x16x128.size inb_S1x16x2048_S1x16x128_0_0_768).toLoadRect (harg5.unread x3)) shapeCasts_S1x16x128_S16x128)
      (arV arg6 harg6 x4) (acV arg7 harg7 x5) (dsV arg8 harg8 x6) (nwV arg9 harg9 x7)
      (kernelRun0_A.sl.v2469 c arg2 harg2 arg5 harg5 arg7 harg7 arg11 x0 x3 x5)
      (kernelRun0_A.sl.v2477 c arg2 harg2 arg5 harg5 arg7 harg7 arg11 x0 x3 x5)
      (kernelRun0_A.sl.v2485 c arg2 harg2 arg5 harg5 arg7 harg7 arg11 x0 x3 x5)
      (kernelRun0_A.sl.v2493 c arg2 harg2 arg5 harg5 arg7 harg7 arg11 x0 x3 x5) := rfl
theorem st7_0 : (kernelRun0_A.sl.v2831 c arg2 harg2 arg5 harg5 arg7 harg7 arg11 x0 x3 x5)
    = chunkS0 (shapeCast S128x1024 (View.readAt (Elt F) arg2.view (Rect.unit (s := S1x2048x1024) ![0, 768, 0] S1x128x1024.size inb_S1x2048x1024_S1x128x1024_0_768_0).toLoadRect (harg2.unread x0)) shapeCasts_S1x128x1024_S128x1024)
      (shapeCast S16x128 (View.readAt (Elt F) arg5.view (Rect.unit (s := S1x16x2048) ![0, 0, 768] S1x16x128.size inb_S1x16x2048_S1x16x128_0_0_768).toLoadRect (harg5.unread x3)) shapeCasts_S1x16x128_S16x128) (acV arg7 harg7 x5)
      (kernelRun0_A.sl.v2469 c arg2 harg2 arg5 harg5 arg7 harg7 arg11 x0 x3 x5) := rfl
theorem st7_1 : (kernelRun0_A.sl.v2839 c arg2 harg2 arg5 harg5 arg7 harg7 arg11 x0 x3 x5)
    = chunkS1 (shapeCast S128x1024 (View.readAt (Elt F) arg2.view (Rect.unit (s := S1x2048x1024) ![0, 768, 0] S1x128x1024.size inb_S1x2048x1024_S1x128x1024_0_768_0).toLoadRect (harg2.unread x0)) shapeCasts_S1x128x1024_S128x1024)
      (shapeCast S16x128 (View.readAt (Elt F) arg5.view (Rect.unit (s := S1x16x2048) ![0, 0, 768] S1x16x128.size inb_S1x16x2048_S1x16x128_0_0_768).toLoadRect (harg5.unread x3)) shapeCasts_S1x16x128_S16x128) (acV arg7 harg7 x5)
      (kernelRun0_A.sl.v2477 c arg2 harg2 arg5 harg5 arg7 harg7 arg11 x0 x3 x5) := rfl
theorem st7_2 : (kernelRun0_A.sl.v2847 c arg2 harg2 arg5 harg5 arg7 harg7 arg11 x0 x3 x5)
    = chunkS2 (shapeCast S128x1024 (View.readAt (Elt F) arg2.view (Rect.unit (s := S1x2048x1024) ![0, 768, 0] S1x128x1024.size inb_S1x2048x1024_S1x128x1024_0_768_0).toLoadRect (harg2.unread x0)) shapeCasts_S1x128x1024_S128x1024)
      (shapeCast S16x128 (View.readAt (Elt F) arg5.view (Rect.unit (s := S1x16x2048) ![0, 0, 768] S1x16x128.size inb_S1x16x2048_S1x16x128_0_0_768).toLoadRect (harg5.unread x3)) shapeCasts_S1x16x128_S16x128) (acV arg7 harg7 x5)
      (kernelRun0_A.sl.v2485 c arg2 harg2 arg5 harg5 arg7 harg7 arg11 x0 x3 x5) := rfl
theorem st7_3 : (kernelRun0_A.sl.v2855 c arg2 harg2 arg5 harg5 arg7 harg7 arg11 x0 x3 x5)
    = chunkS3 (shapeCast S128x1024 (View.readAt (Elt F) arg2.view (Rect.unit (s := S1x2048x1024) ![0, 768, 0] S1x128x1024.size inb_S1x2048x1024_S1x128x1024_0_768_0).toLoadRect (harg2.unread x0)) shapeCasts_S1x128x1024_S128x1024)
      (shapeCast S16x128 (View.readAt (Elt F) arg5.view (Rect.unit (s := S1x16x2048) ![0, 0, 768] S1x16x128.size inb_S1x16x2048_S1x16x128_0_0_768).toLoadRect (harg5.unread x3)) shapeCasts_S1x16x128_S16x128) (acV arg7 harg7 x5)
      (kernelRun0_A.sl.v2493 c arg2 harg2 arg5 harg5 arg7 harg7 arg11 x0 x3 x5) := rfl

/-- Chunk 7 of the kernel. -/
theorem out7 : (kernelRun0_A.sl.v3257 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 896, 0] S1x128x1024.size inb_S1x2048x1024_S1x128x1024_0_896_0).toLoadRect (harg2.unread x0)) shapeCasts_S1x128x1024_S128x1024)
      (shapeCast S128x512 (View.readAt (Elt F) arg3.view (Rect.unit (s := S1x2048x512) ![0, 896, 0] S1x128x512.size inb_S1x2048x512_S1x128x512_0_896_0).toLoadRect (harg3.unread x1)) shapeCasts_S1x128x512_S128x512)
      (shapeCast S128x128 (View.readAt (Elt F) arg4.view (Rect.unit (s := S1x2048x128) ![0, 896, 0] S1x128x128.size inb_S1x2048x128_S1x128x128_0_896_0).toLoadRect (harg4.unread x2)) shapeCasts_S1x128x128_S128x128)
      (shapeCast S16x128 (View.readAt (Elt F) arg5.view (Rect.unit (s := S1x16x2048) ![0, 0, 896] S1x16x128.size inb_S1x16x2048_S1x16x128_0_0_896).toLoadRect (harg5.unread x3)) shapeCasts_S1x16x128_S16x128)
      (arV arg6 harg6 x4) (acV arg7 harg7 x5) (dsV arg8 harg8 x6) (nwV arg9 harg9 x7)
      (kernelRun0_A.sl.v2831 c arg2 harg2 arg5 harg5 arg7 harg7 arg11 x0 x3 x5)
      (kernelRun0_A.sl.v2839 c arg2 harg2 arg5 harg5 arg7 harg7 arg11 x0 x3 x5)
      (kernelRun0_A.sl.v2847 c arg2 harg2 arg5 harg5 arg7 harg7 arg11 x0 x3 x5)
      (kernelRun0_A.sl.v2855 c arg2 harg2 arg5 harg5 arg7 harg7 arg11 x0 x3 x5) := rfl
theorem st8_0 : (kernelRun0_A.sl.v3193 c arg2 harg2 arg5 harg5 arg7 harg7 arg11 x0 x3 x5)
    = chunkS0 (shapeCast S128x1024 (View.readAt (Elt F) arg2.view (Rect.unit (s := S1x2048x1024) ![0, 896, 0] S1x128x1024.size inb_S1x2048x1024_S1x128x1024_0_896_0).toLoadRect (harg2.unread x0)) shapeCasts_S1x128x1024_S128x1024)
      (shapeCast S16x128 (View.readAt (Elt F) arg5.view (Rect.unit (s := S1x16x2048) ![0, 0, 896] S1x16x128.size inb_S1x16x2048_S1x16x128_0_0_896).toLoadRect (harg5.unread x3)) shapeCasts_S1x16x128_S16x128) (acV arg7 harg7 x5)
      (kernelRun0_A.sl.v2831 c arg2 harg2 arg5 harg5 arg7 harg7 arg11 x0 x3 x5) := rfl
theorem st8_1 : (kernelRun0_A.sl.v3201 c arg2 harg2 arg5 harg5 arg7 harg7 arg11 x0 x3 x5)
    = chunkS1 (shapeCast S128x1024 (View.readAt (Elt F) arg2.view (Rect.unit (s := S1x2048x1024) ![0, 896, 0] S1x128x1024.size inb_S1x2048x1024_S1x128x1024_0_896_0).toLoadRect (harg2.unread x0)) shapeCasts_S1x128x1024_S128x1024)
      (shapeCast S16x128 (View.readAt (Elt F) arg5.view (Rect.unit (s := S1x16x2048) ![0, 0, 896] S1x16x128.size inb_S1x16x2048_S1x16x128_0_0_896).toLoadRect (harg5.unread x3)) shapeCasts_S1x16x128_S16x128) (acV arg7 harg7 x5)
      (kernelRun0_A.sl.v2839 c arg2 harg2 arg5 harg5 arg7 harg7 arg11 x0 x3 x5) := rfl
theorem st8_2 : (kernelRun0_A.sl.v3209 c arg2 harg2 arg5 harg5 arg7 harg7 arg11 x0 x3 x5)
    = chunkS2 (shapeCast S128x1024 (View.readAt (Elt F) arg2.view (Rect.unit (s := S1x2048x1024) ![0, 896, 0] S1x128x1024.size inb_S1x2048x1024_S1x128x1024_0_896_0).toLoadRect (harg2.unread x0)) shapeCasts_S1x128x1024_S128x1024)
      (shapeCast S16x128 (View.readAt (Elt F) arg5.view (Rect.unit (s := S1x16x2048) ![0, 0, 896] S1x16x128.size inb_S1x16x2048_S1x16x128_0_0_896).toLoadRect (harg5.unread x3)) shapeCasts_S1x16x128_S16x128) (acV arg7 harg7 x5)
      (kernelRun0_A.sl.v2847 c arg2 harg2 arg5 harg5 arg7 harg7 arg11 x0 x3 x5) := rfl
theorem st8_3 : (kernelRun0_A.sl.v3217 c arg2 harg2 arg5 harg5 arg7 harg7 arg11 x0 x3 x5)
    = chunkS3 (shapeCast S128x1024 (View.readAt (Elt F) arg2.view (Rect.unit (s := S1x2048x1024) ![0, 896, 0] S1x128x1024.size inb_S1x2048x1024_S1x128x1024_0_896_0).toLoadRect (harg2.unread x0)) shapeCasts_S1x128x1024_S128x1024)
      (shapeCast S16x128 (View.readAt (Elt F) arg5.view (Rect.unit (s := S1x16x2048) ![0, 0, 896] S1x16x128.size inb_S1x16x2048_S1x16x128_0_0_896).toLoadRect (harg5.unread x3)) shapeCasts_S1x16x128_S16x128) (acV arg7 harg7 x5)
      (kernelRun0_A.sl.v2855 c arg2 harg2 arg5 harg5 arg7 harg7 arg11 x0 x3 x5) := rfl

/-- Chunk 8 of the kernel. -/
theorem out8 : (kernelRun0_A.sl.v3619 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 1024, 0] S1x128x1024.size inb_S1x2048x1024_S1x128x1024_0_1024_0).toLoadRect (harg2.unread x0)) shapeCasts_S1x128x1024_S128x1024)
      (shapeCast S128x512 (View.readAt (Elt F) arg3.view (Rect.unit (s := S1x2048x512) ![0, 1024, 0] S1x128x512.size inb_S1x2048x512_S1x128x512_0_1024_0).toLoadRect (harg3.unread x1)) shapeCasts_S1x128x512_S128x512)
      (shapeCast S128x128 (View.readAt (Elt F) arg4.view (Rect.unit (s := S1x2048x128) ![0, 1024, 0] S1x128x128.size inb_S1x2048x128_S1x128x128_0_1024_0).toLoadRect (harg4.unread x2)) shapeCasts_S1x128x128_S128x128)
      (shapeCast S16x128 (View.readAt (Elt F) arg5.view (Rect.unit (s := S1x16x2048) ![0, 0, 1024] S1x16x128.size inb_S1x16x2048_S1x16x128_0_0_1024).toLoadRect (harg5.unread x3)) shapeCasts_S1x16x128_S16x128)
      (arV arg6 harg6 x4) (acV arg7 harg7 x5) (dsV arg8 harg8 x6) (nwV arg9 harg9 x7)
      (kernelRun0_A.sl.v3193 c arg2 harg2 arg5 harg5 arg7 harg7 arg11 x0 x3 x5)
      (kernelRun0_A.sl.v3201 c arg2 harg2 arg5 harg5 arg7 harg7 arg11 x0 x3 x5)
      (kernelRun0_A.sl.v3209 c arg2 harg2 arg5 harg5 arg7 harg7 arg11 x0 x3 x5)
      (kernelRun0_A.sl.v3217 c arg2 harg2 arg5 harg5 arg7 harg7 arg11 x0 x3 x5) := rfl
theorem st9_0 : (kernelRun0_A.sl.v3555 c arg2 harg2 arg5 harg5 arg7 harg7 arg11 x0 x3 x5)
    = chunkS0 (shapeCast S128x1024 (View.readAt (Elt F) arg2.view (Rect.unit (s := S1x2048x1024) ![0, 1024, 0] S1x128x1024.size inb_S1x2048x1024_S1x128x1024_0_1024_0).toLoadRect (harg2.unread x0)) shapeCasts_S1x128x1024_S128x1024)
      (shapeCast S16x128 (View.readAt (Elt F) arg5.view (Rect.unit (s := S1x16x2048) ![0, 0, 1024] S1x16x128.size inb_S1x16x2048_S1x16x128_0_0_1024).toLoadRect (harg5.unread x3)) shapeCasts_S1x16x128_S16x128) (acV arg7 harg7 x5)
      (kernelRun0_A.sl.v3193 c arg2 harg2 arg5 harg5 arg7 harg7 arg11 x0 x3 x5) := rfl
theorem st9_1 : (kernelRun0_A.sl.v3563 c arg2 harg2 arg5 harg5 arg7 harg7 arg11 x0 x3 x5)
    = chunkS1 (shapeCast S128x1024 (View.readAt (Elt F) arg2.view (Rect.unit (s := S1x2048x1024) ![0, 1024, 0] S1x128x1024.size inb_S1x2048x1024_S1x128x1024_0_1024_0).toLoadRect (harg2.unread x0)) shapeCasts_S1x128x1024_S128x1024)
      (shapeCast S16x128 (View.readAt (Elt F) arg5.view (Rect.unit (s := S1x16x2048) ![0, 0, 1024] S1x16x128.size inb_S1x16x2048_S1x16x128_0_0_1024).toLoadRect (harg5.unread x3)) shapeCasts_S1x16x128_S16x128) (acV arg7 harg7 x5)
      (kernelRun0_A.sl.v3201 c arg2 harg2 arg5 harg5 arg7 harg7 arg11 x0 x3 x5) := rfl
theorem st9_2 : (kernelRun0_A.sl.v3571 c arg2 harg2 arg5 harg5 arg7 harg7 arg11 x0 x3 x5)
    = chunkS2 (shapeCast S128x1024 (View.readAt (Elt F) arg2.view (Rect.unit (s := S1x2048x1024) ![0, 1024, 0] S1x128x1024.size inb_S1x2048x1024_S1x128x1024_0_1024_0).toLoadRect (harg2.unread x0)) shapeCasts_S1x128x1024_S128x1024)
      (shapeCast S16x128 (View.readAt (Elt F) arg5.view (Rect.unit (s := S1x16x2048) ![0, 0, 1024] S1x16x128.size inb_S1x16x2048_S1x16x128_0_0_1024).toLoadRect (harg5.unread x3)) shapeCasts_S1x16x128_S16x128) (acV arg7 harg7 x5)
      (kernelRun0_A.sl.v3209 c arg2 harg2 arg5 harg5 arg7 harg7 arg11 x0 x3 x5) := rfl
theorem st9_3 : (kernelRun0_A.sl.v3579 c arg2 harg2 arg5 harg5 arg7 harg7 arg11 x0 x3 x5)
    = chunkS3 (shapeCast S128x1024 (View.readAt (Elt F) arg2.view (Rect.unit (s := S1x2048x1024) ![0, 1024, 0] S1x128x1024.size inb_S1x2048x1024_S1x128x1024_0_1024_0).toLoadRect (harg2.unread x0)) shapeCasts_S1x128x1024_S128x1024)
      (shapeCast S16x128 (View.readAt (Elt F) arg5.view (Rect.unit (s := S1x16x2048) ![0, 0, 1024] S1x16x128.size inb_S1x16x2048_S1x16x128_0_0_1024).toLoadRect (harg5.unread x3)) shapeCasts_S1x16x128_S16x128) (acV arg7 harg7 x5)
      (kernelRun0_A.sl.v3217 c arg2 harg2 arg5 harg5 arg7 harg7 arg11 x0 x3 x5) := rfl

/-- Chunk 9 of the kernel. -/
theorem out9 : (kernelRun0_A.sl.v3981 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 1152, 0] S1x128x1024.size inb_S1x2048x1024_S1x128x1024_0_1152_0).toLoadRect (harg2.unread x0)) shapeCasts_S1x128x1024_S128x1024)
      (shapeCast S128x512 (View.readAt (Elt F) arg3.view (Rect.unit (s := S1x2048x512) ![0, 1152, 0] S1x128x512.size inb_S1x2048x512_S1x128x512_0_1152_0).toLoadRect (harg3.unread x1)) shapeCasts_S1x128x512_S128x512)
      (shapeCast S128x128 (View.readAt (Elt F) arg4.view (Rect.unit (s := S1x2048x128) ![0, 1152, 0] S1x128x128.size inb_S1x2048x128_S1x128x128_0_1152_0).toLoadRect (harg4.unread x2)) shapeCasts_S1x128x128_S128x128)
      (shapeCast S16x128 (View.readAt (Elt F) arg5.view (Rect.unit (s := S1x16x2048) ![0, 0, 1152] S1x16x128.size inb_S1x16x2048_S1x16x128_0_0_1152).toLoadRect (harg5.unread x3)) shapeCasts_S1x16x128_S16x128)
      (arV arg6 harg6 x4) (acV arg7 harg7 x5) (dsV arg8 harg8 x6) (nwV arg9 harg9 x7)
      (kernelRun0_A.sl.v3555 c arg2 harg2 arg5 harg5 arg7 harg7 arg11 x0 x3 x5)
      (kernelRun0_A.sl.v3563 c arg2 harg2 arg5 harg5 arg7 harg7 arg11 x0 x3 x5)
      (kernelRun0_A.sl.v3571 c arg2 harg2 arg5 harg5 arg7 harg7 arg11 x0 x3 x5)
      (kernelRun0_A.sl.v3579 c arg2 harg2 arg5 harg5 arg7 harg7 arg11 x0 x3 x5) := rfl
theorem st10_0 : (kernelRun0_A.sl.v3917 c arg2 harg2 arg5 harg5 arg7 harg7 arg11 x0 x3 x5)
    = chunkS0 (shapeCast S128x1024 (View.readAt (Elt F) arg2.view (Rect.unit (s := S1x2048x1024) ![0, 1152, 0] S1x128x1024.size inb_S1x2048x1024_S1x128x1024_0_1152_0).toLoadRect (harg2.unread x0)) shapeCasts_S1x128x1024_S128x1024)
      (shapeCast S16x128 (View.readAt (Elt F) arg5.view (Rect.unit (s := S1x16x2048) ![0, 0, 1152] S1x16x128.size inb_S1x16x2048_S1x16x128_0_0_1152).toLoadRect (harg5.unread x3)) shapeCasts_S1x16x128_S16x128) (acV arg7 harg7 x5)
      (kernelRun0_A.sl.v3555 c arg2 harg2 arg5 harg5 arg7 harg7 arg11 x0 x3 x5) := rfl
theorem st10_1 : (kernelRun0_A.sl.v3925 c arg2 harg2 arg5 harg5 arg7 harg7 arg11 x0 x3 x5)
    = chunkS1 (shapeCast S128x1024 (View.readAt (Elt F) arg2.view (Rect.unit (s := S1x2048x1024) ![0, 1152, 0] S1x128x1024.size inb_S1x2048x1024_S1x128x1024_0_1152_0).toLoadRect (harg2.unread x0)) shapeCasts_S1x128x1024_S128x1024)
      (shapeCast S16x128 (View.readAt (Elt F) arg5.view (Rect.unit (s := S1x16x2048) ![0, 0, 1152] S1x16x128.size inb_S1x16x2048_S1x16x128_0_0_1152).toLoadRect (harg5.unread x3)) shapeCasts_S1x16x128_S16x128) (acV arg7 harg7 x5)
      (kernelRun0_A.sl.v3563 c arg2 harg2 arg5 harg5 arg7 harg7 arg11 x0 x3 x5) := rfl
theorem st10_2 : (kernelRun0_A.sl.v3933 c arg2 harg2 arg5 harg5 arg7 harg7 arg11 x0 x3 x5)
    = chunkS2 (shapeCast S128x1024 (View.readAt (Elt F) arg2.view (Rect.unit (s := S1x2048x1024) ![0, 1152, 0] S1x128x1024.size inb_S1x2048x1024_S1x128x1024_0_1152_0).toLoadRect (harg2.unread x0)) shapeCasts_S1x128x1024_S128x1024)
      (shapeCast S16x128 (View.readAt (Elt F) arg5.view (Rect.unit (s := S1x16x2048) ![0, 0, 1152] S1x16x128.size inb_S1x16x2048_S1x16x128_0_0_1152).toLoadRect (harg5.unread x3)) shapeCasts_S1x16x128_S16x128) (acV arg7 harg7 x5)
      (kernelRun0_A.sl.v3571 c arg2 harg2 arg5 harg5 arg7 harg7 arg11 x0 x3 x5) := rfl
theorem st10_3 : (kernelRun0_A.sl.v3941 c arg2 harg2 arg5 harg5 arg7 harg7 arg11 x0 x3 x5)
    = chunkS3 (shapeCast S128x1024 (View.readAt (Elt F) arg2.view (Rect.unit (s := S1x2048x1024) ![0, 1152, 0] S1x128x1024.size inb_S1x2048x1024_S1x128x1024_0_1152_0).toLoadRect (harg2.unread x0)) shapeCasts_S1x128x1024_S128x1024)
      (shapeCast S16x128 (View.readAt (Elt F) arg5.view (Rect.unit (s := S1x16x2048) ![0, 0, 1152] S1x16x128.size inb_S1x16x2048_S1x16x128_0_0_1152).toLoadRect (harg5.unread x3)) shapeCasts_S1x16x128_S16x128) (acV arg7 harg7 x5)
      (kernelRun0_A.sl.v3579 c arg2 harg2 arg5 harg5 arg7 harg7 arg11 x0 x3 x5) := rfl

/-- Chunk 10 of the kernel. -/
theorem out10 : (kernelRun0_A.sl.v4343 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 1280, 0] S1x128x1024.size inb_S1x2048x1024_S1x128x1024_0_1280_0).toLoadRect (harg2.unread x0)) shapeCasts_S1x128x1024_S128x1024)
      (shapeCast S128x512 (View.readAt (Elt F) arg3.view (Rect.unit (s := S1x2048x512) ![0, 1280, 0] S1x128x512.size inb_S1x2048x512_S1x128x512_0_1280_0).toLoadRect (harg3.unread x1)) shapeCasts_S1x128x512_S128x512)
      (shapeCast S128x128 (View.readAt (Elt F) arg4.view (Rect.unit (s := S1x2048x128) ![0, 1280, 0] S1x128x128.size inb_S1x2048x128_S1x128x128_0_1280_0).toLoadRect (harg4.unread x2)) shapeCasts_S1x128x128_S128x128)
      (shapeCast S16x128 (View.readAt (Elt F) arg5.view (Rect.unit (s := S1x16x2048) ![0, 0, 1280] S1x16x128.size inb_S1x16x2048_S1x16x128_0_0_1280).toLoadRect (harg5.unread x3)) shapeCasts_S1x16x128_S16x128)
      (arV arg6 harg6 x4) (acV arg7 harg7 x5) (dsV arg8 harg8 x6) (nwV arg9 harg9 x7)
      (kernelRun0_A.sl.v3917 c arg2 harg2 arg5 harg5 arg7 harg7 arg11 x0 x3 x5)
      (kernelRun0_A.sl.v3925 c arg2 harg2 arg5 harg5 arg7 harg7 arg11 x0 x3 x5)
      (kernelRun0_A.sl.v3933 c arg2 harg2 arg5 harg5 arg7 harg7 arg11 x0 x3 x5)
      (kernelRun0_A.sl.v3941 c arg2 harg2 arg5 harg5 arg7 harg7 arg11 x0 x3 x5) := rfl
theorem st11_0 : (kernelRun0_A.sl.v4279 c arg2 harg2 arg5 harg5 arg7 harg7 arg11 x0 x3 x5)
    = chunkS0 (shapeCast S128x1024 (View.readAt (Elt F) arg2.view (Rect.unit (s := S1x2048x1024) ![0, 1280, 0] S1x128x1024.size inb_S1x2048x1024_S1x128x1024_0_1280_0).toLoadRect (harg2.unread x0)) shapeCasts_S1x128x1024_S128x1024)
      (shapeCast S16x128 (View.readAt (Elt F) arg5.view (Rect.unit (s := S1x16x2048) ![0, 0, 1280] S1x16x128.size inb_S1x16x2048_S1x16x128_0_0_1280).toLoadRect (harg5.unread x3)) shapeCasts_S1x16x128_S16x128) (acV arg7 harg7 x5)
      (kernelRun0_A.sl.v3917 c arg2 harg2 arg5 harg5 arg7 harg7 arg11 x0 x3 x5) := rfl
theorem st11_1 : (kernelRun0_A.sl.v4287 c arg2 harg2 arg5 harg5 arg7 harg7 arg11 x0 x3 x5)
    = chunkS1 (shapeCast S128x1024 (View.readAt (Elt F) arg2.view (Rect.unit (s := S1x2048x1024) ![0, 1280, 0] S1x128x1024.size inb_S1x2048x1024_S1x128x1024_0_1280_0).toLoadRect (harg2.unread x0)) shapeCasts_S1x128x1024_S128x1024)
      (shapeCast S16x128 (View.readAt (Elt F) arg5.view (Rect.unit (s := S1x16x2048) ![0, 0, 1280] S1x16x128.size inb_S1x16x2048_S1x16x128_0_0_1280).toLoadRect (harg5.unread x3)) shapeCasts_S1x16x128_S16x128) (acV arg7 harg7 x5)
      (kernelRun0_A.sl.v3925 c arg2 harg2 arg5 harg5 arg7 harg7 arg11 x0 x3 x5) := rfl
theorem st11_2 : (kernelRun0_A.sl.v4295 c arg2 harg2 arg5 harg5 arg7 harg7 arg11 x0 x3 x5)
    = chunkS2 (shapeCast S128x1024 (View.readAt (Elt F) arg2.view (Rect.unit (s := S1x2048x1024) ![0, 1280, 0] S1x128x1024.size inb_S1x2048x1024_S1x128x1024_0_1280_0).toLoadRect (harg2.unread x0)) shapeCasts_S1x128x1024_S128x1024)
      (shapeCast S16x128 (View.readAt (Elt F) arg5.view (Rect.unit (s := S1x16x2048) ![0, 0, 1280] S1x16x128.size inb_S1x16x2048_S1x16x128_0_0_1280).toLoadRect (harg5.unread x3)) shapeCasts_S1x16x128_S16x128) (acV arg7 harg7 x5)
      (kernelRun0_A.sl.v3933 c arg2 harg2 arg5 harg5 arg7 harg7 arg11 x0 x3 x5) := rfl
theorem st11_3 : (kernelRun0_A.sl.v4303 c arg2 harg2 arg5 harg5 arg7 harg7 arg11 x0 x3 x5)
    = chunkS3 (shapeCast S128x1024 (View.readAt (Elt F) arg2.view (Rect.unit (s := S1x2048x1024) ![0, 1280, 0] S1x128x1024.size inb_S1x2048x1024_S1x128x1024_0_1280_0).toLoadRect (harg2.unread x0)) shapeCasts_S1x128x1024_S128x1024)
      (shapeCast S16x128 (View.readAt (Elt F) arg5.view (Rect.unit (s := S1x16x2048) ![0, 0, 1280] S1x16x128.size inb_S1x16x2048_S1x16x128_0_0_1280).toLoadRect (harg5.unread x3)) shapeCasts_S1x16x128_S16x128) (acV arg7 harg7 x5)
      (kernelRun0_A.sl.v3941 c arg2 harg2 arg5 harg5 arg7 harg7 arg11 x0 x3 x5) := rfl

/-- Chunk 11 of the kernel. -/
theorem out11 : (kernelRun0_A.sl.v4705 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 1408, 0] S1x128x1024.size inb_S1x2048x1024_S1x128x1024_0_1408_0).toLoadRect (harg2.unread x0)) shapeCasts_S1x128x1024_S128x1024)
      (shapeCast S128x512 (View.readAt (Elt F) arg3.view (Rect.unit (s := S1x2048x512) ![0, 1408, 0] S1x128x512.size inb_S1x2048x512_S1x128x512_0_1408_0).toLoadRect (harg3.unread x1)) shapeCasts_S1x128x512_S128x512)
      (shapeCast S128x128 (View.readAt (Elt F) arg4.view (Rect.unit (s := S1x2048x128) ![0, 1408, 0] S1x128x128.size inb_S1x2048x128_S1x128x128_0_1408_0).toLoadRect (harg4.unread x2)) shapeCasts_S1x128x128_S128x128)
      (shapeCast S16x128 (View.readAt (Elt F) arg5.view (Rect.unit (s := S1x16x2048) ![0, 0, 1408] S1x16x128.size inb_S1x16x2048_S1x16x128_0_0_1408).toLoadRect (harg5.unread x3)) shapeCasts_S1x16x128_S16x128)
      (arV arg6 harg6 x4) (acV arg7 harg7 x5) (dsV arg8 harg8 x6) (nwV arg9 harg9 x7)
      (kernelRun0_A.sl.v4279 c arg2 harg2 arg5 harg5 arg7 harg7 arg11 x0 x3 x5)
      (kernelRun0_A.sl.v4287 c arg2 harg2 arg5 harg5 arg7 harg7 arg11 x0 x3 x5)
      (kernelRun0_A.sl.v4295 c arg2 harg2 arg5 harg5 arg7 harg7 arg11 x0 x3 x5)
      (kernelRun0_A.sl.v4303 c arg2 harg2 arg5 harg5 arg7 harg7 arg11 x0 x3 x5) := rfl
theorem st12_0 : (kernelRun0_A.sl.v4641 c arg2 harg2 arg5 harg5 arg7 harg7 arg11 x0 x3 x5)
    = chunkS0 (shapeCast S128x1024 (View.readAt (Elt F) arg2.view (Rect.unit (s := S1x2048x1024) ![0, 1408, 0] S1x128x1024.size inb_S1x2048x1024_S1x128x1024_0_1408_0).toLoadRect (harg2.unread x0)) shapeCasts_S1x128x1024_S128x1024)
      (shapeCast S16x128 (View.readAt (Elt F) arg5.view (Rect.unit (s := S1x16x2048) ![0, 0, 1408] S1x16x128.size inb_S1x16x2048_S1x16x128_0_0_1408).toLoadRect (harg5.unread x3)) shapeCasts_S1x16x128_S16x128) (acV arg7 harg7 x5)
      (kernelRun0_A.sl.v4279 c arg2 harg2 arg5 harg5 arg7 harg7 arg11 x0 x3 x5) := rfl
theorem st12_1 : (kernelRun0_A.sl.v4649 c arg2 harg2 arg5 harg5 arg7 harg7 arg11 x0 x3 x5)
    = chunkS1 (shapeCast S128x1024 (View.readAt (Elt F) arg2.view (Rect.unit (s := S1x2048x1024) ![0, 1408, 0] S1x128x1024.size inb_S1x2048x1024_S1x128x1024_0_1408_0).toLoadRect (harg2.unread x0)) shapeCasts_S1x128x1024_S128x1024)
      (shapeCast S16x128 (View.readAt (Elt F) arg5.view (Rect.unit (s := S1x16x2048) ![0, 0, 1408] S1x16x128.size inb_S1x16x2048_S1x16x128_0_0_1408).toLoadRect (harg5.unread x3)) shapeCasts_S1x16x128_S16x128) (acV arg7 harg7 x5)
      (kernelRun0_A.sl.v4287 c arg2 harg2 arg5 harg5 arg7 harg7 arg11 x0 x3 x5) := rfl
theorem st12_2 : (kernelRun0_A.sl.v4657 c arg2 harg2 arg5 harg5 arg7 harg7 arg11 x0 x3 x5)
    = chunkS2 (shapeCast S128x1024 (View.readAt (Elt F) arg2.view (Rect.unit (s := S1x2048x1024) ![0, 1408, 0] S1x128x1024.size inb_S1x2048x1024_S1x128x1024_0_1408_0).toLoadRect (harg2.unread x0)) shapeCasts_S1x128x1024_S128x1024)
      (shapeCast S16x128 (View.readAt (Elt F) arg5.view (Rect.unit (s := S1x16x2048) ![0, 0, 1408] S1x16x128.size inb_S1x16x2048_S1x16x128_0_0_1408).toLoadRect (harg5.unread x3)) shapeCasts_S1x16x128_S16x128) (acV arg7 harg7 x5)
      (kernelRun0_A.sl.v4295 c arg2 harg2 arg5 harg5 arg7 harg7 arg11 x0 x3 x5) := rfl
theorem st12_3 : (kernelRun0_A.sl.v4665 c arg2 harg2 arg5 harg5 arg7 harg7 arg11 x0 x3 x5)
    = chunkS3 (shapeCast S128x1024 (View.readAt (Elt F) arg2.view (Rect.unit (s := S1x2048x1024) ![0, 1408, 0] S1x128x1024.size inb_S1x2048x1024_S1x128x1024_0_1408_0).toLoadRect (harg2.unread x0)) shapeCasts_S1x128x1024_S128x1024)
      (shapeCast S16x128 (View.readAt (Elt F) arg5.view (Rect.unit (s := S1x16x2048) ![0, 0, 1408] S1x16x128.size inb_S1x16x2048_S1x16x128_0_0_1408).toLoadRect (harg5.unread x3)) shapeCasts_S1x16x128_S16x128) (acV arg7 harg7 x5)
      (kernelRun0_A.sl.v4303 c arg2 harg2 arg5 harg5 arg7 harg7 arg11 x0 x3 x5) := rfl

/-- Chunk 12 of the kernel. -/
theorem out12 : (kernelRun0_A.sl.v5067 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 1536, 0] S1x128x1024.size inb_S1x2048x1024_S1x128x1024_0_1536_0).toLoadRect (harg2.unread x0)) shapeCasts_S1x128x1024_S128x1024)
      (shapeCast S128x512 (View.readAt (Elt F) arg3.view (Rect.unit (s := S1x2048x512) ![0, 1536, 0] S1x128x512.size inb_S1x2048x512_S1x128x512_0_1536_0).toLoadRect (harg3.unread x1)) shapeCasts_S1x128x512_S128x512)
      (shapeCast S128x128 (View.readAt (Elt F) arg4.view (Rect.unit (s := S1x2048x128) ![0, 1536, 0] S1x128x128.size inb_S1x2048x128_S1x128x128_0_1536_0).toLoadRect (harg4.unread x2)) shapeCasts_S1x128x128_S128x128)
      (shapeCast S16x128 (View.readAt (Elt F) arg5.view (Rect.unit (s := S1x16x2048) ![0, 0, 1536] S1x16x128.size inb_S1x16x2048_S1x16x128_0_0_1536).toLoadRect (harg5.unread x3)) shapeCasts_S1x16x128_S16x128)
      (arV arg6 harg6 x4) (acV arg7 harg7 x5) (dsV arg8 harg8 x6) (nwV arg9 harg9 x7)
      (kernelRun0_A.sl.v4641 c arg2 harg2 arg5 harg5 arg7 harg7 arg11 x0 x3 x5)
      (kernelRun0_A.sl.v4649 c arg2 harg2 arg5 harg5 arg7 harg7 arg11 x0 x3 x5)
      (kernelRun0_A.sl.v4657 c arg2 harg2 arg5 harg5 arg7 harg7 arg11 x0 x3 x5)
      (kernelRun0_A.sl.v4665 c arg2 harg2 arg5 harg5 arg7 harg7 arg11 x0 x3 x5) := rfl
theorem st13_0 : (kernelRun0_A.sl.v5003 c arg2 harg2 arg5 harg5 arg7 harg7 arg11 x0 x3 x5)
    = chunkS0 (shapeCast S128x1024 (View.readAt (Elt F) arg2.view (Rect.unit (s := S1x2048x1024) ![0, 1536, 0] S1x128x1024.size inb_S1x2048x1024_S1x128x1024_0_1536_0).toLoadRect (harg2.unread x0)) shapeCasts_S1x128x1024_S128x1024)
      (shapeCast S16x128 (View.readAt (Elt F) arg5.view (Rect.unit (s := S1x16x2048) ![0, 0, 1536] S1x16x128.size inb_S1x16x2048_S1x16x128_0_0_1536).toLoadRect (harg5.unread x3)) shapeCasts_S1x16x128_S16x128) (acV arg7 harg7 x5)
      (kernelRun0_A.sl.v4641 c arg2 harg2 arg5 harg5 arg7 harg7 arg11 x0 x3 x5) := rfl
theorem st13_1 : (kernelRun0_A.sl.v5011 c arg2 harg2 arg5 harg5 arg7 harg7 arg11 x0 x3 x5)
    = chunkS1 (shapeCast S128x1024 (View.readAt (Elt F) arg2.view (Rect.unit (s := S1x2048x1024) ![0, 1536, 0] S1x128x1024.size inb_S1x2048x1024_S1x128x1024_0_1536_0).toLoadRect (harg2.unread x0)) shapeCasts_S1x128x1024_S128x1024)
      (shapeCast S16x128 (View.readAt (Elt F) arg5.view (Rect.unit (s := S1x16x2048) ![0, 0, 1536] S1x16x128.size inb_S1x16x2048_S1x16x128_0_0_1536).toLoadRect (harg5.unread x3)) shapeCasts_S1x16x128_S16x128) (acV arg7 harg7 x5)
      (kernelRun0_A.sl.v4649 c arg2 harg2 arg5 harg5 arg7 harg7 arg11 x0 x3 x5) := rfl
theorem st13_2 : (kernelRun0_A.sl.v5019 c arg2 harg2 arg5 harg5 arg7 harg7 arg11 x0 x3 x5)
    = chunkS2 (shapeCast S128x1024 (View.readAt (Elt F) arg2.view (Rect.unit (s := S1x2048x1024) ![0, 1536, 0] S1x128x1024.size inb_S1x2048x1024_S1x128x1024_0_1536_0).toLoadRect (harg2.unread x0)) shapeCasts_S1x128x1024_S128x1024)
      (shapeCast S16x128 (View.readAt (Elt F) arg5.view (Rect.unit (s := S1x16x2048) ![0, 0, 1536] S1x16x128.size inb_S1x16x2048_S1x16x128_0_0_1536).toLoadRect (harg5.unread x3)) shapeCasts_S1x16x128_S16x128) (acV arg7 harg7 x5)
      (kernelRun0_A.sl.v4657 c arg2 harg2 arg5 harg5 arg7 harg7 arg11 x0 x3 x5) := rfl
theorem st13_3 : (kernelRun0_A.sl.v5027 c arg2 harg2 arg5 harg5 arg7 harg7 arg11 x0 x3 x5)
    = chunkS3 (shapeCast S128x1024 (View.readAt (Elt F) arg2.view (Rect.unit (s := S1x2048x1024) ![0, 1536, 0] S1x128x1024.size inb_S1x2048x1024_S1x128x1024_0_1536_0).toLoadRect (harg2.unread x0)) shapeCasts_S1x128x1024_S128x1024)
      (shapeCast S16x128 (View.readAt (Elt F) arg5.view (Rect.unit (s := S1x16x2048) ![0, 0, 1536] S1x16x128.size inb_S1x16x2048_S1x16x128_0_0_1536).toLoadRect (harg5.unread x3)) shapeCasts_S1x16x128_S16x128) (acV arg7 harg7 x5)
      (kernelRun0_A.sl.v4665 c arg2 harg2 arg5 harg5 arg7 harg7 arg11 x0 x3 x5) := rfl

/-- Chunk 13 of the kernel. -/
theorem out13 : (kernelRun0_A.sl.v5429 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 1664, 0] S1x128x1024.size inb_S1x2048x1024_S1x128x1024_0_1664_0).toLoadRect (harg2.unread x0)) shapeCasts_S1x128x1024_S128x1024)
      (shapeCast S128x512 (View.readAt (Elt F) arg3.view (Rect.unit (s := S1x2048x512) ![0, 1664, 0] S1x128x512.size inb_S1x2048x512_S1x128x512_0_1664_0).toLoadRect (harg3.unread x1)) shapeCasts_S1x128x512_S128x512)
      (shapeCast S128x128 (View.readAt (Elt F) arg4.view (Rect.unit (s := S1x2048x128) ![0, 1664, 0] S1x128x128.size inb_S1x2048x128_S1x128x128_0_1664_0).toLoadRect (harg4.unread x2)) shapeCasts_S1x128x128_S128x128)
      (shapeCast S16x128 (View.readAt (Elt F) arg5.view (Rect.unit (s := S1x16x2048) ![0, 0, 1664] S1x16x128.size inb_S1x16x2048_S1x16x128_0_0_1664).toLoadRect (harg5.unread x3)) shapeCasts_S1x16x128_S16x128)
      (arV arg6 harg6 x4) (acV arg7 harg7 x5) (dsV arg8 harg8 x6) (nwV arg9 harg9 x7)
      (kernelRun0_A.sl.v5003 c arg2 harg2 arg5 harg5 arg7 harg7 arg11 x0 x3 x5)
      (kernelRun0_A.sl.v5011 c arg2 harg2 arg5 harg5 arg7 harg7 arg11 x0 x3 x5)
      (kernelRun0_A.sl.v5019 c arg2 harg2 arg5 harg5 arg7 harg7 arg11 x0 x3 x5)
      (kernelRun0_A.sl.v5027 c arg2 harg2 arg5 harg5 arg7 harg7 arg11 x0 x3 x5) := rfl
theorem st14_0 : (kernelRun0_A.sl.v5365 c arg2 harg2 arg5 harg5 arg7 harg7 arg11 x0 x3 x5)
    = chunkS0 (shapeCast S128x1024 (View.readAt (Elt F) arg2.view (Rect.unit (s := S1x2048x1024) ![0, 1664, 0] S1x128x1024.size inb_S1x2048x1024_S1x128x1024_0_1664_0).toLoadRect (harg2.unread x0)) shapeCasts_S1x128x1024_S128x1024)
      (shapeCast S16x128 (View.readAt (Elt F) arg5.view (Rect.unit (s := S1x16x2048) ![0, 0, 1664] S1x16x128.size inb_S1x16x2048_S1x16x128_0_0_1664).toLoadRect (harg5.unread x3)) shapeCasts_S1x16x128_S16x128) (acV arg7 harg7 x5)
      (kernelRun0_A.sl.v5003 c arg2 harg2 arg5 harg5 arg7 harg7 arg11 x0 x3 x5) := rfl
theorem st14_1 : (kernelRun0_A.sl.v5373 c arg2 harg2 arg5 harg5 arg7 harg7 arg11 x0 x3 x5)
    = chunkS1 (shapeCast S128x1024 (View.readAt (Elt F) arg2.view (Rect.unit (s := S1x2048x1024) ![0, 1664, 0] S1x128x1024.size inb_S1x2048x1024_S1x128x1024_0_1664_0).toLoadRect (harg2.unread x0)) shapeCasts_S1x128x1024_S128x1024)
      (shapeCast S16x128 (View.readAt (Elt F) arg5.view (Rect.unit (s := S1x16x2048) ![0, 0, 1664] S1x16x128.size inb_S1x16x2048_S1x16x128_0_0_1664).toLoadRect (harg5.unread x3)) shapeCasts_S1x16x128_S16x128) (acV arg7 harg7 x5)
      (kernelRun0_A.sl.v5011 c arg2 harg2 arg5 harg5 arg7 harg7 arg11 x0 x3 x5) := rfl
theorem st14_2 : (kernelRun0_A.sl.v5381 c arg2 harg2 arg5 harg5 arg7 harg7 arg11 x0 x3 x5)
    = chunkS2 (shapeCast S128x1024 (View.readAt (Elt F) arg2.view (Rect.unit (s := S1x2048x1024) ![0, 1664, 0] S1x128x1024.size inb_S1x2048x1024_S1x128x1024_0_1664_0).toLoadRect (harg2.unread x0)) shapeCasts_S1x128x1024_S128x1024)
      (shapeCast S16x128 (View.readAt (Elt F) arg5.view (Rect.unit (s := S1x16x2048) ![0, 0, 1664] S1x16x128.size inb_S1x16x2048_S1x16x128_0_0_1664).toLoadRect (harg5.unread x3)) shapeCasts_S1x16x128_S16x128) (acV arg7 harg7 x5)
      (kernelRun0_A.sl.v5019 c arg2 harg2 arg5 harg5 arg7 harg7 arg11 x0 x3 x5) := rfl
theorem st14_3 : (kernelRun0_A.sl.v5389 c arg2 harg2 arg5 harg5 arg7 harg7 arg11 x0 x3 x5)
    = chunkS3 (shapeCast S128x1024 (View.readAt (Elt F) arg2.view (Rect.unit (s := S1x2048x1024) ![0, 1664, 0] S1x128x1024.size inb_S1x2048x1024_S1x128x1024_0_1664_0).toLoadRect (harg2.unread x0)) shapeCasts_S1x128x1024_S128x1024)
      (shapeCast S16x128 (View.readAt (Elt F) arg5.view (Rect.unit (s := S1x16x2048) ![0, 0, 1664] S1x16x128.size inb_S1x16x2048_S1x16x128_0_0_1664).toLoadRect (harg5.unread x3)) shapeCasts_S1x16x128_S16x128) (acV arg7 harg7 x5)
      (kernelRun0_A.sl.v5027 c arg2 harg2 arg5 harg5 arg7 harg7 arg11 x0 x3 x5) := rfl

/-- Chunk 14 of the kernel. -/
theorem out14 : (kernelRun0_A.sl.v5791 c arg2 harg2 arg3 harg3 arg4 harg4 arg5 harg5 arg6 harg6 arg7 harg7 arg8 harg8 arg9 harg9 arg11 x0 x1 x2 x3 x4 x5 x6 x7)
    = chunkOut (shapeCast S128x1024 (View.readAt (Elt F) arg2.view (Rect.unit (s := S1x2048x1024) ![0, 1792, 0] S1x128x1024.size inb_S1x2048x1024_S1x128x1024_0_1792_0).toLoadRect (harg2.unread x0)) shapeCasts_S1x128x1024_S128x1024)
      (shapeCast S128x512 (View.readAt (Elt F) arg3.view (Rect.unit (s := S1x2048x512) ![0, 1792, 0] S1x128x512.size inb_S1x2048x512_S1x128x512_0_1792_0).toLoadRect (harg3.unread x1)) shapeCasts_S1x128x512_S128x512)
      (shapeCast S128x128 (View.readAt (Elt F) arg4.view (Rect.unit (s := S1x2048x128) ![0, 1792, 0] S1x128x128.size inb_S1x2048x128_S1x128x128_0_1792_0).toLoadRect (harg4.unread x2)) shapeCasts_S1x128x128_S128x128)
      (shapeCast S16x128 (View.readAt (Elt F) arg5.view (Rect.unit (s := S1x16x2048) ![0, 0, 1792] S1x16x128.size inb_S1x16x2048_S1x16x128_0_0_1792).toLoadRect (harg5.unread x3)) shapeCasts_S1x16x128_S16x128)
      (arV arg6 harg6 x4) (acV arg7 harg7 x5) (dsV arg8 harg8 x6) (nwV arg9 harg9 x7)
      (kernelRun0_A.sl.v5365 c arg2 harg2 arg5 harg5 arg7 harg7 arg11 x0 x3 x5)
      (kernelRun0_A.sl.v5373 c arg2 harg2 arg5 harg5 arg7 harg7 arg11 x0 x3 x5)
      (kernelRun0_A.sl.v5381 c arg2 harg2 arg5 harg5 arg7 harg7 arg11 x0 x3 x5)
      (kernelRun0_A.sl.v5389 c arg2 harg2 arg5 harg5 arg7 harg7 arg11 x0 x3 x5) := rfl
theorem st15_0 : (kernelRun0_A.sl.v5727 c arg2 harg2 arg5 harg5 arg7 harg7 arg11 x0 x3 x5)
    = chunkS0 (shapeCast S128x1024 (View.readAt (Elt F) arg2.view (Rect.unit (s := S1x2048x1024) ![0, 1792, 0] S1x128x1024.size inb_S1x2048x1024_S1x128x1024_0_1792_0).toLoadRect (harg2.unread x0)) shapeCasts_S1x128x1024_S128x1024)
      (shapeCast S16x128 (View.readAt (Elt F) arg5.view (Rect.unit (s := S1x16x2048) ![0, 0, 1792] S1x16x128.size inb_S1x16x2048_S1x16x128_0_0_1792).toLoadRect (harg5.unread x3)) shapeCasts_S1x16x128_S16x128) (acV arg7 harg7 x5)
      (kernelRun0_A.sl.v5365 c arg2 harg2 arg5 harg5 arg7 harg7 arg11 x0 x3 x5) := rfl
theorem st15_1 : (kernelRun0_A.sl.v5735 c arg2 harg2 arg5 harg5 arg7 harg7 arg11 x0 x3 x5)
    = chunkS1 (shapeCast S128x1024 (View.readAt (Elt F) arg2.view (Rect.unit (s := S1x2048x1024) ![0, 1792, 0] S1x128x1024.size inb_S1x2048x1024_S1x128x1024_0_1792_0).toLoadRect (harg2.unread x0)) shapeCasts_S1x128x1024_S128x1024)
      (shapeCast S16x128 (View.readAt (Elt F) arg5.view (Rect.unit (s := S1x16x2048) ![0, 0, 1792] S1x16x128.size inb_S1x16x2048_S1x16x128_0_0_1792).toLoadRect (harg5.unread x3)) shapeCasts_S1x16x128_S16x128) (acV arg7 harg7 x5)
      (kernelRun0_A.sl.v5373 c arg2 harg2 arg5 harg5 arg7 harg7 arg11 x0 x3 x5) := rfl
theorem st15_2 : (kernelRun0_A.sl.v5743 c arg2 harg2 arg5 harg5 arg7 harg7 arg11 x0 x3 x5)
    = chunkS2 (shapeCast S128x1024 (View.readAt (Elt F) arg2.view (Rect.unit (s := S1x2048x1024) ![0, 1792, 0] S1x128x1024.size inb_S1x2048x1024_S1x128x1024_0_1792_0).toLoadRect (harg2.unread x0)) shapeCasts_S1x128x1024_S128x1024)
      (shapeCast S16x128 (View.readAt (Elt F) arg5.view (Rect.unit (s := S1x16x2048) ![0, 0, 1792] S1x16x128.size inb_S1x16x2048_S1x16x128_0_0_1792).toLoadRect (harg5.unread x3)) shapeCasts_S1x16x128_S16x128) (acV arg7 harg7 x5)
      (kernelRun0_A.sl.v5381 c arg2 harg2 arg5 harg5 arg7 harg7 arg11 x0 x3 x5) := rfl
theorem st15_3 : (kernelRun0_A.sl.v5751 c arg2 harg2 arg5 harg5 arg7 harg7 arg11 x0 x3 x5)
    = chunkS3 (shapeCast S128x1024 (View.readAt (Elt F) arg2.view (Rect.unit (s := S1x2048x1024) ![0, 1792, 0] S1x128x1024.size inb_S1x2048x1024_S1x128x1024_0_1792_0).toLoadRect (harg2.unread x0)) shapeCasts_S1x128x1024_S128x1024)
      (shapeCast S16x128 (View.readAt (Elt F) arg5.view (Rect.unit (s := S1x16x2048) ![0, 0, 1792] S1x16x128.size inb_S1x16x2048_S1x16x128_0_0_1792).toLoadRect (harg5.unread x3)) shapeCasts_S1x16x128_S16x128) (acV arg7 harg7 x5)
      (kernelRun0_A.sl.v5389 c arg2 harg2 arg5 harg5 arg7 harg7 arg11 x0 x3 x5) := rfl

/-- Chunk 15 of the kernel. -/
theorem out15 : k0_pay1 (kernelRun0_A.sl.v5843 c arg2 harg2 arg3 harg3 arg4 harg4 arg5 harg5 arg6 harg6 arg7 harg7 arg8 harg8 arg11 x0 x1 x2 x3 x4 x5 x6) (kernelRun0_A.sl.v5844 c arg2 harg2 arg3 harg3 arg4 harg4 arg5 harg5 arg6 harg6 arg7 harg7 arg8 harg8 arg11 x0 x1 x2 x3 x4 x5 x6) (kernelRun0_A.sl.r_530 c arg2 harg2 arg3 harg3 arg4 harg4 arg5 harg5 arg6 harg6 arg7 harg7 arg8 harg8 arg11 x0 x1 x2 x3 x4 x5 x6)
      (View.readAt (Elt F) arg9.view (Rect.unit (s := S1x512) ![0, 0] S1x512.size inb_S1x512_S1x512_0_0).toLoadRect (harg9.unread x7))
    = chunkOut (shapeCast S128x1024 (View.readAt (Elt F) arg2.view (Rect.unit (s := S1x2048x1024) ![0, 1920, 0] S1x128x1024.size inb_S1x2048x1024_S1x128x1024_0_1920_0).toLoadRect (harg2.unread x0)) shapeCasts_S1x128x1024_S128x1024)
      (shapeCast S128x512 (View.readAt (Elt F) arg3.view (Rect.unit (s := S1x2048x512) ![0, 1920, 0] S1x128x512.size inb_S1x2048x512_S1x128x512_0_1920_0).toLoadRect (harg3.unread x1)) shapeCasts_S1x128x512_S128x512)
      (shapeCast S128x128 (View.readAt (Elt F) arg4.view (Rect.unit (s := S1x2048x128) ![0, 1920, 0] S1x128x128.size inb_S1x2048x128_S1x128x128_0_1920_0).toLoadRect (harg4.unread x2)) shapeCasts_S1x128x128_S128x128)
      (shapeCast S16x128 (View.readAt (Elt F) arg5.view (Rect.unit (s := S1x16x2048) ![0, 0, 1920] S1x16x128.size inb_S1x16x2048_S1x16x128_0_0_1920).toLoadRect (harg5.unread x3)) shapeCasts_S1x16x128_S16x128)
      (arV arg6 harg6 x4) (acV arg7 harg7 x5) (dsV arg8 harg8 x6) (nwV arg9 harg9 x7)
      (kernelRun0_A.sl.v5727 c arg2 harg2 arg5 harg5 arg7 harg7 arg11 x0 x3 x5)
      (kernelRun0_A.sl.v5735 c arg2 harg2 arg5 harg5 arg7 harg7 arg11 x0 x3 x5)
      (kernelRun0_A.sl.v5743 c arg2 harg2 arg5 harg5 arg7 harg7 arg11 x0 x3 x5)
      (kernelRun0_A.sl.v5751 c arg2 harg2 arg5 harg5 arg7 harg7 arg11 x0 x3 x5) := rfl

end Cert.Proof.Ssd

end
-- ==== Proof.SsdSpec.lean ====
/-
  The recurrence over one chunk, written in extended reals: what a chunk of either program computes from the chunk's
  rows and from the state before it.
-/
module

public import Idealize.ShloMosaic.PureOps.Ideal.Laws

@[expose] public section

noncomputable section

namespace Cert.Proof.Ssd

open Idealize.ShloMosaic

/-- One over the logarithm of two. -/
def lc : EReal := (((Real.log 2)⁻¹ : ℝ) : EReal)

theorem log2_pos : 0 < Real.log 2 := Real.log_pos (by norm_num)

theorem lc_pos : 0 < lc := by
  unfold lc; exact_mod_cast inv_pos.mpr log2_pos

theorem lc_ne_top : lc ≠ ⊤ := EReal.coe_ne_top _

/-- Two to the power `x / log 2` is the exponential of `x`. -/
theorem exp2_lc (x : EReal) : Ideal.exp2 (x * lc) = Ideal.exp x := by
  induction x using EReal.rec with
  | bot => rw [EReal.bot_mul_of_pos lc_pos]; rfl
  | top => rw [EReal.top_mul_of_pos lc_pos]; rfl
  | coe r =>
    have h : ((r : EReal) * lc) = ((r * (Real.log 2)⁻¹ : ℝ) : EReal) := by unfold lc; norm_cast
    rw [h, Ideal.exp2_coe, Ideal.exp_coe]
    congr 1
    show (2 : ℝ) ^ (r * (Real.log 2)⁻¹) = Real.exp r
    rw [Real.rpow_def_of_pos (by norm_num)]
    congr 1
    field_simp [log2_pos.ne']

theorem lc_add (x y : EReal) : x * lc + y * lc = (x + y) * lc := by
  rw [mul_comm x, mul_comm y, mul_comm (x + y), EReal.left_distrib_of_nonneg_of_ne_top lc_pos.le lc_ne_top]

theorem lc_sub (x y : EReal) : x * lc - y * lc = (x - y) * lc := by
  rw [sub_eq_add_neg, sub_eq_add_neg, ← EReal.neg_mul, lc_add]

theorem lc_sum {ι : Type} (s : Finset ι) (f : ι → EReal) : ∑ i ∈ s, f i * lc = (∑ i ∈ s, f i) * lc := by
  classical
  induction s using Finset.induction_on with
  | empty => simp
  | insert i s hi ih => rw [Finset.sum_insert hi, Finset.sum_insert hi, ih, lc_add]

/-- A sum of extended reals with none above zero is the bottom as soon as one of them is. -/
theorem sum_eq_bot {ι : Type} (s : Finset ι) (f : ι → EReal) (i : ι) (hi : i ∈ s) (h : f i = ⊥) : ∑ i ∈ s, f i = ⊥ := by
  classical
  rw [← Finset.add_sum_erase s f hi, h, EReal.bot_add]

/-- A weighted sum in three parts — the number, what its narrow copy leaves out, and what that leaves out — is the
    weighted sum, when the weights are zero or one and no number is above zero. -/
theorem split3 {n : ℕ} (w t : Fin n → EReal) (hw : ∀ i, w i = 0 ∨ w i = 1) (ht : ∀ i, t i ≤ 0) :
    (∑ i, w i * t i + ∑ i, w i * (t i - t i)) + ∑ i, w i * ((t i - t i) - (t i - t i)) = ∑ i, w i * t i := by
  by_cases hb : ∃ i, w i = 1 ∧ t i = ⊥
  · obtain ⟨i, h1, h2⟩ := hb
    have e : ∑ i, w i * t i = ⊥ := sum_eq_bot _ _ i (Finset.mem_univ _) (by rw [h1, h2, one_mul])
    rw [e, EReal.bot_add, EReal.bot_add]
  · have z : ∀ i, w i = 0 ∨ t i - t i = 0 := fun i => by
      rcases hw i with h | h
      · exact .inl h
      · right
        refine EReal.sub_self (fun h' => ?_) (fun h' => hb ⟨i, h, h'⟩)
        have := ht i
        rw [h'] at this
        exact absurd this (by simp)
    have e1 : ∑ i, w i * (t i - t i) = 0 := Finset.sum_eq_zero fun i _ => by
      rcases z i with h | h <;> simp [h]
    have e2 : ∑ i, w i * ((t i - t i) - (t i - t i)) = 0 := Finset.sum_eq_zero fun i _ => by
      rcases z i with h | h <;> simp [h]
    rw [e1, e2, add_zero, add_zero]

/-- The logarithmic decay from a chunk's beginning through token `l`. -/
def cum (dt : Fin 128 → EReal) (a : EReal) (l : Fin 128) : EReal := ∑ s : Fin 128, if s ≤ l then dt s * a else 0

theorem cum_le (dt : Fin 128 → EReal) (a : EReal) (l : Fin 128) (h : ∀ s, dt s * a ≤ 0) : cum dt a l ≤ 0 :=
  Finset.sum_nonpos fun s _ => by split_ifs; exacts [h s, le_rfl]

/-- Column `j`'s head, and the columns of its group's B and C. -/
def hd (j : Fin 512) : Fin 8 := ⟨j.val / 64, by omega⟩
def xcol (j : Fin 512) : Fin 1024 := ⟨j.val, by omega⟩
def bcol (h : Fin 8) (n : Fin 128) : Fin 1024 := ⟨512 + 128 * (h.val / 4) + n.val, by omega⟩
def ccol (h : Fin 8) (n : Fin 128) : Fin 1024 := ⟨768 + 128 * (h.val / 4) + n.val, by omega⟩

/-- Token `s`'s weight for token `l`, but for the step size. -/
def cbS (X : Fin 128 → Fin 1024 → EReal) (h : Fin 8) (l s : Fin 128) : EReal := ∑ n : Fin 128, X l (ccol h n) * X s (bcol h n)
def segS (dt : Fin 128 → EReal) (a : EReal) (l s : Fin 128) : EReal := if s ≤ l then Ideal.exp (cum dt a l - cum dt a s) else 0

/-- What a chunk's own tokens give, what the state before the chunk gives, and the state after it. -/
def diagS (X : Fin 128 → Fin 1024 → EReal) (dt : Fin 8 → Fin 128 → EReal) (a : Fin 8 → EReal) (l : Fin 128) (j : Fin 512) : EReal :=
  ∑ s : Fin 128, cbS X (hd j) l s * segS (dt (hd j)) (a (hd j)) l s * dt (hd j) s * X s (xcol j)
def offS (X : Fin 128 → Fin 1024 → EReal) (S : Fin 128 → Fin 512 → EReal) (l : Fin 128) (j : Fin 512) : EReal :=
  ∑ n : Fin 128, X l (ccol (hd j) n) * S n j
def nextS (X : Fin 128 → Fin 1024 → EReal) (dt : Fin 8 → Fin 128 → EReal) (a : Fin 8 → EReal) (S : Fin 128 → Fin 512 → EReal)
    (n : Fin 128) (j : Fin 512) : EReal :=
  Ideal.exp (cum (dt (hd j)) (a (hd j)) 127) * S n j
    + ∑ s : Fin 128, X s (bcol (hd j) n)
        * (Ideal.exp (cum (dt (hd j)) (a (hd j)) 127 - cum (dt (hd j)) (a (hd j)) s) * dt (hd j) s) * X s (xcol j)
def mixS (X : Fin 128 → Fin 1024 → EReal) (dt : Fin 8 → Fin 128 → EReal) (a : Fin 8 → EReal) (S : Fin 128 → Fin 512 → EReal)
    (l : Fin 128) (j : Fin 512) : EReal :=
  diagS X dt a l j + Ideal.exp (cum (dt (hd j)) (a (hd j)) l) * offS X S l j

/-- The gated output of a chunk, and its grouped normalisation. -/
def gatedS (X : Fin 128 → Fin 1024 → EReal) (g : Fin 128 → Fin 512 → EReal) (dt : Fin 8 → Fin 128 → EReal) (a ds : Fin 8 → EReal)
    (S : Fin 128 → Fin 512 → EReal) (l : Fin 128) (j : Fin 512) : EReal :=
  (mixS X dt a S l j + ds (hd j) * X l (xcol j)) * g l j
def gcol (j : Fin 512) (k : Fin 256) : Fin 512 := ⟨256 * (j.val / 256) + k.val, by omega⟩
def normS (z : Fin 512 → EReal) (nw : Fin 512 → EReal) (j : Fin 512) : EReal :=
  z j * Ideal.rsqrt (Ideal.div (∑ k : Fin 256, z (gcol j k) * z (gcol j k)) (Ideal.ofBits .f32 0x43800000#32) + Ideal.ofBits .f32 0x358637BD#32) * nw j

/-- The states before the chunks of one sequence. -/
def stS (X : ℕ → Fin 128 → Fin 1024 → EReal) (dt : ℕ → Fin 8 → Fin 128 → EReal) (a : Fin 8 → EReal) : ℕ → Fin 128 → Fin 512 → EReal
  | 0 => fun _ _ => 0
  | k + 1 => nextS (X k) (dt k) a (stS X dt a k)

end Cert.Proof.Ssd

end
-- ==== Proof.SsdPay.lean ====
/-
  The recurrence kernel's operations read at an index.
-/
module

public import proofs.«01_k».proof.Proof.SsdDefs
public import proofs.«01_k».proof.Proof.SsdSpec
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

/-- Named constants at the ideal instance. -/
theorem named_log2e : Named.named (F := Ideal) κ "log2_e" (φ := .f32) 0x3FB8AA3B#32 = lc :=
  by simp [Named.named, κ, lc]
theorem named_mask : Named.named (F := Ideal) κ "mask" (φ := .f32) 0xF149F2CA#32 = (⊥ : EReal) :=
  by simp [Named.named, κ]

theorem pay7_apply (v : Vec Ideal S1x128 .f32) (h : Fin 128) : k0_pay7 v (ix2 0 h) = -Ideal.exp (v (ix2 0 h)) * lc := by
  pointwise [k0_pay7]
  rw [named_log2e, zero_sub]
theorem pay8_apply (v : Vec Ideal S16x1 .f32) (h : Fin 16) : k0_pay8 v (ix2 h 0) = -Ideal.exp (v (ix2 h 0)) * lc := by
  pointwise [k0_pay8]
  rw [named_log2e, zero_sub]

theorem sle_bit : ∀ l s : Fin 128, IntOp.cmpi CmpIPredicate.sle (BitVec.ofNat 32 s.val) (BitVec.ofNat 32 l.val) = if s ≤ l then 1#1 else 0#1 := by
  decide +kernel
theorem slt_bit : ∀ q : Fin 128, IntOp.cmpi CmpIPredicate.slt (BitVec.ofNat 32 q.val) 64#32 = if q.val < 64 then 1#1 else 0#1 := by
  decide +kernel
theorem pay9_apply (l s : Fin 128) : k0_pay9 (ix2 l s) = if s ≤ l then 1#1 else 0#1 := by
  pointwise [k0_pay9]
  exact sle_bit l s
theorem pay10_apply (l s : Fin 128) : k0_pay10 (F := Ideal) (ix2 l s) = if s ≤ l then 1 else 0 := by
  pointwise [k0_pay10, pay9_apply]
  split_ifs <;> rfl
theorem pay11_apply (s l : Fin 128) : k0_pay11 (F := Ideal) (ix2 s l) = if s ≤ l then 1 else 0 := by
  pointwise [k0_pay11]
  rw [sle_bit]
  split_ifs <;> rfl
theorem pay12_apply (l q : Fin 128) : k0_pay12 (ix2 l q) = if q.val < 64 then 1#1 else 0#1 := by
  pointwise [k0_pay12]
  exact slt_bit q
theorem floor_bit : ∀ j : Fin 512, Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              1#32)
            (IntOp.cmpi CmpIPredicate.ne (IntOp.remsi ArithUnit.vector (BitVec.ofNat 32 j.val) 64#32) 0#32))
          (IntOp.subi (IntOp.divsi ArithUnit.vector (BitVec.ofNat 32 j.val) 64#32) 1#32)
          (IntOp.divsi ArithUnit.vector (BitVec.ofNat 32 j.val) 64#32) = BitVec.ofNat 32 (j.val / 64) := by
  decide +kernel
theorem spread_apply (h : Fin 128) (j : Fin 512) : kernelRun0_A.sl.v63 (F := Ideal) (ix2 h j) = if h.val = j.val / 64 then 1 else 0 := by
  unfold kernelRun0_A.sl.v63 kernelRun0_A.sl.v62 kernelRun0_A.sl.v33 kernelRun0_A.sl.v58 kernelRun0_A.sl.v50 kernelRun0_A.sl.v42 kernelRun0_A.sl.v34 kernelRun0_A.sl.v40 kernelRun0_A.sl.v49 kernelRun0_A.sl.v54 kernelRun0_A.sl.v51 kernelRun0_A.sl.v60 kernelRun0_A.sl.cst_17 kernelRun0_A.sl.v61 kernelRun0_A.sl.cst_18
  pointwise [k0_pay14, k0_pay15]
  have e : (BitVec.ofNat 32 h.val = BitVec.ofNat 32 (j.val / 64)) ↔ h.val = j.val / 64 := by
    rw [← BitVec.toNat_inj, BitVec.toNat_ofNat, BitVec.toNat_ofNat, Nat.mod_eq_of_lt (by omega), Nat.mod_eq_of_lt (by omega)]
  have h34 : kernelRun0_A.sl.v34 (ix2 h j) = BitVec.ofNat 32 j.val := by unfold kernelRun0_A.sl.v34; pointwise
  have h40 : kernelRun0_A.sl.v40 (ix2 h j) = 0#32 := by unfold kernelRun0_A.sl.v40; pointwise
  rw [h34, h40, floor_bit j]
  have e2 : IntOp.cmpi CmpIPredicate.eq (BitVec.ofNat 32 h.val) (BitVec.ofNat 32 (j.val / 64)) = if h.val = j.val / 64 then 1#1 else 0#1 := by
    unfold IntOp.cmpi
    split_ifs with hh
    · simp [hh]
    · have := mt e.mp hh
      rw [beq_eq_false_iff_ne.mpr this]
      rfl
  rw [e2]
  split_ifs <;> rfl
/-- Two to a power not above zero is finite. -/
theorem exp2_sub_self (x : EReal) (h : x ≤ 0) : Ideal.exp2 x - Ideal.exp2 x = 0 := by
  induction x using EReal.rec with
  | bot => rw [Ideal.exp2_bot, sub_zero]
  | top => exact absurd h (by simp)
  | coe r => rw [Ideal.exp2_coe]; exact EReal.sub_self (EReal.coe_ne_top _) (EReal.coe_ne_bot _)

/-- The summed decays, by column. -/
theorem acsCol_apply (dtc : FVec Ideal S128x128 .f32) (ar : FVec Ideal S1x128 .f32) (l h : Fin 128)
    (ht : ∀ s, dtc (ix2 s h) * ar (ix2 0 h) ≤ 0) :
    acsCol dtc ar (ix2 l h) = ∑ s : Fin 128, if s ≤ l then dtc (ix2 s h) * ar (ix2 0 h) else 0 := by
  pointwise [acsCol, pay10_apply]
  rw [split3 (fun s => if s ≤ l then 1 else 0) _ (fun s => by split_ifs <;> simp) ht]
  exact Finset.sum_congr rfl fun s _ => by split_ifs <;> simp

theorem acsRow_apply (dtr : FVec Ideal S16x128 .f32) (ac : FVec Ideal S16x1 .f32) (h : Fin 16) (l : Fin 128)
    (ht : ∀ s, dtr (ix2 h s) * ac (ix2 h 0) ≤ 0) :
    acsRow dtr ac (ix2 h l) = ∑ s : Fin 128, if s ≤ l then dtr (ix2 h s) * ac (ix2 h 0) else 0 := by
  pointwise [acsRow, pay11_apply]
  simp only [mul_comm _ (ite _ _ _)]
  rw [split3 (fun s => if s ≤ l then 1 else 0) _ (fun s => by split_ifs <;> simp) ht]
  exact Finset.sum_congr rfl fun s _ => by split_ifs <;> simp

theorem eWide_apply (acs : FVec Ideal S128x128 .f32) (l : Fin 128) (j : Fin 512) (h0 : ∀ h, acs (ix2 l h) ≤ 0) :
    eWide acs (ix2 l j) = Ideal.exp2 (acs (ix2 l ⟨j.val / 64, by omega⟩)) := by
  pointwise [eWide, spread_apply]
  rw [Finset.sum_eq_single (⟨j.val / 64, by omega⟩ : Fin 128) (fun h _ hh => by
      rw [if_neg (fun e => hh (Fin.ext e)), mul_zero]) (fun hh => absurd (Finset.mem_univ _) hh), if_pos rfl, mul_one]
  rw [Finset.sum_eq_zero (fun h _ => by
      show (Ideal.exp2 _ - Ideal.exp2 _) * _ = 0
      rw [exp2_sub_self _ (h0 h), zero_mul]), add_zero]
  rfl

theorem cbDot_apply (cg : FVec Ideal S128x128 .bf16) (bg : FVec Ideal S128x128 .f32) (l s : Fin 128) :
    cbDot cg bg (ix2 l s) = ∑ n : Fin 128, cg (ix2 l n) * bg (ix2 s n) := by
  pointwise [cbDot]

theorem wDiag_apply (cb : FVec Ideal S128x128 .f32) (cA : FVec Ideal S128x1 .f32) (rA dA : FVec Ideal S1x128 .f32) (l s : Fin 128) :
    wDiag cb cA rA dA (ix2 l s)
      = cb (ix2 l s) * (if s ≤ l then Ideal.exp2 (cA (ix2 l 0) - rA (ix2 0 s)) else 0) * dA (ix2 0 s) := by
  pointwise [wDiag, pay9_apply]
  rw [named_mask]
  split_ifs <;> rfl

theorem wState_apply (bt : FVec Ideal S128x128 .f32) (rA dA : FVec Ideal S1x128 .f32) (n s : Fin 128) :
    wState bt rA dA (ix2 n s) = bt (ix2 n s) * (Ideal.exp2 (rA (ix2 0 127) - rA (ix2 0 s)) * dA (ix2 0 s)) := by
  pointwise [wState, lastOf]
  rfl

theorem decayOf_apply (rA rB : FVec Ideal S1x128 .f32) (q : Fin 128) :
    decayOf rA rB (ix2 0 q) = Ideal.exp2 (if q.val < 64 then rA (ix2 0 127) else rB (ix2 0 127)) := by
  pointwise [decayOf, lastOf, k0_pay13, pay12_apply]
  split_ifs <;> rfl

theorem pairDot_apply (w0 w1 xp : FVec Ideal S128x128 .bf16) (l q : Fin 128) :
    pairDot w0 w1 xp (ix2 l q) = ∑ s : Fin 128, (if q.val < 64 then w0 (ix2 l s) else w1 (ix2 l s)) * xp (ix2 s q) := by
  pointwise [pairDot, xSplit, pay12_apply]
  split_ifs
  · show ∑ x : Fin 128, w0 (ix2 l x) * xp (ix2 x q) + ∑ _x : Fin 128, (0 : EReal) = _
    rw [Finset.sum_const_zero, add_zero]
  · show ∑ _x : Fin 128, (0 : EReal) + ∑ x : Fin 128, w1 (ix2 l x) * xp (ix2 x q) = _
    rw [Finset.sum_const_zero, zero_add]

theorem rmsG_apply (y : FVec Ideal S128x256 .f32) (l : Fin 128) (j : Fin 256) :
    rmsG y (ix2 l j) = y (ix2 l j) * Ideal.rsqrt (Ideal.div (∑ k : Fin 256, y (ix2 l k) * y (ix2 l k)) (Ideal.ofBits .f32 0x43800000#32)
      + Ideal.ofBits .f32 0x358637BD#32) := by
  pointwise [rmsG]

end Cert.Proof.Ssd

end
-- ==== Proof.SsdRows.lean ====
/-
  A chunk of the kernel from its rows: the sums of the decays and the parts of the columns.
-/
module

public import proofs.«01_k».proof.Proof.SsdPay
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

theorem mul_lc_nonpos (x : EReal) (h : x ≤ 0) : x * lc ≤ 0 :=
  EReal.mul_nonpos_iff.mpr (.inr ⟨h, lc_pos.le⟩)

/-- A pair's columns of the whole width. -/
def jc (p : Fin 4) (q : Fin 128) : Fin 512 := ⟨128 * p.val + q.val, by omega⟩

/-- The facts about a chunk's blocks: which rows, step sizes and decay rates they hold. -/
structure Rows (act : FVec Ideal S128x1024 .f32) (dtc : FVec Ideal S128x128 .f32) (dtr : FVec Ideal S16x128 .f32)
    (ar : FVec Ideal S1x128 .f32) (ac : FVec Ideal S16x1 .f32)
    (X : Fin 128 → Fin 1024 → EReal) (dt : Fin 8 → Fin 128 → EReal) (a : Fin 8 → EReal) : Prop where
  act : ∀ l k, act (ix2 l k) = X l k
  col : ∀ l (h : Fin 8), dtc (ix2 l ⟨h.val, by omega⟩) = dt h l
  pad : ∀ l (h : Fin 128), 8 ≤ h.val → dtc (ix2 l h) = 0
  row : ∀ (h : Fin 8) l, dtr (ix2 ⟨h.val, by omega⟩ l) = dt h l
  ar : ∀ h : Fin 8, ar (ix2 0 ⟨h.val, by omega⟩) = a h * lc
  ac : ∀ h : Fin 8, ac (ix2 ⟨h.val, by omega⟩ 0) = a h * lc
  neg : ∀ h l, dt h l * a h ≤ 0

variable {act : FVec Ideal S128x1024 .f32} {dtc : FVec Ideal S128x128 .f32} {dtr : FVec Ideal S16x128 .f32}
  {ar : FVec Ideal S1x128 .f32} {ac : FVec Ideal S16x1 .f32}
  {X : Fin 128 → Fin 1024 → EReal} {dt : Fin 8 → Fin 128 → EReal} {a : Fin 8 → EReal}

theorem cum_lc (d : Fin 128 → EReal) (b : EReal) (l : Fin 128) :
    (∑ s : Fin 128, if s ≤ l then d s * (b * lc) else 0) = cum d b l * lc := by
  unfold cum
  rw [← lc_sum]
  exact Finset.sum_congr rfl fun s _ => by split_ifs <;> simp [mul_assoc]

/-- The sums by column and by row are the decays in units of the logarithm of two. -/
theorem col_apply (H : Rows act dtc dtr ar ac X dt a) (l : Fin 128) (h : Fin 8) (h' : Fin 128) (e : h'.val = h.val) :
    acsCol dtc ar (ix2 l h') = cum (dt h) (a h) l * lc := by
  rw [show h' = ⟨h.val, by omega⟩ from Fin.ext e, acsCol_apply _ _ _ _ (fun s => by
    rw [H.col, H.ar, ← mul_assoc]; exact mul_lc_nonpos _ (H.neg h s)), ← cum_lc]
  exact Finset.sum_congr rfl fun s _ => by rw [H.col, H.ar]

theorem row_apply (H : Rows act dtc dtr ar ac X dt a) (h : Fin 8) (h' : Fin 16) (e : h'.val = h.val) (l : Fin 128) :
    acsRow dtr ac (ix2 h' l) = cum (dt h) (a h) l * lc := by
  rw [show h' = ⟨h.val, by omega⟩ from Fin.ext e, acsRow_apply _ _ _ _ (fun s => by
    rw [H.row, H.ac, ← mul_assoc]; exact mul_lc_nonpos _ (H.neg h s)), ← cum_lc]
  exact Finset.sum_congr rfl fun s _ => by rw [H.row, H.ac]

theorem e_apply (H : Rows act dtc dtr ar ac X dt a) (l : Fin 128) (j : Fin 512) :
    eWide (acsCol dtc ar) (ix2 l j) = Ideal.exp (cum (dt (hd j)) (a (hd j)) l) := by
  rw [eWide_apply _ _ _ (fun h => ?_), col_apply H l (hd j) _ rfl, exp2_lc]
  by_cases hh : h.val < 8
  · rw [col_apply H l ⟨h.val, hh⟩ h rfl]
    exact mul_lc_nonpos _ (cum_le _ _ _ (H.neg _))
  · rw [acsCol_apply _ _ _ _ (fun s => by rw [H.pad s h (by omega), zero_mul])]
    exact Finset.sum_nonpos fun s _ => by rw [H.pad s h (by omega), zero_mul, ite_self]

theorem yPair_raw (cg : FVec Ideal S128x128 .bf16) (bg : FVec Ideal S128x128 .f32) (cA cB : FVec Ideal S128x1 .f32)
    (rA rB dA dB : FVec Ideal S1x128 .f32) (xp : FVec Ideal S128x128 .bf16) (e s : FVec Ideal S128x128 .f32) (l q : Fin 128) :
    yPair cg bg cA cB rA rB dA dB xp e s (ix2 l q)
      = ∑ t : Fin 128, (if q.val < 64 then wDiag (cbDot cg bg) cA rA dA (ix2 l t) else wDiag (cbDot cg bg) cB rB dB (ix2 l t)) * xp (ix2 t q)
        + e (ix2 l q) * ∑ n : Fin 128, cg (ix2 l n) * s (ix2 n q) := by
  rw [← pairDot_apply]
  unfold yPair
  generalize pairDot (F := Ideal) _ _ _ = P
  pointwise

theorem sPair_raw (bg : FVec Ideal S128x128 .f32) (rA rB dA dB : FVec Ideal S1x128 .f32) (xp : FVec Ideal S128x128 .bf16)
    (s : FVec Ideal S128x128 .f32) (n q : Fin 128) :
    sPair bg rA rB dA dB xp s (ix2 n q)
      = Ideal.exp2 (if q.val < 64 then rA (ix2 0 127) else rB (ix2 0 127)) * s (ix2 n q)
        + ∑ t : Fin 128, (if q.val < 64 then bg (ix2 t n) * (Ideal.exp2 (rA (ix2 0 127) - rA (ix2 0 t)) * dA (ix2 0 t))
            else bg (ix2 t n) * (Ideal.exp2 (rB (ix2 0 127) - rB (ix2 0 t)) * dB (ix2 0 t))) * xp (ix2 t q) := by
  have e : sPair bg rA rB dA dB xp s (ix2 n q)
      = decayOf rA rB (ix2 0 q) * s (ix2 n q)
        + pairDot (wState (transpose S128x128 [1, 0] bg transposes_S128x128_p1_0_S128x128) rA dA)
            (wState (transpose S128x128 [1, 0] bg transposes_S128x128_p1_0_S128x128) rB dB) xp (ix2 n q) := by
    unfold sPair
    generalize pairDot (F := Ideal) _ _ _ = P
    generalize decayOf (F := Ideal) _ _ = Q
    pointwise
  rw [e, decayOf_apply, pairDot_apply]
  have tr : ∀ t, transpose S128x128 [1, 0] bg transposes_S128x128_p1_0_S128x128 (ix2 n t) = bg (ix2 t n) := fun t => by pointwise
  simp only [wState_apply, tr]

theorem xs_apply (H : Rows act dtc dtr ar ac X dt a) (l : Fin 128) (j : Fin 512) : xsOf act (ix2 l j) = X l (xcol j) := by
  rw [← H.act]
  pointwise [xsOf]
  all_goals exact congrArg (fun k => act (ix2 l k)) (Fin.ext (by simp [xcol]))
theorem xP0_apply (H : Rows act dtc dtr ar ac X dt a) (l q : Fin 128) : xP0 act (ix2 l q) = X l (xcol (jc 0 q)) := by
  rw [← H.act]
  pointwise [xP0, xsOf]
  all_goals exact congrArg (fun k => act (ix2 l k)) (Fin.ext (by simp [xcol, jc]))
theorem xP1_apply (H : Rows act dtc dtr ar ac X dt a) (l q : Fin 128) : xP1 act (ix2 l q) = X l (xcol (jc 1 q)) := by
  rw [← H.act]
  pointwise [xP1, xsOf]
  all_goals exact congrArg (fun k => act (ix2 l k)) (Fin.ext (by simp [xcol, jc]))
theorem xP2_apply (H : Rows act dtc dtr ar ac X dt a) (l q : Fin 128) : xP2 act (ix2 l q) = X l (xcol (jc 2 q)) := by
  rw [← H.act]
  pointwise [xP2, xsOf]
  all_goals exact congrArg (fun k => act (ix2 l k)) (Fin.ext (by simp [xcol, jc]))
theorem xP3_apply (H : Rows act dtc dtr ar ac X dt a) (l q : Fin 128) : xP3 act (ix2 l q) = X l (xcol (jc 3 q)) := by
  rw [← H.act]
  pointwise [xP3, xsOf]
  all_goals exact congrArg (fun k => act (ix2 l k)) (Fin.ext (by simp [xcol, jc]))
theorem bG0_apply (H : Rows act dtc dtr ar ac X dt a) (l n : Fin 128) (h : Fin 8) (hg : h.val / 4 = 0) :
    bG0 act (ix2 l n) = X l (bcol h n) := by
  have e : bcol h n = ⟨512 + 0 + n.val, by omega⟩ := Fin.ext (by unfold bcol; dsimp only; omega)
  rw [e, ← H.act]
  pointwise [bG0, bOf]
  all_goals exact congrArg (fun k => act (ix2 l k)) (Fin.ext (by dsimp only; omega))
theorem cG0_apply (H : Rows act dtc dtr ar ac X dt a) (l n : Fin 128) (h : Fin 8) (hg : h.val / 4 = 0) :
    cG0 act (ix2 l n) = X l (ccol h n) := by
  have e : ccol h n = ⟨768 + 0 + n.val, by omega⟩ := Fin.ext (by unfold ccol; dsimp only; omega)
  rw [e, ← H.act]
  pointwise [cG0, cOf]
  all_goals exact congrArg (fun k => act (ix2 l k)) (Fin.ext (by dsimp only; omega))
theorem bG1_apply (H : Rows act dtc dtr ar ac X dt a) (l n : Fin 128) (h : Fin 8) (hg : h.val / 4 = 1) :
    bG1 act (ix2 l n) = X l (bcol h n) := by
  have e : bcol h n = ⟨512 + 128 + n.val, by omega⟩ := Fin.ext (by unfold bcol; dsimp only; omega)
  rw [e, ← H.act]
  pointwise [bG1, bOf]
  all_goals exact congrArg (fun k => act (ix2 l k)) (Fin.ext (by dsimp only; omega))
theorem cG1_apply (H : Rows act dtc dtr ar ac X dt a) (l n : Fin 128) (h : Fin 8) (hg : h.val / 4 = 1) :
    cG1 act (ix2 l n) = X l (ccol h n) := by
  have e : ccol h n = ⟨768 + 128 + n.val, by omega⟩ := Fin.ext (by unfold ccol; dsimp only; omega)
  rw [e, ← H.act]
  pointwise [cG1, cOf]
  all_goals exact congrArg (fun k => act (ix2 l k)) (Fin.ext (by dsimp only; omega))

end Cert.Proof.Ssd

end
-- ==== Proof.SsdPairs.lean ====
/-
  The four pairs of heads of a chunk of the kernel: what the chunk's specification says.
-/
module

public import proofs.«01_k».proof.Proof.SsdRows
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

variable {act : FVec Ideal S128x1024 .f32} {dtc : FVec Ideal S128x128 .f32} {dtr : FVec Ideal S16x128 .f32}
  {ar : FVec Ideal S1x128 .f32} {ac : FVec Ideal S16x1 .f32}
  {X : Fin 128 → Fin 1024 → EReal} {dt : Fin 8 → Fin 128 → EReal} {a : Fin 8 → EReal}

/-- Head 0: its part of the chunk's output, and of the state after the chunk. -/
theorem y0_apply (H : Rows act dtc dtr ar ac X dt a) (s : FVec Ideal S128x128 .f32) (S : Fin 128 → Fin 512 → EReal)
    (hS : ∀ n q, s (ix2 n q) = S n (jc 0 q)) (l q : Fin 128) (hq : q.val < 64) :
    chunkY0 act dtc dtr ar ac s (ix2 l q) = mixS X dt a S l (jc 0 q) := by
  have hh : hd (jc 0 q) = 0 := Fin.ext (by show (128 * 0 + q.val) / 64 = 0; omega)
  unfold chunkY0 mixS diagS offS
  rw [yPair_raw, hh]
  refine congrArg₂ (· + ·) (Finset.sum_congr rfl fun t _ => ?_) (congrArg₂ (· * ·) ?_ (Finset.sum_congr rfl fun n _ => ?_))
  · rw [if_pos hq, wDiag_apply, cbDot_apply, xP0_apply H]
    have ec : extractStridedSlice S128x1 ![0, 0] (acsCol dtc ar) slices_S128x128_o0_0_S128x1 (ix2 l 0) = cum (dt 0) (a 0) l * lc := by
      rw [← col_apply H l 0 0 rfl]; generalize acsCol dtc ar = y; pointwise
    have er : extractStridedSlice S1x128 ![0, 0] (acsRow dtr ac) slices_S16x128_o0_0_S1x128 (ix2 0 t) = cum (dt 0) (a 0) t * lc := by
      rw [← row_apply H 0 0 rfl t]; generalize acsRow dtr ac = y; pointwise
    have ed : extractStridedSlice S1x128 ![0, 0] dtr slices_S16x128_o0_0_S1x128 (ix2 0 t) = dt 0 t := by
      rw [← H.row 0 t]; pointwise
    rw [ec, er, ed, lc_sub, exp2_lc]
    unfold cbS segS
    rw [Finset.sum_congr rfl fun n _ => congrArg₂ (· * ·) (cG0_apply H l n 0 rfl) (bG0_apply H t n 0 rfl)]
  · have ee := e_apply H l (jc 0 q)
    rw [hh] at ee
    rw [← ee]; generalize eWide (F := Ideal) _ = y; pointwise
    all_goals exact congrArg (fun k => y (ix2 l k)) (Fin.ext (by simp [jc]))
  · rw [cG0_apply H l n 0 rfl, hS]
theorem s0_apply (H : Rows act dtc dtr ar ac X dt a) (s : FVec Ideal S128x128 .f32) (S : Fin 128 → Fin 512 → EReal)
    (hS : ∀ n q, s (ix2 n q) = S n (jc 0 q)) (n q : Fin 128) (hq : q.val < 64) :
    chunkS0 act dtr ac s (ix2 n q) = nextS X dt a S n (jc 0 q) := by
  have hh : hd (jc 0 q) = 0 := Fin.ext (by show (128 * 0 + q.val) / 64 = 0; omega)
  have er : ∀ t, extractStridedSlice S1x128 ![0, 0] (acsRow dtr ac) slices_S16x128_o0_0_S1x128 (ix2 0 t) = cum (dt 0) (a 0) t * lc := fun t => by
    rw [← row_apply H 0 0 rfl t]; generalize acsRow dtr ac = y; pointwise
  unfold chunkS0 nextS
  rw [sPair_raw, hh, if_pos hq, er, exp2_lc, hS]
  refine congrArg₂ (· + ·) rfl (Finset.sum_congr rfl fun t _ => ?_)
  have ed : extractStridedSlice S1x128 ![0, 0] dtr slices_S16x128_o0_0_S1x128 (ix2 0 t) = dt 0 t := by
    rw [← H.row 0 t]; pointwise
  rw [if_pos hq, er, ed, lc_sub, exp2_lc, xP0_apply H, bG0_apply H t n 0 rfl]

/-- Head 1: its part of the chunk's output, and of the state after the chunk. -/
theorem y1_apply (H : Rows act dtc dtr ar ac X dt a) (s : FVec Ideal S128x128 .f32) (S : Fin 128 → Fin 512 → EReal)
    (hS : ∀ n q, s (ix2 n q) = S n (jc 0 q)) (l q : Fin 128) (hq : ¬ q.val < 64) :
    chunkY0 act dtc dtr ar ac s (ix2 l q) = mixS X dt a S l (jc 0 q) := by
  have hh : hd (jc 0 q) = 1 := Fin.ext (by show (128 * 0 + q.val) / 64 = 1; omega)
  unfold chunkY0 mixS diagS offS
  rw [yPair_raw, hh]
  refine congrArg₂ (· + ·) (Finset.sum_congr rfl fun t _ => ?_) (congrArg₂ (· * ·) ?_ (Finset.sum_congr rfl fun n _ => ?_))
  · rw [if_neg hq, wDiag_apply, cbDot_apply, xP0_apply H]
    have ec : extractStridedSlice S128x1 ![0, 1] (acsCol dtc ar) slices_S128x128_o0_1_S128x1 (ix2 l 0) = cum (dt 1) (a 1) l * lc := by
      rw [← col_apply H l 1 1 rfl]; generalize acsCol dtc ar = y; pointwise
    have er : extractStridedSlice S1x128 ![1, 0] (acsRow dtr ac) slices_S16x128_o1_0_S1x128 (ix2 0 t) = cum (dt 1) (a 1) t * lc := by
      rw [← row_apply H 1 1 rfl t]; generalize acsRow dtr ac = y; pointwise
    have ed : extractStridedSlice S1x128 ![1, 0] dtr slices_S16x128_o1_0_S1x128 (ix2 0 t) = dt 1 t := by
      rw [← H.row 1 t]; pointwise
    rw [ec, er, ed, lc_sub, exp2_lc]
    unfold cbS segS
    rw [Finset.sum_congr rfl fun n _ => congrArg₂ (· * ·) (cG0_apply H l n 1 rfl) (bG0_apply H t n 1 rfl)]
  · have ee := e_apply H l (jc 0 q)
    rw [hh] at ee
    rw [← ee]; generalize eWide (F := Ideal) _ = y; pointwise
    all_goals exact congrArg (fun k => y (ix2 l k)) (Fin.ext (by simp [jc]))
  · rw [cG0_apply H l n 1 rfl, hS]
theorem s1_apply (H : Rows act dtc dtr ar ac X dt a) (s : FVec Ideal S128x128 .f32) (S : Fin 128 → Fin 512 → EReal)
    (hS : ∀ n q, s (ix2 n q) = S n (jc 0 q)) (n q : Fin 128) (hq : ¬ q.val < 64) :
    chunkS0 act dtr ac s (ix2 n q) = nextS X dt a S n (jc 0 q) := by
  have hh : hd (jc 0 q) = 1 := Fin.ext (by show (128 * 0 + q.val) / 64 = 1; omega)
  have er : ∀ t, extractStridedSlice S1x128 ![1, 0] (acsRow dtr ac) slices_S16x128_o1_0_S1x128 (ix2 0 t) = cum (dt 1) (a 1) t * lc := fun t => by
    rw [← row_apply H 1 1 rfl t]; generalize acsRow dtr ac = y; pointwise
  unfold chunkS0 nextS
  rw [sPair_raw, hh, if_neg hq, er, exp2_lc, hS]
  refine congrArg₂ (· + ·) rfl (Finset.sum_congr rfl fun t _ => ?_)
  have ed : extractStridedSlice S1x128 ![1, 0] dtr slices_S16x128_o1_0_S1x128 (ix2 0 t) = dt 1 t := by
    rw [← H.row 1 t]; pointwise
  rw [if_neg hq, er, ed, lc_sub, exp2_lc, xP0_apply H, bG0_apply H t n 1 rfl]

/-- Pair 0. -/
theorem chunkY0_apply (H : Rows act dtc dtr ar ac X dt a) (s : FVec Ideal S128x128 .f32) (S : Fin 128 → Fin 512 → EReal)
    (hS : ∀ n q, s (ix2 n q) = S n (jc 0 q)) (l q : Fin 128) :
    chunkY0 act dtc dtr ar ac s (ix2 l q) = mixS X dt a S l (jc 0 q) :=
  if hq : q.val < 64 then y0_apply H s S hS l q hq else y1_apply H s S hS l q hq
theorem chunkS0_apply (H : Rows act dtc dtr ar ac X dt a) (s : FVec Ideal S128x128 .f32) (S : Fin 128 → Fin 512 → EReal)
    (hS : ∀ n q, s (ix2 n q) = S n (jc 0 q)) (n q : Fin 128) :
    chunkS0 act dtr ac s (ix2 n q) = nextS X dt a S n (jc 0 q) :=
  if hq : q.val < 64 then s0_apply H s S hS n q hq else s1_apply H s S hS n q hq

/-- Head 2: its part of the chunk's output, and of the state after the chunk. -/
theorem y2_apply (H : Rows act dtc dtr ar ac X dt a) (s : FVec Ideal S128x128 .f32) (S : Fin 128 → Fin 512 → EReal)
    (hS : ∀ n q, s (ix2 n q) = S n (jc 1 q)) (l q : Fin 128) (hq : q.val < 64) :
    chunkY1 act dtc dtr ar ac s (ix2 l q) = mixS X dt a S l (jc 1 q) := by
  have hh : hd (jc 1 q) = 2 := Fin.ext (by show (128 * 1 + q.val) / 64 = 2; omega)
  unfold chunkY1 mixS diagS offS
  rw [yPair_raw, hh]
  refine congrArg₂ (· + ·) (Finset.sum_congr rfl fun t _ => ?_) (congrArg₂ (· * ·) ?_ (Finset.sum_congr rfl fun n _ => ?_))
  · rw [if_pos hq, wDiag_apply, cbDot_apply, xP1_apply H]
    have ec : extractStridedSlice S128x1 ![0, 2] (acsCol dtc ar) slices_S128x128_o0_2_S128x1 (ix2 l 0) = cum (dt 2) (a 2) l * lc := by
      rw [← col_apply H l 2 2 rfl]; generalize acsCol dtc ar = y; pointwise
    have er : extractStridedSlice S1x128 ![2, 0] (acsRow dtr ac) slices_S16x128_o2_0_S1x128 (ix2 0 t) = cum (dt 2) (a 2) t * lc := by
      rw [← row_apply H 2 2 rfl t]; generalize acsRow dtr ac = y; pointwise
    have ed : extractStridedSlice S1x128 ![2, 0] dtr slices_S16x128_o2_0_S1x128 (ix2 0 t) = dt 2 t := by
      rw [← H.row 2 t]; pointwise
    rw [ec, er, ed, lc_sub, exp2_lc]
    unfold cbS segS
    rw [Finset.sum_congr rfl fun n _ => congrArg₂ (· * ·) (cG0_apply H l n 2 rfl) (bG0_apply H t n 2 rfl)]
  · have ee := e_apply H l (jc 1 q)
    rw [hh] at ee
    rw [← ee]; generalize eWide (F := Ideal) _ = y; pointwise
    all_goals exact congrArg (fun k => y (ix2 l k)) (Fin.ext (by simp [jc]))
  · rw [cG0_apply H l n 2 rfl, hS]
theorem s2_apply (H : Rows act dtc dtr ar ac X dt a) (s : FVec Ideal S128x128 .f32) (S : Fin 128 → Fin 512 → EReal)
    (hS : ∀ n q, s (ix2 n q) = S n (jc 1 q)) (n q : Fin 128) (hq : q.val < 64) :
    chunkS1 act dtr ac s (ix2 n q) = nextS X dt a S n (jc 1 q) := by
  have hh : hd (jc 1 q) = 2 := Fin.ext (by show (128 * 1 + q.val) / 64 = 2; omega)
  have er : ∀ t, extractStridedSlice S1x128 ![2, 0] (acsRow dtr ac) slices_S16x128_o2_0_S1x128 (ix2 0 t) = cum (dt 2) (a 2) t * lc := fun t => by
    rw [← row_apply H 2 2 rfl t]; generalize acsRow dtr ac = y; pointwise
  unfold chunkS1 nextS
  rw [sPair_raw, hh, if_pos hq, er, exp2_lc, hS]
  refine congrArg₂ (· + ·) rfl (Finset.sum_congr rfl fun t _ => ?_)
  have ed : extractStridedSlice S1x128 ![2, 0] dtr slices_S16x128_o2_0_S1x128 (ix2 0 t) = dt 2 t := by
    rw [← H.row 2 t]; pointwise
  rw [if_pos hq, er, ed, lc_sub, exp2_lc, xP1_apply H, bG0_apply H t n 2 rfl]

/-- Head 3: its part of the chunk's output, and of the state after the chunk. -/
theorem y3_apply (H : Rows act dtc dtr ar ac X dt a) (s : FVec Ideal S128x128 .f32) (S : Fin 128 → Fin 512 → EReal)
    (hS : ∀ n q, s (ix2 n q) = S n (jc 1 q)) (l q : Fin 128) (hq : ¬ q.val < 64) :
    chunkY1 act dtc dtr ar ac s (ix2 l q) = mixS X dt a S l (jc 1 q) := by
  have hh : hd (jc 1 q) = 3 := Fin.ext (by show (128 * 1 + q.val) / 64 = 3; omega)
  unfold chunkY1 mixS diagS offS
  rw [yPair_raw, hh]
  refine congrArg₂ (· + ·) (Finset.sum_congr rfl fun t _ => ?_) (congrArg₂ (· * ·) ?_ (Finset.sum_congr rfl fun n _ => ?_))
  · rw [if_neg hq, wDiag_apply, cbDot_apply, xP1_apply H]
    have ec : extractStridedSlice S128x1 ![0, 3] (acsCol dtc ar) slices_S128x128_o0_3_S128x1 (ix2 l 0) = cum (dt 3) (a 3) l * lc := by
      rw [← col_apply H l 3 3 rfl]; generalize acsCol dtc ar = y; pointwise
    have er : extractStridedSlice S1x128 ![3, 0] (acsRow dtr ac) slices_S16x128_o3_0_S1x128 (ix2 0 t) = cum (dt 3) (a 3) t * lc := by
      rw [← row_apply H 3 3 rfl t]; generalize acsRow dtr ac = y; pointwise
    have ed : extractStridedSlice S1x128 ![3, 0] dtr slices_S16x128_o3_0_S1x128 (ix2 0 t) = dt 3 t := by
      rw [← H.row 3 t]; pointwise
    rw [ec, er, ed, lc_sub, exp2_lc]
    unfold cbS segS
    rw [Finset.sum_congr rfl fun n _ => congrArg₂ (· * ·) (cG0_apply H l n 3 rfl) (bG0_apply H t n 3 rfl)]
  · have ee := e_apply H l (jc 1 q)
    rw [hh] at ee
    rw [← ee]; generalize eWide (F := Ideal) _ = y; pointwise
    all_goals exact congrArg (fun k => y (ix2 l k)) (Fin.ext (by simp [jc]))
  · rw [cG0_apply H l n 3 rfl, hS]
theorem s3_apply (H : Rows act dtc dtr ar ac X dt a) (s : FVec Ideal S128x128 .f32) (S : Fin 128 → Fin 512 → EReal)
    (hS : ∀ n q, s (ix2 n q) = S n (jc 1 q)) (n q : Fin 128) (hq : ¬ q.val < 64) :
    chunkS1 act dtr ac s (ix2 n q) = nextS X dt a S n (jc 1 q) := by
  have hh : hd (jc 1 q) = 3 := Fin.ext (by show (128 * 1 + q.val) / 64 = 3; omega)
  have er : ∀ t, extractStridedSlice S1x128 ![3, 0] (acsRow dtr ac) slices_S16x128_o3_0_S1x128 (ix2 0 t) = cum (dt 3) (a 3) t * lc := fun t => by
    rw [← row_apply H 3 3 rfl t]; generalize acsRow dtr ac = y; pointwise
  unfold chunkS1 nextS
  rw [sPair_raw, hh, if_neg hq, er, exp2_lc, hS]
  refine congrArg₂ (· + ·) rfl (Finset.sum_congr rfl fun t _ => ?_)
  have ed : extractStridedSlice S1x128 ![3, 0] dtr slices_S16x128_o3_0_S1x128 (ix2 0 t) = dt 3 t := by
    rw [← H.row 3 t]; pointwise
  rw [if_neg hq, er, ed, lc_sub, exp2_lc, xP1_apply H, bG0_apply H t n 3 rfl]

/-- Pair 1. -/
theorem chunkY1_apply (H : Rows act dtc dtr ar ac X dt a) (s : FVec Ideal S128x128 .f32) (S : Fin 128 → Fin 512 → EReal)
    (hS : ∀ n q, s (ix2 n q) = S n (jc 1 q)) (l q : Fin 128) :
    chunkY1 act dtc dtr ar ac s (ix2 l q) = mixS X dt a S l (jc 1 q) :=
  if hq : q.val < 64 then y2_apply H s S hS l q hq else y3_apply H s S hS l q hq
theorem chunkS1_apply (H : Rows act dtc dtr ar ac X dt a) (s : FVec Ideal S128x128 .f32) (S : Fin 128 → Fin 512 → EReal)
    (hS : ∀ n q, s (ix2 n q) = S n (jc 1 q)) (n q : Fin 128) :
    chunkS1 act dtr ac s (ix2 n q) = nextS X dt a S n (jc 1 q) :=
  if hq : q.val < 64 then s2_apply H s S hS n q hq else s3_apply H s S hS n q hq

/-- Head 4: its part of the chunk's output, and of the state after the chunk. -/
theorem y4_apply (H : Rows act dtc dtr ar ac X dt a) (s : FVec Ideal S128x128 .f32) (S : Fin 128 → Fin 512 → EReal)
    (hS : ∀ n q, s (ix2 n q) = S n (jc 2 q)) (l q : Fin 128) (hq : q.val < 64) :
    chunkY2 act dtc dtr ar ac s (ix2 l q) = mixS X dt a S l (jc 2 q) := by
  have hh : hd (jc 2 q) = 4 := Fin.ext (by show (128 * 2 + q.val) / 64 = 4; omega)
  unfold chunkY2 mixS diagS offS
  rw [yPair_raw, hh]
  refine congrArg₂ (· + ·) (Finset.sum_congr rfl fun t _ => ?_) (congrArg₂ (· * ·) ?_ (Finset.sum_congr rfl fun n _ => ?_))
  · rw [if_pos hq, wDiag_apply, cbDot_apply, xP2_apply H]
    have ec : extractStridedSlice S128x1 ![0, 4] (acsCol dtc ar) slices_S128x128_o0_4_S128x1 (ix2 l 0) = cum (dt 4) (a 4) l * lc := by
      rw [← col_apply H l 4 4 rfl]; generalize acsCol dtc ar = y; pointwise
    have er : extractStridedSlice S1x128 ![4, 0] (acsRow dtr ac) slices_S16x128_o4_0_S1x128 (ix2 0 t) = cum (dt 4) (a 4) t * lc := by
      rw [← row_apply H 4 4 rfl t]; generalize acsRow dtr ac = y; pointwise
    have ed : extractStridedSlice S1x128 ![4, 0] dtr slices_S16x128_o4_0_S1x128 (ix2 0 t) = dt 4 t := by
      rw [← H.row 4 t]; pointwise
    rw [ec, er, ed, lc_sub, exp2_lc]
    unfold cbS segS
    rw [Finset.sum_congr rfl fun n _ => congrArg₂ (· * ·) (cG1_apply H l n 4 rfl) (bG1_apply H t n 4 rfl)]
  · have ee := e_apply H l (jc 2 q)
    rw [hh] at ee
    rw [← ee]; generalize eWide (F := Ideal) _ = y; pointwise
    all_goals exact congrArg (fun k => y (ix2 l k)) (Fin.ext (by simp [jc]))
  · rw [cG1_apply H l n 4 rfl, hS]
theorem s4_apply (H : Rows act dtc dtr ar ac X dt a) (s : FVec Ideal S128x128 .f32) (S : Fin 128 → Fin 512 → EReal)
    (hS : ∀ n q, s (ix2 n q) = S n (jc 2 q)) (n q : Fin 128) (hq : q.val < 64) :
    chunkS2 act dtr ac s (ix2 n q) = nextS X dt a S n (jc 2 q) := by
  have hh : hd (jc 2 q) = 4 := Fin.ext (by show (128 * 2 + q.val) / 64 = 4; omega)
  have er : ∀ t, extractStridedSlice S1x128 ![4, 0] (acsRow dtr ac) slices_S16x128_o4_0_S1x128 (ix2 0 t) = cum (dt 4) (a 4) t * lc := fun t => by
    rw [← row_apply H 4 4 rfl t]; generalize acsRow dtr ac = y; pointwise
  unfold chunkS2 nextS
  rw [sPair_raw, hh, if_pos hq, er, exp2_lc, hS]
  refine congrArg₂ (· + ·) rfl (Finset.sum_congr rfl fun t _ => ?_)
  have ed : extractStridedSlice S1x128 ![4, 0] dtr slices_S16x128_o4_0_S1x128 (ix2 0 t) = dt 4 t := by
    rw [← H.row 4 t]; pointwise
  rw [if_pos hq, er, ed, lc_sub, exp2_lc, xP2_apply H, bG1_apply H t n 4 rfl]

/-- Head 5: its part of the chunk's output, and of the state after the chunk. -/
theorem y5_apply (H : Rows act dtc dtr ar ac X dt a) (s : FVec Ideal S128x128 .f32) (S : Fin 128 → Fin 512 → EReal)
    (hS : ∀ n q, s (ix2 n q) = S n (jc 2 q)) (l q : Fin 128) (hq : ¬ q.val < 64) :
    chunkY2 act dtc dtr ar ac s (ix2 l q) = mixS X dt a S l (jc 2 q) := by
  have hh : hd (jc 2 q) = 5 := Fin.ext (by show (128 * 2 + q.val) / 64 = 5; omega)
  unfold chunkY2 mixS diagS offS
  rw [yPair_raw, hh]
  refine congrArg₂ (· + ·) (Finset.sum_congr rfl fun t _ => ?_) (congrArg₂ (· * ·) ?_ (Finset.sum_congr rfl fun n _ => ?_))
  · rw [if_neg hq, wDiag_apply, cbDot_apply, xP2_apply H]
    have ec : extractStridedSlice S128x1 ![0, 5] (acsCol dtc ar) slices_S128x128_o0_5_S128x1 (ix2 l 0) = cum (dt 5) (a 5) l * lc := by
      rw [← col_apply H l 5 5 rfl]; generalize acsCol dtc ar = y; pointwise
    have er : extractStridedSlice S1x128 ![5, 0] (acsRow dtr ac) slices_S16x128_o5_0_S1x128 (ix2 0 t) = cum (dt 5) (a 5) t * lc := by
      rw [← row_apply H 5 5 rfl t]; generalize acsRow dtr ac = y; pointwise
    have ed : extractStridedSlice S1x128 ![5, 0] dtr slices_S16x128_o5_0_S1x128 (ix2 0 t) = dt 5 t := by
      rw [← H.row 5 t]; pointwise
    rw [ec, er, ed, lc_sub, exp2_lc]
    unfold cbS segS
    rw [Finset.sum_congr rfl fun n _ => congrArg₂ (· * ·) (cG1_apply H l n 5 rfl) (bG1_apply H t n 5 rfl)]
  · have ee := e_apply H l (jc 2 q)
    rw [hh] at ee
    rw [← ee]; generalize eWide (F := Ideal) _ = y; pointwise
    all_goals exact congrArg (fun k => y (ix2 l k)) (Fin.ext (by simp [jc]))
  · rw [cG1_apply H l n 5 rfl, hS]
theorem s5_apply (H : Rows act dtc dtr ar ac X dt a) (s : FVec Ideal S128x128 .f32) (S : Fin 128 → Fin 512 → EReal)
    (hS : ∀ n q, s (ix2 n q) = S n (jc 2 q)) (n q : Fin 128) (hq : ¬ q.val < 64) :
    chunkS2 act dtr ac s (ix2 n q) = nextS X dt a S n (jc 2 q) := by
  have hh : hd (jc 2 q) = 5 := Fin.ext (by show (128 * 2 + q.val) / 64 = 5; omega)
  have er : ∀ t, extractStridedSlice S1x128 ![5, 0] (acsRow dtr ac) slices_S16x128_o5_0_S1x128 (ix2 0 t) = cum (dt 5) (a 5) t * lc := fun t => by
    rw [← row_apply H 5 5 rfl t]; generalize acsRow dtr ac = y; pointwise
  unfold chunkS2 nextS
  rw [sPair_raw, hh, if_neg hq, er, exp2_lc, hS]
  refine congrArg₂ (· + ·) rfl (Finset.sum_congr rfl fun t _ => ?_)
  have ed : extractStridedSlice S1x128 ![5, 0] dtr slices_S16x128_o5_0_S1x128 (ix2 0 t) = dt 5 t := by
    rw [← H.row 5 t]; pointwise
  rw [if_neg hq, er, ed, lc_sub, exp2_lc, xP2_apply H, bG1_apply H t n 5 rfl]

/-- Pair 2. -/
theorem chunkY2_apply (H : Rows act dtc dtr ar ac X dt a) (s : FVec Ideal S128x128 .f32) (S : Fin 128 → Fin 512 → EReal)
    (hS : ∀ n q, s (ix2 n q) = S n (jc 2 q)) (l q : Fin 128) :
    chunkY2 act dtc dtr ar ac s (ix2 l q) = mixS X dt a S l (jc 2 q) :=
  if hq : q.val < 64 then y4_apply H s S hS l q hq else y5_apply H s S hS l q hq
theorem chunkS2_apply (H : Rows act dtc dtr ar ac X dt a) (s : FVec Ideal S128x128 .f32) (S : Fin 128 → Fin 512 → EReal)
    (hS : ∀ n q, s (ix2 n q) = S n (jc 2 q)) (n q : Fin 128) :
    chunkS2 act dtr ac s (ix2 n q) = nextS X dt a S n (jc 2 q) :=
  if hq : q.val < 64 then s4_apply H s S hS n q hq else s5_apply H s S hS n q hq

/-- Head 6: its part of the chunk's output, and of the state after the chunk. -/
theorem y6_apply (H : Rows act dtc dtr ar ac X dt a) (s : FVec Ideal S128x128 .f32) (S : Fin 128 → Fin 512 → EReal)
    (hS : ∀ n q, s (ix2 n q) = S n (jc 3 q)) (l q : Fin 128) (hq : q.val < 64) :
    chunkY3 act dtc dtr ar ac s (ix2 l q) = mixS X dt a S l (jc 3 q) := by
  have hh : hd (jc 3 q) = 6 := Fin.ext (by show (128 * 3 + q.val) / 64 = 6; omega)
  unfold chunkY3 mixS diagS offS
  rw [yPair_raw, hh]
  refine congrArg₂ (· + ·) (Finset.sum_congr rfl fun t _ => ?_) (congrArg₂ (· * ·) ?_ (Finset.sum_congr rfl fun n _ => ?_))
  · rw [if_pos hq, wDiag_apply, cbDot_apply, xP3_apply H]
    have ec : extractStridedSlice S128x1 ![0, 6] (acsCol dtc ar) slices_S128x128_o0_6_S128x1 (ix2 l 0) = cum (dt 6) (a 6) l * lc := by
      rw [← col_apply H l 6 6 rfl]; generalize acsCol dtc ar = y; pointwise
    have er : extractStridedSlice S1x128 ![6, 0] (acsRow dtr ac) slices_S16x128_o6_0_S1x128 (ix2 0 t) = cum (dt 6) (a 6) t * lc := by
      rw [← row_apply H 6 6 rfl t]; generalize acsRow dtr ac = y; pointwise
    have ed : extractStridedSlice S1x128 ![6, 0] dtr slices_S16x128_o6_0_S1x128 (ix2 0 t) = dt 6 t := by
      rw [← H.row 6 t]; pointwise
    rw [ec, er, ed, lc_sub, exp2_lc]
    unfold cbS segS
    rw [Finset.sum_congr rfl fun n _ => congrArg₂ (· * ·) (cG1_apply H l n 6 rfl) (bG1_apply H t n 6 rfl)]
  · have ee := e_apply H l (jc 3 q)
    rw [hh] at ee
    rw [← ee]; generalize eWide (F := Ideal) _ = y; pointwise
    all_goals exact congrArg (fun k => y (ix2 l k)) (Fin.ext (by simp [jc]))
  · rw [cG1_apply H l n 6 rfl, hS]
theorem s6_apply (H : Rows act dtc dtr ar ac X dt a) (s : FVec Ideal S128x128 .f32) (S : Fin 128 → Fin 512 → EReal)
    (hS : ∀ n q, s (ix2 n q) = S n (jc 3 q)) (n q : Fin 128) (hq : q.val < 64) :
    chunkS3 act dtr ac s (ix2 n q) = nextS X dt a S n (jc 3 q) := by
  have hh : hd (jc 3 q) = 6 := Fin.ext (by show (128 * 3 + q.val) / 64 = 6; omega)
  have er : ∀ t, extractStridedSlice S1x128 ![6, 0] (acsRow dtr ac) slices_S16x128_o6_0_S1x128 (ix2 0 t) = cum (dt 6) (a 6) t * lc := fun t => by
    rw [← row_apply H 6 6 rfl t]; generalize acsRow dtr ac = y; pointwise
  unfold chunkS3 nextS
  rw [sPair_raw, hh, if_pos hq, er, exp2_lc, hS]
  refine congrArg₂ (· + ·) rfl (Finset.sum_congr rfl fun t _ => ?_)
  have ed : extractStridedSlice S1x128 ![6, 0] dtr slices_S16x128_o6_0_S1x128 (ix2 0 t) = dt 6 t := by
    rw [← H.row 6 t]; pointwise
  rw [if_pos hq, er, ed, lc_sub, exp2_lc, xP3_apply H, bG1_apply H t n 6 rfl]

/-- Head 7: its part of the chunk's output, and of the state after the chunk. -/
theorem y7_apply (H : Rows act dtc dtr ar ac X dt a) (s : FVec Ideal S128x128 .f32) (S : Fin 128 → Fin 512 → EReal)
    (hS : ∀ n q, s (ix2 n q) = S n (jc 3 q)) (l q : Fin 128) (hq : ¬ q.val < 64) :
    chunkY3 act dtc dtr ar ac s (ix2 l q) = mixS X dt a S l (jc 3 q) := by
  have hh : hd (jc 3 q) = 7 := Fin.ext (by show (128 * 3 + q.val) / 64 = 7; omega)
  unfold chunkY3 mixS diagS offS
  rw [yPair_raw, hh]
  refine congrArg₂ (· + ·) (Finset.sum_congr rfl fun t _ => ?_) (congrArg₂ (· * ·) ?_ (Finset.sum_congr rfl fun n _ => ?_))
  · rw [if_neg hq, wDiag_apply, cbDot_apply, xP3_apply H]
    have ec : extractStridedSlice S128x1 ![0, 7] (acsCol dtc ar) slices_S128x128_o0_7_S128x1 (ix2 l 0) = cum (dt 7) (a 7) l * lc := by
      rw [← col_apply H l 7 7 rfl]; generalize acsCol dtc ar = y; pointwise
    have er : extractStridedSlice S1x128 ![7, 0] (acsRow dtr ac) slices_S16x128_o7_0_S1x128 (ix2 0 t) = cum (dt 7) (a 7) t * lc := by
      rw [← row_apply H 7 7 rfl t]; generalize acsRow dtr ac = y; pointwise
    have ed : extractStridedSlice S1x128 ![7, 0] dtr slices_S16x128_o7_0_S1x128 (ix2 0 t) = dt 7 t := by
      rw [← H.row 7 t]; pointwise
    rw [ec, er, ed, lc_sub, exp2_lc]
    unfold cbS segS
    rw [Finset.sum_congr rfl fun n _ => congrArg₂ (· * ·) (cG1_apply H l n 7 rfl) (bG1_apply H t n 7 rfl)]
  · have ee := e_apply H l (jc 3 q)
    rw [hh] at ee
    rw [← ee]; generalize eWide (F := Ideal) _ = y; pointwise
    all_goals exact congrArg (fun k => y (ix2 l k)) (Fin.ext (by simp [jc]))
  · rw [cG1_apply H l n 7 rfl, hS]
theorem s7_apply (H : Rows act dtc dtr ar ac X dt a) (s : FVec Ideal S128x128 .f32) (S : Fin 128 → Fin 512 → EReal)
    (hS : ∀ n q, s (ix2 n q) = S n (jc 3 q)) (n q : Fin 128) (hq : ¬ q.val < 64) :
    chunkS3 act dtr ac s (ix2 n q) = nextS X dt a S n (jc 3 q) := by
  have hh : hd (jc 3 q) = 7 := Fin.ext (by show (128 * 3 + q.val) / 64 = 7; omega)
  have er : ∀ t, extractStridedSlice S1x128 ![7, 0] (acsRow dtr ac) slices_S16x128_o7_0_S1x128 (ix2 0 t) = cum (dt 7) (a 7) t * lc := fun t => by
    rw [← row_apply H 7 7 rfl t]; generalize acsRow dtr ac = y; pointwise
  unfold chunkS3 nextS
  rw [sPair_raw, hh, if_neg hq, er, exp2_lc, hS]
  refine congrArg₂ (· + ·) rfl (Finset.sum_congr rfl fun t _ => ?_)
  have ed : extractStridedSlice S1x128 ![7, 0] dtr slices_S16x128_o7_0_S1x128 (ix2 0 t) = dt 7 t := by
    rw [← H.row 7 t]; pointwise
  rw [if_neg hq, er, ed, lc_sub, exp2_lc, xP3_apply H, bG1_apply H t n 7 rfl]

/-- Pair 3. -/
theorem chunkY3_apply (H : Rows act dtc dtr ar ac X dt a) (s : FVec Ideal S128x128 .f32) (S : Fin 128 → Fin 512 → EReal)
    (hS : ∀ n q, s (ix2 n q) = S n (jc 3 q)) (l q : Fin 128) :
    chunkY3 act dtc dtr ar ac s (ix2 l q) = mixS X dt a S l (jc 3 q) :=
  if hq : q.val < 64 then y6_apply H s S hS l q hq else y7_apply H s S hS l q hq
theorem chunkS3_apply (H : Rows act dtc dtr ar ac X dt a) (s : FVec Ideal S128x128 .f32) (S : Fin 128 → Fin 512 → EReal)
    (hS : ∀ n q, s (ix2 n q) = S n (jc 3 q)) (n q : Fin 128) :
    chunkS3 act dtr ac s (ix2 n q) = nextS X dt a S n (jc 3 q) :=
  if hq : q.val < 64 then s6_apply H s S hS n q hq else s7_apply H s S hS n q hq

end Cert.Proof.Ssd

end
-- ==== Proof.SsdOut.lean ====
/-
  A chunk of the kernel's result from its rows and the state before it.
-/
module

public import proofs.«01_k».proof.Proof.SsdPairs
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

variable {act : FVec Ideal S128x1024 .f32} {dtc : FVec Ideal S128x128 .f32} {dtr : FVec Ideal S16x128 .f32}
  {ar : FVec Ideal S1x128 .f32} {ac : FVec Ideal S16x1 .f32}
  {X : Fin 128 → Fin 1024 → EReal} {dt : Fin 8 → Fin 128 → EReal} {a : Fin 8 → EReal}

theorem gated0_apply (y0 y1 y2 y3 : FVec Ideal S128x128 .f32) (ds : FVec Ideal S1x512 .f32) (xs gate : FVec Ideal S128x512 .f32)
    (l q : Fin 128) (j : Fin 512) (hj : j = ⟨0 + q.val, by omega⟩) :
    gated y0 y1 y2 y3 ds xs gate (ix2 l j) = (y0 (ix2 l q) + ds (ix2 0 j) * xs (ix2 l j)) * gate (ix2 l j) := by
  subst hj
  pointwise [gated]
theorem gated1_apply (y0 y1 y2 y3 : FVec Ideal S128x128 .f32) (ds : FVec Ideal S1x512 .f32) (xs gate : FVec Ideal S128x512 .f32)
    (l q : Fin 128) (j : Fin 512) (hj : j = ⟨128 + q.val, by omega⟩) :
    gated y0 y1 y2 y3 ds xs gate (ix2 l j) = (y1 (ix2 l q) + ds (ix2 0 j) * xs (ix2 l j)) * gate (ix2 l j) := by
  subst hj
  pointwise [gated]
theorem gated2_apply (y0 y1 y2 y3 : FVec Ideal S128x128 .f32) (ds : FVec Ideal S1x512 .f32) (xs gate : FVec Ideal S128x512 .f32)
    (l q : Fin 128) (j : Fin 512) (hj : j = ⟨256 + q.val, by omega⟩) :
    gated y0 y1 y2 y3 ds xs gate (ix2 l j) = (y2 (ix2 l q) + ds (ix2 0 j) * xs (ix2 l j)) * gate (ix2 l j) := by
  subst hj
  pointwise [gated]
  rw [dif_neg (by omega), dif_neg (by omega), dif_pos (by omega)]
  simp only [show 256 + q.val - 128 - 128 = q.val from by omega]
theorem gated3_apply (y0 y1 y2 y3 : FVec Ideal S128x128 .f32) (ds : FVec Ideal S1x512 .f32) (xs gate : FVec Ideal S128x512 .f32)
    (l q : Fin 128) (j : Fin 512) (hj : j = ⟨384 + q.val, by omega⟩) :
    gated y0 y1 y2 y3 ds xs gate (ix2 l j) = (y3 (ix2 l q) + ds (ix2 0 j) * xs (ix2 l j)) * gate (ix2 l j) := by
  subst hj
  pointwise [gated]
  rw [dif_neg (by omega), dif_neg (by omega), dif_neg (by omega)]
  simp only [show 384 + q.val - 128 - 128 - 128 = q.val from by omega]

theorem finish_lo (z : FVec Ideal S128x512 .f32) (nw : FVec Ideal S1x512 .f32) (l : Fin 128) (k : Fin 256) (j : Fin 512)
    (hj : j = ⟨k.val, by omega⟩) :
    finish z nw (ix3 0 l j) = rmsG (extractStridedSlice S128x256 ![0, 0] z slices_S128x512_o0_0_S128x256) (ix2 l k) * nw (ix2 0 j) := by
  subst hj
  unfold finish
  generalize rmsG (F := Ideal) _ = A
  generalize rmsG (F := Ideal) _ = B
  pointwise
theorem finish_hi (z : FVec Ideal S128x512 .f32) (nw : FVec Ideal S1x512 .f32) (l : Fin 128) (k : Fin 256) (j : Fin 512)
    (hj : j = ⟨256 + k.val, by omega⟩) :
    finish z nw (ix3 0 l j) = rmsG (extractStridedSlice S128x256 ![0, 256] z slices_S128x512_o0_256_S128x256) (ix2 l k) * nw (ix2 0 j) := by
  subst hj
  unfold finish
  generalize rmsG (F := Ideal) _ = A
  generalize rmsG (F := Ideal) _ = B
  pointwise

/-- The normalisation of a row of the chunk. -/
theorem finish_apply (z : FVec Ideal S128x512 .f32) (nw : FVec Ideal S1x512 .f32) (l : Fin 128) (Z N : Fin 512 → EReal)
    (hz : ∀ j, z (ix2 l j) = Z j) (hn : ∀ j, nw (ix2 0 j) = N j) (j : Fin 512) : finish z nw (ix3 0 l j) = normS Z N j := by
  unfold normS
  by_cases hj : j.val < 256
  · have e : ∀ k : Fin 256, extractStridedSlice S128x256 ![0, 0] z slices_S128x512_o0_0_S128x256 (ix2 l k) = Z (gcol j k) := fun k => by
      rw [← hz]; pointwise
      all_goals exact congrArg (fun i => z (ix2 l i)) (Fin.ext (by show k.val = 256 * (j.val / 256) + k.val; omega))
    have ej : gcol j ⟨j.val, hj⟩ = j := Fin.ext (by show 256 * (j.val / 256) + j.val = j.val; omega)
    rw [finish_lo z nw l ⟨j.val, hj⟩ j rfl, rmsG_apply, hn]
    simp only [e]
    rw [ej]
  · have e : ∀ k : Fin 256, extractStridedSlice S128x256 ![0, 256] z slices_S128x512_o0_256_S128x256 (ix2 l k) = Z (gcol j k) := fun k => by
      rw [← hz]; pointwise
      all_goals exact congrArg (fun i => z (ix2 l i)) (Fin.ext (by show 256 + k.val = 256 * (j.val / 256) + k.val; omega))
    have ej : gcol j ⟨j.val - 256, by omega⟩ = j := Fin.ext (by show 256 * (j.val / 256) + (j.val - 256) = j.val; omega)
    rw [finish_hi z nw l ⟨j.val - 256, by omega⟩ j (Fin.ext (by show j.val = 256 + (j.val - 256); omega)), rmsG_apply, hn]
    simp only [e]
    rw [ej]

/-- The chunk's block of the result is the specification's. -/
theorem chunkOut_apply (H : Rows act dtc dtr ar ac X dt a) (gate : FVec Ideal S128x512 .f32) (ds nw : FVec Ideal S1x512 .f32)
    (s0 s1 s2 s3 : FVec Ideal S128x128 .f32) (g : Fin 128 → Fin 512 → EReal) (dsk : Fin 8 → EReal) (N : Fin 512 → EReal)
    (S : Fin 128 → Fin 512 → EReal) (hg : ∀ l j, gate (ix2 l j) = g l j) (hd' : ∀ j, ds (ix2 0 j) = dsk (hd j)) (hn : ∀ j, nw (ix2 0 j) = N j)
    (h0 : ∀ n q, s0 (ix2 n q) = S n (jc 0 q)) (h1 : ∀ n q, s1 (ix2 n q) = S n (jc 1 q))
    (h2 : ∀ n q, s2 (ix2 n q) = S n (jc 2 q)) (h3 : ∀ n q, s3 (ix2 n q) = S n (jc 3 q)) (l : Fin 128) (j : Fin 512) :
    chunkOut act gate dtc dtr ar ac ds nw s0 s1 s2 s3 (ix3 0 l j) = normS (gatedS X g dt a dsk S l) N j := by
  unfold chunkOut
  refine finish_apply _ _ l _ _ (fun j => ?_) hn j
  unfold gatedS
  have hx := xs_apply H l j
  have c : j.val / 128 = 0 ∨ j.val / 128 = 1 ∨ j.val / 128 = 2 ∨ j.val / 128 = 3 := by omega
  rcases c with c | c | c | c
  · have e : j = jc 0 ⟨j.val - 0, by omega⟩ := Fin.ext (by show j.val = 128 * 0 + (j.val - 0); omega)
    rw [gated0_apply _ _ _ _ _ _ _ l ⟨j.val - 0, by omega⟩ j (Fin.ext (by show j.val = 0 + (j.val - 0); omega)),
      chunkY0_apply H s0 S h0, ← e, hx, hg, hd']
  · have e : j = jc 1 ⟨j.val - 128, by omega⟩ := Fin.ext (by show j.val = 128 * 1 + (j.val - 128); omega)
    rw [gated1_apply _ _ _ _ _ _ _ l ⟨j.val - 128, by omega⟩ j (Fin.ext (by show j.val = 128 + (j.val - 128); omega)),
      chunkY1_apply H s1 S h1, ← e, hx, hg, hd']
  · have e : j = jc 2 ⟨j.val - 256, by omega⟩ := Fin.ext (by show j.val = 128 * 2 + (j.val - 256); omega)
    rw [gated2_apply _ _ _ _ _ _ _ l ⟨j.val - 256, by omega⟩ j (Fin.ext (by show j.val = 256 + (j.val - 256); omega)),
      chunkY2_apply H s2 S h2, ← e, hx, hg, hd']
  · have e : j = jc 3 ⟨j.val - 384, by omega⟩ := Fin.ext (by show j.val = 128 * 3 + (j.val - 384); omega)
    rw [gated3_apply _ _ _ _ _ _ _ l ⟨j.val - 384, by omega⟩ j (Fin.ext (by show j.val = 384 + (j.val - 384); omega)),
      chunkY3_apply H s3 S h3, ← e, hx, hg, hd']

end Cert.Proof.Ssd

end
-- ==== Proof.SsdLoads.lean ====
/-
  The loads of a chunk, and the states before the first chunk.
-/
module

public import proofs.«01_k».proof.Proof.SsdChunks
public import proofs.«01_k».proof.Proof.SsdOut
public import Idealize.ShloMosaic.Lib.Pipeline.ValueKit.Tiles
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

set_option maxHeartbeats 4000000

/-- Token `l` of chunk `k` in its sequence of 2048. -/
def tok (k : ℕ) (l : Fin 128) : Fin 2048 := ⟨(128 * k + l.val) % 2048, Nat.mod_lt _ (by norm_num)⟩

theorem tok_eq (k : ℕ) (hk : k < 16) (l : Fin 128) (h : 128 * k + l.val < 2048) : tok k l = ⟨128 * k + l.val, h⟩ :=
  Fin.ext (Nat.mod_eq_of_lt h)

/-- What the kernel's argument blocks at one point hold, in terms of the steps and the decay rates of the sequence. -/
structure Blk (x2 : Vec Ideal S1x2048x128 .f32) (x3 : Vec Ideal S1x16x2048 .f32) (x4 : Vec Ideal S1x128 .f32)
    (x5 : Vec Ideal S16x1 .f32) (dtb : Fin 8 → Fin 2048 → EReal) (al : Fin 8 → EReal) : Prop where
  col : ∀ t (h : Fin 8), x2 (ix3 0 t ⟨h.val, by omega⟩) = dtb h t
  pad : ∀ t (h : Fin 128), 8 ≤ h.val → x2 (ix3 0 t h) = 0
  row : ∀ (h : Fin 8) t, x3 (ix3 0 ⟨h.val, by omega⟩ t) = dtb h t
  ar : ∀ h : Fin 8, x4 (ix2 0 ⟨h.val, by omega⟩) = al h
  ac : ∀ h : Fin 8, x5 (ix2 ⟨h.val, by omega⟩ 0) = al h
  neg : ∀ h t, dtb h t * -Ideal.exp (al h) ≤ 0

theorem cast_act (y : Vec Ideal S1x128x1024 .f32) (l : Fin 128) (i : Fin 1024) :
    shapeCast S128x1024 y shapeCasts_S1x128x1024_S128x1024 (ix2 l i) = y (ix3 0 l i) := by pointwise
theorem cast_gate (y : Vec Ideal S1x128x512 .f32) (l : Fin 128) (i : Fin 512) :
    shapeCast S128x512 y shapeCasts_S1x128x512_S128x512 (ix2 l i) = y (ix3 0 l i) := by pointwise
theorem cast_col (y : Vec Ideal S1x128x128 .f32) (l : Fin 128) (i : Fin 128) :
    shapeCast S128x128 y shapeCasts_S1x128x128_S128x128 (ix2 l i) = y (ix3 0 l i) := by pointwise
theorem cast_row (y : Vec Ideal S1x16x128 .f32) (l : Fin 16) (i : Fin 128) :
    shapeCast S16x128 y shapeCasts_S1x16x128_S16x128 (ix2 l i) = y (ix3 0 l i) := by pointwise
theorem cast_vec (y : Vec Ideal S1x512 .f32) (i : Fin 512) :
    shapeCast S1x512 y shapeCasts_S1x512_S1x512 (ix2 0 i) = y (ix2 0 i) := by pointwise
variable (c : Dev nD)
  (arg2 : Memref sig .tc .vmem S1x2048x1024 .f32) (harg2 : arg2.IsWhole)
  (arg3 : Memref sig .tc .vmem S1x2048x512 .f32) (harg3 : arg3.IsWhole)
  (arg4 : Memref sig .tc .vmem S1x2048x128 .f32) (harg4 : arg4.IsWhole)
  (arg5 : Memref sig .tc .vmem S1x16x2048 .f32) (harg5 : arg5.IsWhole)
  (arg6 : Memref sig .tc .vmem S1x128 .f32) (harg6 : arg6.IsWhole)
  (arg7 : Memref sig .tc .vmem S16x1 .f32) (harg7 : arg7.IsWhole)
  (arg8 : Memref sig .tc .vmem S1x512 .f32) (harg8 : arg8.IsWhole)
  (arg9 : Memref sig .tc .vmem S1x512 .f32) (harg9 : arg9.IsWhole)
  (arg11 : Memref sig .tc .vmem S4x128x128 .f32)
  (x0 : Vec Ideal S1x2048x1024 .f32) (x1 : Vec Ideal S1x2048x512 .f32) (x2 : Vec Ideal S1x2048x128 .f32) (x3 : Vec Ideal S1x16x2048 .f32) (x4 : Vec Ideal S1x128 .f32) (x5 : Vec Ideal S16x1 .f32) (x6 : Vec Ideal S1x512 .f32) (x7 : Vec Ideal S1x512 .f32)

/-- A chunk's rows of a block, loaded. -/
theorem load_act (k o : ℕ) (hk : k < 16) (ho : o = 128 * k)
    (h : ∀ a, (![0, o, 0] : Fin 3 → Nat) a + S1x128x1024.size a ≤ S1x2048x1024.size a) (l : Fin 128) (i : Fin 1024) :
    shapeCast S128x1024 (View.readAt (Elt Ideal) arg2.view (Rect.unit (s := S1x2048x1024) ![0, o, 0] S1x128x1024.size h).toLoadRect (harg2.unread x0)) shapeCasts_S1x128x1024_S128x1024 (ix2 l i)
      = x0 (ix3 0 (tok k l) i) := by
  refine (cast_act _ l i).trans ?_
  rw [View.readAt_eq_ld, harg2.read_unread, tok_eq k hk l (by omega)]
  refine View.ld_unit_apply_of x0 _ _ _ _ _ fun a => ?_
  match a with
  | ⟨0, _⟩ => rfl
  | ⟨1, _⟩ => show 128 * k + l.val = o + l.val; omega
  | ⟨2, _⟩ => show i.val = 0 + i.val; omega
theorem load_gate (k o : ℕ) (hk : k < 16) (ho : o = 128 * k)
    (h : ∀ a, (![0, o, 0] : Fin 3 → Nat) a + S1x128x512.size a ≤ S1x2048x512.size a) (l : Fin 128) (i : Fin 512) :
    shapeCast S128x512 (View.readAt (Elt Ideal) arg3.view (Rect.unit (s := S1x2048x512) ![0, o, 0] S1x128x512.size h).toLoadRect (harg3.unread x1)) shapeCasts_S1x128x512_S128x512 (ix2 l i)
      = x1 (ix3 0 (tok k l) i) := by
  refine (cast_gate _ l i).trans ?_
  rw [View.readAt_eq_ld, harg3.read_unread, tok_eq k hk l (by omega)]
  refine View.ld_unit_apply_of x1 _ _ _ _ _ fun a => ?_
  match a with
  | ⟨0, _⟩ => rfl
  | ⟨1, _⟩ => show 128 * k + l.val = o + l.val; omega
  | ⟨2, _⟩ => show i.val = 0 + i.val; omega
theorem load_col (k o : ℕ) (hk : k < 16) (ho : o = 128 * k)
    (h : ∀ a, (![0, o, 0] : Fin 3 → Nat) a + S1x128x128.size a ≤ S1x2048x128.size a) (l : Fin 128) (i : Fin 128) :
    shapeCast S128x128 (View.readAt (Elt Ideal) arg4.view (Rect.unit (s := S1x2048x128) ![0, o, 0] S1x128x128.size h).toLoadRect (harg4.unread x2)) shapeCasts_S1x128x128_S128x128 (ix2 l i)
      = x2 (ix3 0 (tok k l) i) := by
  refine (cast_col _ l i).trans ?_
  rw [View.readAt_eq_ld, harg4.read_unread, tok_eq k hk l (by omega)]
  refine View.ld_unit_apply_of x2 _ _ _ _ _ fun a => ?_
  match a with
  | ⟨0, _⟩ => rfl
  | ⟨1, _⟩ => show 128 * k + l.val = o + l.val; omega
  | ⟨2, _⟩ => show i.val = 0 + i.val; omega
theorem load_row (k o : ℕ) (hk : k < 16) (ho : o = 128 * k)
    (h : ∀ a, (![0, 0, o] : Fin 3 → Nat) a + S1x16x128.size a ≤ S1x16x2048.size a) (i : Fin 16) (l : Fin 128) :
    shapeCast S16x128 (View.readAt (Elt Ideal) arg5.view (Rect.unit (s := S1x16x2048) ![0, 0, o] S1x16x128.size h).toLoadRect (harg5.unread x3)) shapeCasts_S1x16x128_S16x128 (ix2 i l)
      = x3 (ix3 0 i (tok k l)) := by
  refine (cast_row _ i l).trans ?_
  rw [View.readAt_eq_ld, harg5.read_unread, tok_eq k hk l (by omega)]
  refine View.ld_unit_apply_of x3 _ _ _ _ _ fun a => ?_
  match a with
  | ⟨0, _⟩ => rfl
  | ⟨1, _⟩ => show i.val = 0 + i.val; omega
  | ⟨2, _⟩ => show 128 * k + l.val = o + l.val; omega

theorem hz2 : (![0, 0] : Fin 2 → Nat) = fun _ => 0 := funext fun a => by fin_cases a <;> rfl

theorem arV_apply (h : Fin 128) : arV arg6 harg6 x4 (ix2 0 h) = -Ideal.exp (x4 (ix2 0 h)) * lc := by
  refine (pay7_apply _ h).trans ?_
  rw [View.readAt_eq_ld, harg6.read_unread, View.ld_unit_zero hz2]
theorem acV_apply (h : Fin 16) : acV arg7 harg7 x5 (ix2 h 0) = -Ideal.exp (x5 (ix2 h 0)) * lc := by
  refine (pay8_apply _ h).trans ?_
  rw [View.readAt_eq_ld, harg7.read_unread, View.ld_unit_zero hz2]
theorem dsV_apply (j : Fin 512) : dsV arg8 harg8 x6 (ix2 0 j) = x6 (ix2 0 j) := by
  refine (cast_vec _ j).trans ?_
  rw [View.readAt_eq_ld, harg8.read_unread, View.ld_unit_zero hz2]
theorem nwV_apply (j : Fin 512) : nwV arg9 harg9 x7 (ix2 0 j) = x7 (ix2 0 j) := by
  refine (cast_vec _ j).trans ?_
  rw [View.readAt_eq_ld, harg9.read_unread, View.ld_unit_zero hz2]

/-- The sequence's chunks: the activated inputs, the steps, the rates. -/
def Xb (x0 : Vec Ideal S1x2048x1024 .f32) (k : ℕ) (l : Fin 128) (i : Fin 1024) : EReal := x0 (ix3 0 (tok k l) i)
def dtK (dtb : Fin 8 → Fin 2048 → EReal) (k : ℕ) (h : Fin 8) (l : Fin 128) : EReal := dtb h (tok k l)
def aOf (al : Fin 8 → EReal) (h : Fin 8) : EReal := -Ideal.exp (al h)

variable {x2 x3 x4 x5} {dtb : Fin 8 → Fin 2048 → EReal} {al : Fin 8 → EReal}

/-- The loads of chunk `k` are the rows of chunk `k` of the sequence. -/
theorem rows_at (B : Blk x2 x3 x4 x5 dtb al) (k o : ℕ) (hk : k < 16) (ho : o = 128 * k)
    (h0 : ∀ a, (![0, o, 0] : Fin 3 → Nat) a + S1x128x1024.size a ≤ S1x2048x1024.size a)
    (h2 : ∀ a, (![0, o, 0] : Fin 3 → Nat) a + S1x128x128.size a ≤ S1x2048x128.size a)
    (h3 : ∀ a, (![0, 0, o] : Fin 3 → Nat) a + S1x16x128.size a ≤ S1x16x2048.size a) :
    Rows (shapeCast S128x1024 (View.readAt (Elt Ideal) arg2.view (Rect.unit (s := S1x2048x1024) ![0, o, 0] S1x128x1024.size h0).toLoadRect (harg2.unread x0)) shapeCasts_S1x128x1024_S128x1024)
      (shapeCast S128x128 (View.readAt (Elt Ideal) arg4.view (Rect.unit (s := S1x2048x128) ![0, o, 0] S1x128x128.size h2).toLoadRect (harg4.unread x2)) shapeCasts_S1x128x128_S128x128)
      (shapeCast S16x128 (View.readAt (Elt Ideal) arg5.view (Rect.unit (s := S1x16x2048) ![0, 0, o] S1x16x128.size h3).toLoadRect (harg5.unread x3)) shapeCasts_S1x16x128_S16x128)
      (arV arg6 harg6 x4) (acV arg7 harg7 x5) (Xb x0 k) (dtK dtb k) (aOf al) where
  act l i := load_act arg2 harg2 x0 k o hk ho h0 l i
  col l h := (load_col arg4 harg4 x2 k o hk ho h2 l _).trans (B.col _ h)
  pad l h hh := (load_col arg4 harg4 x2 k o hk ho h2 l _).trans (B.pad _ h hh)
  row h l := (load_row arg5 harg5 x3 k o hk ho h3 _ l).trans (B.row h _)
  ar h := (arV_apply arg6 harg6 x4 _).trans (by rw [B.ar]; rfl)
  ac h := (acV_apply arg7 harg7 x5 _).trans (by rw [B.ac]; rfl)
  neg h l := B.neg h _

theorem pay6_apply (j : S4x128x128.Idx) : (k0_pay6 : FVec Ideal S4x128x128 .f32) j = 0 := by
  rw [show j = ix3 (j 0) (j 1) (j 2) from funext fun a => by fin_cases a <;> rfl]
  pointwise [k0_pay6]

theorem hz3 : (![0, 0, 0] : Fin 3 → Nat) = fun _ => 0 := funext fun a => by fin_cases a <;> rfl

/-- The state scratch is zero when the point begins. -/
theorem scratch_zero (y : S4x128x128.Idx) : View.canon (kernelRun0_A.sl.HS0_1 (F := Ideal)) y = 0 := by
  unfold kernelRun0_A.sl.HS0_1
  rw [View.canon_unit_zero hz3]
  exact pay6_apply y
theorem init0 (n q : Fin 128) : kernelRun0_A.sl.v65 (F := Ideal) c arg11 (ix2 n q) = 0 := by
  unfold kernelRun0_A.sl.v65
  refine (cast_col _ n q).trans ?_
  unfold kernelRun0_A.sl.v64
  rw [View.readCov_eq_canon']
  exact scratch_zero _
theorem init1 (n q : Fin 128) : kernelRun0_A.sl.v67 (F := Ideal) c arg11 (ix2 n q) = 0 := by
  unfold kernelRun0_A.sl.v67
  refine (cast_col _ n q).trans ?_
  unfold kernelRun0_A.sl.v66
  rw [View.readCov_eq_canon']
  exact scratch_zero _
theorem init2 (n q : Fin 128) : kernelRun0_A.sl.v69 (F := Ideal) c arg11 (ix2 n q) = 0 := by
  unfold kernelRun0_A.sl.v69
  refine (cast_col _ n q).trans ?_
  unfold kernelRun0_A.sl.v68
  rw [View.readCov_eq_canon']
  exact scratch_zero _
theorem init3 (n q : Fin 128) : kernelRun0_A.sl.v71 (F := Ideal) c arg11 (ix2 n q) = 0 := by
  unfold kernelRun0_A.sl.v71
  refine (cast_col _ n q).trans ?_
  unfold kernelRun0_A.sl.v70
  rw [View.readCov_eq_canon']
  exact scratch_zero _

end Cert.Proof.Ssd

end
-- ==== Proof.SsdStates.lean ====
/-
  The states of the kernel after each chunk.
-/
module

public import proofs.«01_k».proof.Proof.SsdLoads
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

set_option maxHeartbeats 4000000
variable (c : Dev nD)
  (arg2 : Memref sig .tc .vmem S1x2048x1024 .f32) (harg2 : arg2.IsWhole)
  (arg3 : Memref sig .tc .vmem S1x2048x512 .f32) (harg3 : arg3.IsWhole)
  (arg4 : Memref sig .tc .vmem S1x2048x128 .f32) (harg4 : arg4.IsWhole)
  (arg5 : Memref sig .tc .vmem S1x16x2048 .f32) (harg5 : arg5.IsWhole)
  (arg6 : Memref sig .tc .vmem S1x128 .f32) (harg6 : arg6.IsWhole)
  (arg7 : Memref sig .tc .vmem S16x1 .f32) (harg7 : arg7.IsWhole)
  (arg8 : Memref sig .tc .vmem S1x512 .f32) (harg8 : arg8.IsWhole)
  (arg9 : Memref sig .tc .vmem S1x512 .f32) (harg9 : arg9.IsWhole)
  (arg11 : Memref sig .tc .vmem S4x128x128 .f32)
  (x0 : Vec Ideal S1x2048x1024 .f32) (x1 : Vec Ideal S1x2048x512 .f32) {x2 : Vec Ideal S1x2048x128 .f32} {x3 : Vec Ideal S1x16x2048 .f32} {x4 : Vec Ideal S1x128 .f32} {x5 : Vec Ideal S16x1 .f32} (x6 : Vec Ideal S1x512 .f32) (x7 : Vec Ideal S1x512 .f32)
  {dtb : Fin 8 → Fin 2048 → EReal} {al : Fin 8 → EReal}

include arg2 harg2 arg4 harg4 arg5 harg5 arg6 harg6 arg7 harg7

theorem state0_0 (B : Blk x2 x3 x4 x5 dtb al) (n q : Fin 128) :
    (kernelRun0_A.sl.v65 (F := Ideal) c arg11) (ix2 n q) = stS (Xb x0) (dtK dtb) (aOf al) 0 n (jc 0 q) :=
  init0 c arg11 n q
theorem state0_1 (B : Blk x2 x3 x4 x5 dtb al) (n q : Fin 128) :
    (kernelRun0_A.sl.v67 (F := Ideal) c arg11) (ix2 n q) = stS (Xb x0) (dtK dtb) (aOf al) 0 n (jc 1 q) :=
  init1 c arg11 n q
theorem state0_2 (B : Blk x2 x3 x4 x5 dtb al) (n q : Fin 128) :
    (kernelRun0_A.sl.v69 (F := Ideal) c arg11) (ix2 n q) = stS (Xb x0) (dtK dtb) (aOf al) 0 n (jc 2 q) :=
  init2 c arg11 n q
theorem state0_3 (B : Blk x2 x3 x4 x5 dtb al) (n q : Fin 128) :
    (kernelRun0_A.sl.v71 (F := Ideal) c arg11) (ix2 n q) = stS (Xb x0) (dtK dtb) (aOf al) 0 n (jc 3 q) :=
  init3 c arg11 n q
theorem state1_0 (B : Blk x2 x3 x4 x5 dtb al) (n q : Fin 128) :
    (kernelRun0_A.sl.r_74 (F := Ideal) c arg2 harg2 arg5 harg5 arg7 harg7 arg11 x0 x3 x5) (ix2 n q) = stS (Xb x0) (dtK dtb) (aOf al) 1 n (jc 0 q) :=
  (congrFun (st1_0 c arg2 harg2 arg5 harg5 arg7 harg7 arg11 x0 x3 x5) _).trans (chunkS0_apply (rows_at arg2 harg2 arg4 harg4 arg5 harg5 arg6 harg6 arg7 harg7 x0 B 0 0 (by norm_num) (by norm_num) inb_S1x2048x1024_S1x128x1024_0_0_0 inb_S1x2048x128_S1x128x128_0_0_0 inb_S1x16x2048_S1x16x128_0_0_0) _ _
    (fun n q => state0_0 c arg2 harg2 arg4 harg4 arg5 harg5 arg6 harg6 arg7 harg7 arg11 x0 B n q) n q)
theorem state1_1 (B : Blk x2 x3 x4 x5 dtb al) (n q : Fin 128) :
    (kernelRun0_A.sl.v667 (F := Ideal) c arg2 harg2 arg5 harg5 arg7 harg7 arg11 x0 x3 x5) (ix2 n q) = stS (Xb x0) (dtK dtb) (aOf al) 1 n (jc 1 q) :=
  (congrFun (st1_1 c arg2 harg2 arg5 harg5 arg7 harg7 arg11 x0 x3 x5) _).trans (chunkS1_apply (rows_at arg2 harg2 arg4 harg4 arg5 harg5 arg6 harg6 arg7 harg7 x0 B 0 0 (by norm_num) (by norm_num) inb_S1x2048x1024_S1x128x1024_0_0_0 inb_S1x2048x128_S1x128x128_0_0_0 inb_S1x16x2048_S1x16x128_0_0_0) _ _
    (fun n q => state0_1 c arg2 harg2 arg4 harg4 arg5 harg5 arg6 harg6 arg7 harg7 arg11 x0 B n q) n q)
theorem state1_2 (B : Blk x2 x3 x4 x5 dtb al) (n q : Fin 128) :
    (kernelRun0_A.sl.v675 (F := Ideal) c arg2 harg2 arg5 harg5 arg7 harg7 arg11 x0 x3 x5) (ix2 n q) = stS (Xb x0) (dtK dtb) (aOf al) 1 n (jc 2 q) :=
  (congrFun (st1_2 c arg2 harg2 arg5 harg5 arg7 harg7 arg11 x0 x3 x5) _).trans (chunkS2_apply (rows_at arg2 harg2 arg4 harg4 arg5 harg5 arg6 harg6 arg7 harg7 x0 B 0 0 (by norm_num) (by norm_num) inb_S1x2048x1024_S1x128x1024_0_0_0 inb_S1x2048x128_S1x128x128_0_0_0 inb_S1x16x2048_S1x16x128_0_0_0) _ _
    (fun n q => state0_2 c arg2 harg2 arg4 harg4 arg5 harg5 arg6 harg6 arg7 harg7 arg11 x0 B n q) n q)
theorem state1_3 (B : Blk x2 x3 x4 x5 dtb al) (n q : Fin 128) :
    (kernelRun0_A.sl.v683 (F := Ideal) c arg2 harg2 arg5 harg5 arg7 harg7 arg11 x0 x3 x5) (ix2 n q) = stS (Xb x0) (dtK dtb) (aOf al) 1 n (jc 3 q) :=
  (congrFun (st1_3 c arg2 harg2 arg5 harg5 arg7 harg7 arg11 x0 x3 x5) _).trans (chunkS3_apply (rows_at arg2 harg2 arg4 harg4 arg5 harg5 arg6 harg6 arg7 harg7 x0 B 0 0 (by norm_num) (by norm_num) inb_S1x2048x1024_S1x128x1024_0_0_0 inb_S1x2048x128_S1x128x128_0_0_0 inb_S1x16x2048_S1x16x128_0_0_0) _ _
    (fun n q => state0_3 c arg2 harg2 arg4 harg4 arg5 harg5 arg6 harg6 arg7 harg7 arg11 x0 B n q) n q)
theorem state2_0 (B : Blk x2 x3 x4 x5 dtb al) (n q : Fin 128) :
    (kernelRun0_A.sl.r_114 (F := Ideal) c arg2 harg2 arg5 harg5 arg7 harg7 arg11 x0 x3 x5) (ix2 n q) = stS (Xb x0) (dtK dtb) (aOf al) 2 n (jc 0 q) :=
  (congrFun (st2_0 c arg2 harg2 arg5 harg5 arg7 harg7 arg11 x0 x3 x5) _).trans (chunkS0_apply (rows_at arg2 harg2 arg4 harg4 arg5 harg5 arg6 harg6 arg7 harg7 x0 B 1 128 (by norm_num) (by norm_num) inb_S1x2048x1024_S1x128x1024_0_128_0 inb_S1x2048x128_S1x128x128_0_128_0 inb_S1x16x2048_S1x16x128_0_0_128) _ _
    (fun n q => state1_0 c arg2 harg2 arg4 harg4 arg5 harg5 arg6 harg6 arg7 harg7 arg11 x0 B n q) n q)
theorem state2_1 (B : Blk x2 x3 x4 x5 dtb al) (n q : Fin 128) :
    (kernelRun0_A.sl.v1029 (F := Ideal) c arg2 harg2 arg5 harg5 arg7 harg7 arg11 x0 x3 x5) (ix2 n q) = stS (Xb x0) (dtK dtb) (aOf al) 2 n (jc 1 q) :=
  (congrFun (st2_1 c arg2 harg2 arg5 harg5 arg7 harg7 arg11 x0 x3 x5) _).trans (chunkS1_apply (rows_at arg2 harg2 arg4 harg4 arg5 harg5 arg6 harg6 arg7 harg7 x0 B 1 128 (by norm_num) (by norm_num) inb_S1x2048x1024_S1x128x1024_0_128_0 inb_S1x2048x128_S1x128x128_0_128_0 inb_S1x16x2048_S1x16x128_0_0_128) _ _
    (fun n q => state1_1 c arg2 harg2 arg4 harg4 arg5 harg5 arg6 harg6 arg7 harg7 arg11 x0 B n q) n q)
theorem state2_2 (B : Blk x2 x3 x4 x5 dtb al) (n q : Fin 128) :
    (kernelRun0_A.sl.v1037 (F := Ideal) c arg2 harg2 arg5 harg5 arg7 harg7 arg11 x0 x3 x5) (ix2 n q) = stS (Xb x0) (dtK dtb) (aOf al) 2 n (jc 2 q) :=
  (congrFun (st2_2 c arg2 harg2 arg5 harg5 arg7 harg7 arg11 x0 x3 x5) _).trans (chunkS2_apply (rows_at arg2 harg2 arg4 harg4 arg5 harg5 arg6 harg6 arg7 harg7 x0 B 1 128 (by norm_num) (by norm_num) inb_S1x2048x1024_S1x128x1024_0_128_0 inb_S1x2048x128_S1x128x128_0_128_0 inb_S1x16x2048_S1x16x128_0_0_128) _ _
    (fun n q => state1_2 c arg2 harg2 arg4 harg4 arg5 harg5 arg6 harg6 arg7 harg7 arg11 x0 B n q) n q)
theorem state2_3 (B : Blk x2 x3 x4 x5 dtb al) (n q : Fin 128) :
    (kernelRun0_A.sl.v1045 (F := Ideal) c arg2 harg2 arg5 harg5 arg7 harg7 arg11 x0 x3 x5) (ix2 n q) = stS (Xb x0) (dtK dtb) (aOf al) 2 n (jc 3 q) :=
  (congrFun (st2_3 c arg2 harg2 arg5 harg5 arg7 harg7 arg11 x0 x3 x5) _).trans (chunkS3_apply (rows_at arg2 harg2 arg4 harg4 arg5 harg5 arg6 harg6 arg7 harg7 x0 B 1 128 (by norm_num) (by norm_num) inb_S1x2048x1024_S1x128x1024_0_128_0 inb_S1x2048x128_S1x128x128_0_128_0 inb_S1x16x2048_S1x16x128_0_0_128) _ _
    (fun n q => state1_3 c arg2 harg2 arg4 harg4 arg5 harg5 arg6 harg6 arg7 harg7 arg11 x0 B n q) n q)
theorem state3_0 (B : Blk x2 x3 x4 x5 dtb al) (n q : Fin 128) :
    (kernelRun0_A.sl.v1383 (F := Ideal) c arg2 harg2 arg5 harg5 arg7 harg7 arg11 x0 x3 x5) (ix2 n q) = stS (Xb x0) (dtK dtb) (aOf al) 3 n (jc 0 q) :=
  (congrFun (st3_0 c arg2 harg2 arg5 harg5 arg7 harg7 arg11 x0 x3 x5) _).trans (chunkS0_apply (rows_at arg2 harg2 arg4 harg4 arg5 harg5 arg6 harg6 arg7 harg7 x0 B 2 256 (by norm_num) (by norm_num) inb_S1x2048x1024_S1x128x1024_0_256_0 inb_S1x2048x128_S1x128x128_0_256_0 inb_S1x16x2048_S1x16x128_0_0_256) _ _
    (fun n q => state2_0 c arg2 harg2 arg4 harg4 arg5 harg5 arg6 harg6 arg7 harg7 arg11 x0 B n q) n q)
theorem state3_1 (B : Blk x2 x3 x4 x5 dtb al) (n q : Fin 128) :
    (kernelRun0_A.sl.v1391 (F := Ideal) c arg2 harg2 arg5 harg5 arg7 harg7 arg11 x0 x3 x5) (ix2 n q) = stS (Xb x0) (dtK dtb) (aOf al) 3 n (jc 1 q) :=
  (congrFun (st3_1 c arg2 harg2 arg5 harg5 arg7 harg7 arg11 x0 x3 x5) _).trans (chunkS1_apply (rows_at arg2 harg2 arg4 harg4 arg5 harg5 arg6 harg6 arg7 harg7 x0 B 2 256 (by norm_num) (by norm_num) inb_S1x2048x1024_S1x128x1024_0_256_0 inb_S1x2048x128_S1x128x128_0_256_0 inb_S1x16x2048_S1x16x128_0_0_256) _ _
    (fun n q => state2_1 c arg2 harg2 arg4 harg4 arg5 harg5 arg6 harg6 arg7 harg7 arg11 x0 B n q) n q)
theorem state3_2 (B : Blk x2 x3 x4 x5 dtb al) (n q : Fin 128) :
    (kernelRun0_A.sl.v1399 (F := Ideal) c arg2 harg2 arg5 harg5 arg7 harg7 arg11 x0 x3 x5) (ix2 n q) = stS (Xb x0) (dtK dtb) (aOf al) 3 n (jc 2 q) :=
  (congrFun (st3_2 c arg2 harg2 arg5 harg5 arg7 harg7 arg11 x0 x3 x5) _).trans (chunkS2_apply (rows_at arg2 harg2 arg4 harg4 arg5 harg5 arg6 harg6 arg7 harg7 x0 B 2 256 (by norm_num) (by norm_num) inb_S1x2048x1024_S1x128x1024_0_256_0 inb_S1x2048x128_S1x128x128_0_256_0 inb_S1x16x2048_S1x16x128_0_0_256) _ _
    (fun n q => state2_2 c arg2 harg2 arg4 harg4 arg5 harg5 arg6 harg6 arg7 harg7 arg11 x0 B n q) n q)
theorem state3_3 (B : Blk x2 x3 x4 x5 dtb al) (n q : Fin 128) :
    (kernelRun0_A.sl.v1407 (F := Ideal) c arg2 harg2 arg5 harg5 arg7 harg7 arg11 x0 x3 x5) (ix2 n q) = stS (Xb x0) (dtK dtb) (aOf al) 3 n (jc 3 q) :=
  (congrFun (st3_3 c arg2 harg2 arg5 harg5 arg7 harg7 arg11 x0 x3 x5) _).trans (chunkS3_apply (rows_at arg2 harg2 arg4 harg4 arg5 harg5 arg6 harg6 arg7 harg7 x0 B 2 256 (by norm_num) (by norm_num) inb_S1x2048x1024_S1x128x1024_0_256_0 inb_S1x2048x128_S1x128x128_0_256_0 inb_S1x16x2048_S1x16x128_0_0_256) _ _
    (fun n q => state2_3 c arg2 harg2 arg4 harg4 arg5 harg5 arg6 harg6 arg7 harg7 arg11 x0 B n q) n q)
theorem state4_0 (B : Blk x2 x3 x4 x5 dtb al) (n q : Fin 128) :
    (kernelRun0_A.sl.v1745 (F := Ideal) c arg2 harg2 arg5 harg5 arg7 harg7 arg11 x0 x3 x5) (ix2 n q) = stS (Xb x0) (dtK dtb) (aOf al) 4 n (jc 0 q) :=
  (congrFun (st4_0 c arg2 harg2 arg5 harg5 arg7 harg7 arg11 x0 x3 x5) _).trans (chunkS0_apply (rows_at arg2 harg2 arg4 harg4 arg5 harg5 arg6 harg6 arg7 harg7 x0 B 3 384 (by norm_num) (by norm_num) inb_S1x2048x1024_S1x128x1024_0_384_0 inb_S1x2048x128_S1x128x128_0_384_0 inb_S1x16x2048_S1x16x128_0_0_384) _ _
    (fun n q => state3_0 c arg2 harg2 arg4 harg4 arg5 harg5 arg6 harg6 arg7 harg7 arg11 x0 B n q) n q)
theorem state4_1 (B : Blk x2 x3 x4 x5 dtb al) (n q : Fin 128) :
    (kernelRun0_A.sl.v1753 (F := Ideal) c arg2 harg2 arg5 harg5 arg7 harg7 arg11 x0 x3 x5) (ix2 n q) = stS (Xb x0) (dtK dtb) (aOf al) 4 n (jc 1 q) :=
  (congrFun (st4_1 c arg2 harg2 arg5 harg5 arg7 harg7 arg11 x0 x3 x5) _).trans (chunkS1_apply (rows_at arg2 harg2 arg4 harg4 arg5 harg5 arg6 harg6 arg7 harg7 x0 B 3 384 (by norm_num) (by norm_num) inb_S1x2048x1024_S1x128x1024_0_384_0 inb_S1x2048x128_S1x128x128_0_384_0 inb_S1x16x2048_S1x16x128_0_0_384) _ _
    (fun n q => state3_1 c arg2 harg2 arg4 harg4 arg5 harg5 arg6 harg6 arg7 harg7 arg11 x0 B n q) n q)
theorem state4_2 (B : Blk x2 x3 x4 x5 dtb al) (n q : Fin 128) :
    (kernelRun0_A.sl.v1761 (F := Ideal) c arg2 harg2 arg5 harg5 arg7 harg7 arg11 x0 x3 x5) (ix2 n q) = stS (Xb x0) (dtK dtb) (aOf al) 4 n (jc 2 q) :=
  (congrFun (st4_2 c arg2 harg2 arg5 harg5 arg7 harg7 arg11 x0 x3 x5) _).trans (chunkS2_apply (rows_at arg2 harg2 arg4 harg4 arg5 harg5 arg6 harg6 arg7 harg7 x0 B 3 384 (by norm_num) (by norm_num) inb_S1x2048x1024_S1x128x1024_0_384_0 inb_S1x2048x128_S1x128x128_0_384_0 inb_S1x16x2048_S1x16x128_0_0_384) _ _
    (fun n q => state3_2 c arg2 harg2 arg4 harg4 arg5 harg5 arg6 harg6 arg7 harg7 arg11 x0 B n q) n q)
theorem state4_3 (B : Blk x2 x3 x4 x5 dtb al) (n q : Fin 128) :
    (kernelRun0_A.sl.v1769 (F := Ideal) c arg2 harg2 arg5 harg5 arg7 harg7 arg11 x0 x3 x5) (ix2 n q) = stS (Xb x0) (dtK dtb) (aOf al) 4 n (jc 3 q) :=
  (congrFun (st4_3 c arg2 harg2 arg5 harg5 arg7 harg7 arg11 x0 x3 x5) _).trans (chunkS3_apply (rows_at arg2 harg2 arg4 harg4 arg5 harg5 arg6 harg6 arg7 harg7 x0 B 3 384 (by norm_num) (by norm_num) inb_S1x2048x1024_S1x128x1024_0_384_0 inb_S1x2048x128_S1x128x128_0_384_0 inb_S1x16x2048_S1x16x128_0_0_384) _ _
    (fun n q => state3_3 c arg2 harg2 arg4 harg4 arg5 harg5 arg6 harg6 arg7 harg7 arg11 x0 B n q) n q)
theorem state5_0 (B : Blk x2 x3 x4 x5 dtb al) (n q : Fin 128) :
    (kernelRun0_A.sl.v2107 (F := Ideal) c arg2 harg2 arg5 harg5 arg7 harg7 arg11 x0 x3 x5) (ix2 n q) = stS (Xb x0) (dtK dtb) (aOf al) 5 n (jc 0 q) :=
  (congrFun (st5_0 c arg2 harg2 arg5 harg5 arg7 harg7 arg11 x0 x3 x5) _).trans (chunkS0_apply (rows_at arg2 harg2 arg4 harg4 arg5 harg5 arg6 harg6 arg7 harg7 x0 B 4 512 (by norm_num) (by norm_num) inb_S1x2048x1024_S1x128x1024_0_512_0 inb_S1x2048x128_S1x128x128_0_512_0 inb_S1x16x2048_S1x16x128_0_0_512) _ _
    (fun n q => state4_0 c arg2 harg2 arg4 harg4 arg5 harg5 arg6 harg6 arg7 harg7 arg11 x0 B n q) n q)
theorem state5_1 (B : Blk x2 x3 x4 x5 dtb al) (n q : Fin 128) :
    (kernelRun0_A.sl.v2115 (F := Ideal) c arg2 harg2 arg5 harg5 arg7 harg7 arg11 x0 x3 x5) (ix2 n q) = stS (Xb x0) (dtK dtb) (aOf al) 5 n (jc 1 q) :=
  (congrFun (st5_1 c arg2 harg2 arg5 harg5 arg7 harg7 arg11 x0 x3 x5) _).trans (chunkS1_apply (rows_at arg2 harg2 arg4 harg4 arg5 harg5 arg6 harg6 arg7 harg7 x0 B 4 512 (by norm_num) (by norm_num) inb_S1x2048x1024_S1x128x1024_0_512_0 inb_S1x2048x128_S1x128x128_0_512_0 inb_S1x16x2048_S1x16x128_0_0_512) _ _
    (fun n q => state4_1 c arg2 harg2 arg4 harg4 arg5 harg5 arg6 harg6 arg7 harg7 arg11 x0 B n q) n q)
theorem state5_2 (B : Blk x2 x3 x4 x5 dtb al) (n q : Fin 128) :
    (kernelRun0_A.sl.v2123 (F := Ideal) c arg2 harg2 arg5 harg5 arg7 harg7 arg11 x0 x3 x5) (ix2 n q) = stS (Xb x0) (dtK dtb) (aOf al) 5 n (jc 2 q) :=
  (congrFun (st5_2 c arg2 harg2 arg5 harg5 arg7 harg7 arg11 x0 x3 x5) _).trans (chunkS2_apply (rows_at arg2 harg2 arg4 harg4 arg5 harg5 arg6 harg6 arg7 harg7 x0 B 4 512 (by norm_num) (by norm_num) inb_S1x2048x1024_S1x128x1024_0_512_0 inb_S1x2048x128_S1x128x128_0_512_0 inb_S1x16x2048_S1x16x128_0_0_512) _ _
    (fun n q => state4_2 c arg2 harg2 arg4 harg4 arg5 harg5 arg6 harg6 arg7 harg7 arg11 x0 B n q) n q)
theorem state5_3 (B : Blk x2 x3 x4 x5 dtb al) (n q : Fin 128) :
    (kernelRun0_A.sl.v2131 (F := Ideal) c arg2 harg2 arg5 harg5 arg7 harg7 arg11 x0 x3 x5) (ix2 n q) = stS (Xb x0) (dtK dtb) (aOf al) 5 n (jc 3 q) :=
  (congrFun (st5_3 c arg2 harg2 arg5 harg5 arg7 harg7 arg11 x0 x3 x5) _).trans (chunkS3_apply (rows_at arg2 harg2 arg4 harg4 arg5 harg5 arg6 harg6 arg7 harg7 x0 B 4 512 (by norm_num) (by norm_num) inb_S1x2048x1024_S1x128x1024_0_512_0 inb_S1x2048x128_S1x128x128_0_512_0 inb_S1x16x2048_S1x16x128_0_0_512) _ _
    (fun n q => state4_3 c arg2 harg2 arg4 harg4 arg5 harg5 arg6 harg6 arg7 harg7 arg11 x0 B n q) n q)
theorem state6_0 (B : Blk x2 x3 x4 x5 dtb al) (n q : Fin 128) :
    (kernelRun0_A.sl.v2469 (F := Ideal) c arg2 harg2 arg5 harg5 arg7 harg7 arg11 x0 x3 x5) (ix2 n q) = stS (Xb x0) (dtK dtb) (aOf al) 6 n (jc 0 q) :=
  (congrFun (st6_0 c arg2 harg2 arg5 harg5 arg7 harg7 arg11 x0 x3 x5) _).trans (chunkS0_apply (rows_at arg2 harg2 arg4 harg4 arg5 harg5 arg6 harg6 arg7 harg7 x0 B 5 640 (by norm_num) (by norm_num) inb_S1x2048x1024_S1x128x1024_0_640_0 inb_S1x2048x128_S1x128x128_0_640_0 inb_S1x16x2048_S1x16x128_0_0_640) _ _
    (fun n q => state5_0 c arg2 harg2 arg4 harg4 arg5 harg5 arg6 harg6 arg7 harg7 arg11 x0 B n q) n q)
theorem state6_1 (B : Blk x2 x3 x4 x5 dtb al) (n q : Fin 128) :
    (kernelRun0_A.sl.v2477 (F := Ideal) c arg2 harg2 arg5 harg5 arg7 harg7 arg11 x0 x3 x5) (ix2 n q) = stS (Xb x0) (dtK dtb) (aOf al) 6 n (jc 1 q) :=
  (congrFun (st6_1 c arg2 harg2 arg5 harg5 arg7 harg7 arg11 x0 x3 x5) _).trans (chunkS1_apply (rows_at arg2 harg2 arg4 harg4 arg5 harg5 arg6 harg6 arg7 harg7 x0 B 5 640 (by norm_num) (by norm_num) inb_S1x2048x1024_S1x128x1024_0_640_0 inb_S1x2048x128_S1x128x128_0_640_0 inb_S1x16x2048_S1x16x128_0_0_640) _ _
    (fun n q => state5_1 c arg2 harg2 arg4 harg4 arg5 harg5 arg6 harg6 arg7 harg7 arg11 x0 B n q) n q)
theorem state6_2 (B : Blk x2 x3 x4 x5 dtb al) (n q : Fin 128) :
    (kernelRun0_A.sl.v2485 (F := Ideal) c arg2 harg2 arg5 harg5 arg7 harg7 arg11 x0 x3 x5) (ix2 n q) = stS (Xb x0) (dtK dtb) (aOf al) 6 n (jc 2 q) :=
  (congrFun (st6_2 c arg2 harg2 arg5 harg5 arg7 harg7 arg11 x0 x3 x5) _).trans (chunkS2_apply (rows_at arg2 harg2 arg4 harg4 arg5 harg5 arg6 harg6 arg7 harg7 x0 B 5 640 (by norm_num) (by norm_num) inb_S1x2048x1024_S1x128x1024_0_640_0 inb_S1x2048x128_S1x128x128_0_640_0 inb_S1x16x2048_S1x16x128_0_0_640) _ _
    (fun n q => state5_2 c arg2 harg2 arg4 harg4 arg5 harg5 arg6 harg6 arg7 harg7 arg11 x0 B n q) n q)
theorem state6_3 (B : Blk x2 x3 x4 x5 dtb al) (n q : Fin 128) :
    (kernelRun0_A.sl.v2493 (F := Ideal) c arg2 harg2 arg5 harg5 arg7 harg7 arg11 x0 x3 x5) (ix2 n q) = stS (Xb x0) (dtK dtb) (aOf al) 6 n (jc 3 q) :=
  (congrFun (st6_3 c arg2 harg2 arg5 harg5 arg7 harg7 arg11 x0 x3 x5) _).trans (chunkS3_apply (rows_at arg2 harg2 arg4 harg4 arg5 harg5 arg6 harg6 arg7 harg7 x0 B 5 640 (by norm_num) (by norm_num) inb_S1x2048x1024_S1x128x1024_0_640_0 inb_S1x2048x128_S1x128x128_0_640_0 inb_S1x16x2048_S1x16x128_0_0_640) _ _
    (fun n q => state5_3 c arg2 harg2 arg4 harg4 arg5 harg5 arg6 harg6 arg7 harg7 arg11 x0 B n q) n q)
theorem state7_0 (B : Blk x2 x3 x4 x5 dtb al) (n q : Fin 128) :
    (kernelRun0_A.sl.v2831 (F := Ideal) c arg2 harg2 arg5 harg5 arg7 harg7 arg11 x0 x3 x5) (ix2 n q) = stS (Xb x0) (dtK dtb) (aOf al) 7 n (jc 0 q) :=
  (congrFun (st7_0 c arg2 harg2 arg5 harg5 arg7 harg7 arg11 x0 x3 x5) _).trans (chunkS0_apply (rows_at arg2 harg2 arg4 harg4 arg5 harg5 arg6 harg6 arg7 harg7 x0 B 6 768 (by norm_num) (by norm_num) inb_S1x2048x1024_S1x128x1024_0_768_0 inb_S1x2048x128_S1x128x128_0_768_0 inb_S1x16x2048_S1x16x128_0_0_768) _ _
    (fun n q => state6_0 c arg2 harg2 arg4 harg4 arg5 harg5 arg6 harg6 arg7 harg7 arg11 x0 B n q) n q)
theorem state7_1 (B : Blk x2 x3 x4 x5 dtb al) (n q : Fin 128) :
    (kernelRun0_A.sl.v2839 (F := Ideal) c arg2 harg2 arg5 harg5 arg7 harg7 arg11 x0 x3 x5) (ix2 n q) = stS (Xb x0) (dtK dtb) (aOf al) 7 n (jc 1 q) :=
  (congrFun (st7_1 c arg2 harg2 arg5 harg5 arg7 harg7 arg11 x0 x3 x5) _).trans (chunkS1_apply (rows_at arg2 harg2 arg4 harg4 arg5 harg5 arg6 harg6 arg7 harg7 x0 B 6 768 (by norm_num) (by norm_num) inb_S1x2048x1024_S1x128x1024_0_768_0 inb_S1x2048x128_S1x128x128_0_768_0 inb_S1x16x2048_S1x16x128_0_0_768) _ _
    (fun n q => state6_1 c arg2 harg2 arg4 harg4 arg5 harg5 arg6 harg6 arg7 harg7 arg11 x0 B n q) n q)
theorem state7_2 (B : Blk x2 x3 x4 x5 dtb al) (n q : Fin 128) :
    (kernelRun0_A.sl.v2847 (F := Ideal) c arg2 harg2 arg5 harg5 arg7 harg7 arg11 x0 x3 x5) (ix2 n q) = stS (Xb x0) (dtK dtb) (aOf al) 7 n (jc 2 q) :=
  (congrFun (st7_2 c arg2 harg2 arg5 harg5 arg7 harg7 arg11 x0 x3 x5) _).trans (chunkS2_apply (rows_at arg2 harg2 arg4 harg4 arg5 harg5 arg6 harg6 arg7 harg7 x0 B 6 768 (by norm_num) (by norm_num) inb_S1x2048x1024_S1x128x1024_0_768_0 inb_S1x2048x128_S1x128x128_0_768_0 inb_S1x16x2048_S1x16x128_0_0_768) _ _
    (fun n q => state6_2 c arg2 harg2 arg4 harg4 arg5 harg5 arg6 harg6 arg7 harg7 arg11 x0 B n q) n q)
theorem state7_3 (B : Blk x2 x3 x4 x5 dtb al) (n q : Fin 128) :
    (kernelRun0_A.sl.v2855 (F := Ideal) c arg2 harg2 arg5 harg5 arg7 harg7 arg11 x0 x3 x5) (ix2 n q) = stS (Xb x0) (dtK dtb) (aOf al) 7 n (jc 3 q) :=
  (congrFun (st7_3 c arg2 harg2 arg5 harg5 arg7 harg7 arg11 x0 x3 x5) _).trans (chunkS3_apply (rows_at arg2 harg2 arg4 harg4 arg5 harg5 arg6 harg6 arg7 harg7 x0 B 6 768 (by norm_num) (by norm_num) inb_S1x2048x1024_S1x128x1024_0_768_0 inb_S1x2048x128_S1x128x128_0_768_0 inb_S1x16x2048_S1x16x128_0_0_768) _ _
    (fun n q => state6_3 c arg2 harg2 arg4 harg4 arg5 harg5 arg6 harg6 arg7 harg7 arg11 x0 B n q) n q)
theorem state8_0 (B : Blk x2 x3 x4 x5 dtb al) (n q : Fin 128) :
    (kernelRun0_A.sl.v3193 (F := Ideal) c arg2 harg2 arg5 harg5 arg7 harg7 arg11 x0 x3 x5) (ix2 n q) = stS (Xb x0) (dtK dtb) (aOf al) 8 n (jc 0 q) :=
  (congrFun (st8_0 c arg2 harg2 arg5 harg5 arg7 harg7 arg11 x0 x3 x5) _).trans (chunkS0_apply (rows_at arg2 harg2 arg4 harg4 arg5 harg5 arg6 harg6 arg7 harg7 x0 B 7 896 (by norm_num) (by norm_num) inb_S1x2048x1024_S1x128x1024_0_896_0 inb_S1x2048x128_S1x128x128_0_896_0 inb_S1x16x2048_S1x16x128_0_0_896) _ _
    (fun n q => state7_0 c arg2 harg2 arg4 harg4 arg5 harg5 arg6 harg6 arg7 harg7 arg11 x0 B n q) n q)
theorem state8_1 (B : Blk x2 x3 x4 x5 dtb al) (n q : Fin 128) :
    (kernelRun0_A.sl.v3201 (F := Ideal) c arg2 harg2 arg5 harg5 arg7 harg7 arg11 x0 x3 x5) (ix2 n q) = stS (Xb x0) (dtK dtb) (aOf al) 8 n (jc 1 q) :=
  (congrFun (st8_1 c arg2 harg2 arg5 harg5 arg7 harg7 arg11 x0 x3 x5) _).trans (chunkS1_apply (rows_at arg2 harg2 arg4 harg4 arg5 harg5 arg6 harg6 arg7 harg7 x0 B 7 896 (by norm_num) (by norm_num) inb_S1x2048x1024_S1x128x1024_0_896_0 inb_S1x2048x128_S1x128x128_0_896_0 inb_S1x16x2048_S1x16x128_0_0_896) _ _
    (fun n q => state7_1 c arg2 harg2 arg4 harg4 arg5 harg5 arg6 harg6 arg7 harg7 arg11 x0 B n q) n q)
theorem state8_2 (B : Blk x2 x3 x4 x5 dtb al) (n q : Fin 128) :
    (kernelRun0_A.sl.v3209 (F := Ideal) c arg2 harg2 arg5 harg5 arg7 harg7 arg11 x0 x3 x5) (ix2 n q) = stS (Xb x0) (dtK dtb) (aOf al) 8 n (jc 2 q) :=
  (congrFun (st8_2 c arg2 harg2 arg5 harg5 arg7 harg7 arg11 x0 x3 x5) _).trans (chunkS2_apply (rows_at arg2 harg2 arg4 harg4 arg5 harg5 arg6 harg6 arg7 harg7 x0 B 7 896 (by norm_num) (by norm_num) inb_S1x2048x1024_S1x128x1024_0_896_0 inb_S1x2048x128_S1x128x128_0_896_0 inb_S1x16x2048_S1x16x128_0_0_896) _ _
    (fun n q => state7_2 c arg2 harg2 arg4 harg4 arg5 harg5 arg6 harg6 arg7 harg7 arg11 x0 B n q) n q)
theorem state8_3 (B : Blk x2 x3 x4 x5 dtb al) (n q : Fin 128) :
    (kernelRun0_A.sl.v3217 (F := Ideal) c arg2 harg2 arg5 harg5 arg7 harg7 arg11 x0 x3 x5) (ix2 n q) = stS (Xb x0) (dtK dtb) (aOf al) 8 n (jc 3 q) :=
  (congrFun (st8_3 c arg2 harg2 arg5 harg5 arg7 harg7 arg11 x0 x3 x5) _).trans (chunkS3_apply (rows_at arg2 harg2 arg4 harg4 arg5 harg5 arg6 harg6 arg7 harg7 x0 B 7 896 (by norm_num) (by norm_num) inb_S1x2048x1024_S1x128x1024_0_896_0 inb_S1x2048x128_S1x128x128_0_896_0 inb_S1x16x2048_S1x16x128_0_0_896) _ _
    (fun n q => state7_3 c arg2 harg2 arg4 harg4 arg5 harg5 arg6 harg6 arg7 harg7 arg11 x0 B n q) n q)
theorem state9_0 (B : Blk x2 x3 x4 x5 dtb al) (n q : Fin 128) :
    (kernelRun0_A.sl.v3555 (F := Ideal) c arg2 harg2 arg5 harg5 arg7 harg7 arg11 x0 x3 x5) (ix2 n q) = stS (Xb x0) (dtK dtb) (aOf al) 9 n (jc 0 q) :=
  (congrFun (st9_0 c arg2 harg2 arg5 harg5 arg7 harg7 arg11 x0 x3 x5) _).trans (chunkS0_apply (rows_at arg2 harg2 arg4 harg4 arg5 harg5 arg6 harg6 arg7 harg7 x0 B 8 1024 (by norm_num) (by norm_num) inb_S1x2048x1024_S1x128x1024_0_1024_0 inb_S1x2048x128_S1x128x128_0_1024_0 inb_S1x16x2048_S1x16x128_0_0_1024) _ _
    (fun n q => state8_0 c arg2 harg2 arg4 harg4 arg5 harg5 arg6 harg6 arg7 harg7 arg11 x0 B n q) n q)
theorem state9_1 (B : Blk x2 x3 x4 x5 dtb al) (n q : Fin 128) :
    (kernelRun0_A.sl.v3563 (F := Ideal) c arg2 harg2 arg5 harg5 arg7 harg7 arg11 x0 x3 x5) (ix2 n q) = stS (Xb x0) (dtK dtb) (aOf al) 9 n (jc 1 q) :=
  (congrFun (st9_1 c arg2 harg2 arg5 harg5 arg7 harg7 arg11 x0 x3 x5) _).trans (chunkS1_apply (rows_at arg2 harg2 arg4 harg4 arg5 harg5 arg6 harg6 arg7 harg7 x0 B 8 1024 (by norm_num) (by norm_num) inb_S1x2048x1024_S1x128x1024_0_1024_0 inb_S1x2048x128_S1x128x128_0_1024_0 inb_S1x16x2048_S1x16x128_0_0_1024) _ _
    (fun n q => state8_1 c arg2 harg2 arg4 harg4 arg5 harg5 arg6 harg6 arg7 harg7 arg11 x0 B n q) n q)
theorem state9_2 (B : Blk x2 x3 x4 x5 dtb al) (n q : Fin 128) :
    (kernelRun0_A.sl.v3571 (F := Ideal) c arg2 harg2 arg5 harg5 arg7 harg7 arg11 x0 x3 x5) (ix2 n q) = stS (Xb x0) (dtK dtb) (aOf al) 9 n (jc 2 q) :=
  (congrFun (st9_2 c arg2 harg2 arg5 harg5 arg7 harg7 arg11 x0 x3 x5) _).trans (chunkS2_apply (rows_at arg2 harg2 arg4 harg4 arg5 harg5 arg6 harg6 arg7 harg7 x0 B 8 1024 (by norm_num) (by norm_num) inb_S1x2048x1024_S1x128x1024_0_1024_0 inb_S1x2048x128_S1x128x128_0_1024_0 inb_S1x16x2048_S1x16x128_0_0_1024) _ _
    (fun n q => state8_2 c arg2 harg2 arg4 harg4 arg5 harg5 arg6 harg6 arg7 harg7 arg11 x0 B n q) n q)
theorem state9_3 (B : Blk x2 x3 x4 x5 dtb al) (n q : Fin 128) :
    (kernelRun0_A.sl.v3579 (F := Ideal) c arg2 harg2 arg5 harg5 arg7 harg7 arg11 x0 x3 x5) (ix2 n q) = stS (Xb x0) (dtK dtb) (aOf al) 9 n (jc 3 q) :=
  (congrFun (st9_3 c arg2 harg2 arg5 harg5 arg7 harg7 arg11 x0 x3 x5) _).trans (chunkS3_apply (rows_at arg2 harg2 arg4 harg4 arg5 harg5 arg6 harg6 arg7 harg7 x0 B 8 1024 (by norm_num) (by norm_num) inb_S1x2048x1024_S1x128x1024_0_1024_0 inb_S1x2048x128_S1x128x128_0_1024_0 inb_S1x16x2048_S1x16x128_0_0_1024) _ _
    (fun n q => state8_3 c arg2 harg2 arg4 harg4 arg5 harg5 arg6 harg6 arg7 harg7 arg11 x0 B n q) n q)
theorem state10_0 (B : Blk x2 x3 x4 x5 dtb al) (n q : Fin 128) :
    (kernelRun0_A.sl.v3917 (F := Ideal) c arg2 harg2 arg5 harg5 arg7 harg7 arg11 x0 x3 x5) (ix2 n q) = stS (Xb x0) (dtK dtb) (aOf al) 10 n (jc 0 q) :=
  (congrFun (st10_0 c arg2 harg2 arg5 harg5 arg7 harg7 arg11 x0 x3 x5) _).trans (chunkS0_apply (rows_at arg2 harg2 arg4 harg4 arg5 harg5 arg6 harg6 arg7 harg7 x0 B 9 1152 (by norm_num) (by norm_num) inb_S1x2048x1024_S1x128x1024_0_1152_0 inb_S1x2048x128_S1x128x128_0_1152_0 inb_S1x16x2048_S1x16x128_0_0_1152) _ _
    (fun n q => state9_0 c arg2 harg2 arg4 harg4 arg5 harg5 arg6 harg6 arg7 harg7 arg11 x0 B n q) n q)
theorem state10_1 (B : Blk x2 x3 x4 x5 dtb al) (n q : Fin 128) :
    (kernelRun0_A.sl.v3925 (F := Ideal) c arg2 harg2 arg5 harg5 arg7 harg7 arg11 x0 x3 x5) (ix2 n q) = stS (Xb x0) (dtK dtb) (aOf al) 10 n (jc 1 q) :=
  (congrFun (st10_1 c arg2 harg2 arg5 harg5 arg7 harg7 arg11 x0 x3 x5) _).trans (chunkS1_apply (rows_at arg2 harg2 arg4 harg4 arg5 harg5 arg6 harg6 arg7 harg7 x0 B 9 1152 (by norm_num) (by norm_num) inb_S1x2048x1024_S1x128x1024_0_1152_0 inb_S1x2048x128_S1x128x128_0_1152_0 inb_S1x16x2048_S1x16x128_0_0_1152) _ _
    (fun n q => state9_1 c arg2 harg2 arg4 harg4 arg5 harg5 arg6 harg6 arg7 harg7 arg11 x0 B n q) n q)
theorem state10_2 (B : Blk x2 x3 x4 x5 dtb al) (n q : Fin 128) :
    (kernelRun0_A.sl.v3933 (F := Ideal) c arg2 harg2 arg5 harg5 arg7 harg7 arg11 x0 x3 x5) (ix2 n q) = stS (Xb x0) (dtK dtb) (aOf al) 10 n (jc 2 q) :=
  (congrFun (st10_2 c arg2 harg2 arg5 harg5 arg7 harg7 arg11 x0 x3 x5) _).trans (chunkS2_apply (rows_at arg2 harg2 arg4 harg4 arg5 harg5 arg6 harg6 arg7 harg7 x0 B 9 1152 (by norm_num) (by norm_num) inb_S1x2048x1024_S1x128x1024_0_1152_0 inb_S1x2048x128_S1x128x128_0_1152_0 inb_S1x16x2048_S1x16x128_0_0_1152) _ _
    (fun n q => state9_2 c arg2 harg2 arg4 harg4 arg5 harg5 arg6 harg6 arg7 harg7 arg11 x0 B n q) n q)
theorem state10_3 (B : Blk x2 x3 x4 x5 dtb al) (n q : Fin 128) :
    (kernelRun0_A.sl.v3941 (F := Ideal) c arg2 harg2 arg5 harg5 arg7 harg7 arg11 x0 x3 x5) (ix2 n q) = stS (Xb x0) (dtK dtb) (aOf al) 10 n (jc 3 q) :=
  (congrFun (st10_3 c arg2 harg2 arg5 harg5 arg7 harg7 arg11 x0 x3 x5) _).trans (chunkS3_apply (rows_at arg2 harg2 arg4 harg4 arg5 harg5 arg6 harg6 arg7 harg7 x0 B 9 1152 (by norm_num) (by norm_num) inb_S1x2048x1024_S1x128x1024_0_1152_0 inb_S1x2048x128_S1x128x128_0_1152_0 inb_S1x16x2048_S1x16x128_0_0_1152) _ _
    (fun n q => state9_3 c arg2 harg2 arg4 harg4 arg5 harg5 arg6 harg6 arg7 harg7 arg11 x0 B n q) n q)
theorem state11_0 (B : Blk x2 x3 x4 x5 dtb al) (n q : Fin 128) :
    (kernelRun0_A.sl.v4279 (F := Ideal) c arg2 harg2 arg5 harg5 arg7 harg7 arg11 x0 x3 x5) (ix2 n q) = stS (Xb x0) (dtK dtb) (aOf al) 11 n (jc 0 q) :=
  (congrFun (st11_0 c arg2 harg2 arg5 harg5 arg7 harg7 arg11 x0 x3 x5) _).trans (chunkS0_apply (rows_at arg2 harg2 arg4 harg4 arg5 harg5 arg6 harg6 arg7 harg7 x0 B 10 1280 (by norm_num) (by norm_num) inb_S1x2048x1024_S1x128x1024_0_1280_0 inb_S1x2048x128_S1x128x128_0_1280_0 inb_S1x16x2048_S1x16x128_0_0_1280) _ _
    (fun n q => state10_0 c arg2 harg2 arg4 harg4 arg5 harg5 arg6 harg6 arg7 harg7 arg11 x0 B n q) n q)
theorem state11_1 (B : Blk x2 x3 x4 x5 dtb al) (n q : Fin 128) :
    (kernelRun0_A.sl.v4287 (F := Ideal) c arg2 harg2 arg5 harg5 arg7 harg7 arg11 x0 x3 x5) (ix2 n q) = stS (Xb x0) (dtK dtb) (aOf al) 11 n (jc 1 q) :=
  (congrFun (st11_1 c arg2 harg2 arg5 harg5 arg7 harg7 arg11 x0 x3 x5) _).trans (chunkS1_apply (rows_at arg2 harg2 arg4 harg4 arg5 harg5 arg6 harg6 arg7 harg7 x0 B 10 1280 (by norm_num) (by norm_num) inb_S1x2048x1024_S1x128x1024_0_1280_0 inb_S1x2048x128_S1x128x128_0_1280_0 inb_S1x16x2048_S1x16x128_0_0_1280) _ _
    (fun n q => state10_1 c arg2 harg2 arg4 harg4 arg5 harg5 arg6 harg6 arg7 harg7 arg11 x0 B n q) n q)
theorem state11_2 (B : Blk x2 x3 x4 x5 dtb al) (n q : Fin 128) :
    (kernelRun0_A.sl.v4295 (F := Ideal) c arg2 harg2 arg5 harg5 arg7 harg7 arg11 x0 x3 x5) (ix2 n q) = stS (Xb x0) (dtK dtb) (aOf al) 11 n (jc 2 q) :=
  (congrFun (st11_2 c arg2 harg2 arg5 harg5 arg7 harg7 arg11 x0 x3 x5) _).trans (chunkS2_apply (rows_at arg2 harg2 arg4 harg4 arg5 harg5 arg6 harg6 arg7 harg7 x0 B 10 1280 (by norm_num) (by norm_num) inb_S1x2048x1024_S1x128x1024_0_1280_0 inb_S1x2048x128_S1x128x128_0_1280_0 inb_S1x16x2048_S1x16x128_0_0_1280) _ _
    (fun n q => state10_2 c arg2 harg2 arg4 harg4 arg5 harg5 arg6 harg6 arg7 harg7 arg11 x0 B n q) n q)
theorem state11_3 (B : Blk x2 x3 x4 x5 dtb al) (n q : Fin 128) :
    (kernelRun0_A.sl.v4303 (F := Ideal) c arg2 harg2 arg5 harg5 arg7 harg7 arg11 x0 x3 x5) (ix2 n q) = stS (Xb x0) (dtK dtb) (aOf al) 11 n (jc 3 q) :=
  (congrFun (st11_3 c arg2 harg2 arg5 harg5 arg7 harg7 arg11 x0 x3 x5) _).trans (chunkS3_apply (rows_at arg2 harg2 arg4 harg4 arg5 harg5 arg6 harg6 arg7 harg7 x0 B 10 1280 (by norm_num) (by norm_num) inb_S1x2048x1024_S1x128x1024_0_1280_0 inb_S1x2048x128_S1x128x128_0_1280_0 inb_S1x16x2048_S1x16x128_0_0_1280) _ _
    (fun n q => state10_3 c arg2 harg2 arg4 harg4 arg5 harg5 arg6 harg6 arg7 harg7 arg11 x0 B n q) n q)
theorem state12_0 (B : Blk x2 x3 x4 x5 dtb al) (n q : Fin 128) :
    (kernelRun0_A.sl.v4641 (F := Ideal) c arg2 harg2 arg5 harg5 arg7 harg7 arg11 x0 x3 x5) (ix2 n q) = stS (Xb x0) (dtK dtb) (aOf al) 12 n (jc 0 q) :=
  (congrFun (st12_0 c arg2 harg2 arg5 harg5 arg7 harg7 arg11 x0 x3 x5) _).trans (chunkS0_apply (rows_at arg2 harg2 arg4 harg4 arg5 harg5 arg6 harg6 arg7 harg7 x0 B 11 1408 (by norm_num) (by norm_num) inb_S1x2048x1024_S1x128x1024_0_1408_0 inb_S1x2048x128_S1x128x128_0_1408_0 inb_S1x16x2048_S1x16x128_0_0_1408) _ _
    (fun n q => state11_0 c arg2 harg2 arg4 harg4 arg5 harg5 arg6 harg6 arg7 harg7 arg11 x0 B n q) n q)
theorem state12_1 (B : Blk x2 x3 x4 x5 dtb al) (n q : Fin 128) :
    (kernelRun0_A.sl.v4649 (F := Ideal) c arg2 harg2 arg5 harg5 arg7 harg7 arg11 x0 x3 x5) (ix2 n q) = stS (Xb x0) (dtK dtb) (aOf al) 12 n (jc 1 q) :=
  (congrFun (st12_1 c arg2 harg2 arg5 harg5 arg7 harg7 arg11 x0 x3 x5) _).trans (chunkS1_apply (rows_at arg2 harg2 arg4 harg4 arg5 harg5 arg6 harg6 arg7 harg7 x0 B 11 1408 (by norm_num) (by norm_num) inb_S1x2048x1024_S1x128x1024_0_1408_0 inb_S1x2048x128_S1x128x128_0_1408_0 inb_S1x16x2048_S1x16x128_0_0_1408) _ _
    (fun n q => state11_1 c arg2 harg2 arg4 harg4 arg5 harg5 arg6 harg6 arg7 harg7 arg11 x0 B n q) n q)
theorem state12_2 (B : Blk x2 x3 x4 x5 dtb al) (n q : Fin 128) :
    (kernelRun0_A.sl.v4657 (F := Ideal) c arg2 harg2 arg5 harg5 arg7 harg7 arg11 x0 x3 x5) (ix2 n q) = stS (Xb x0) (dtK dtb) (aOf al) 12 n (jc 2 q) :=
  (congrFun (st12_2 c arg2 harg2 arg5 harg5 arg7 harg7 arg11 x0 x3 x5) _).trans (chunkS2_apply (rows_at arg2 harg2 arg4 harg4 arg5 harg5 arg6 harg6 arg7 harg7 x0 B 11 1408 (by norm_num) (by norm_num) inb_S1x2048x1024_S1x128x1024_0_1408_0 inb_S1x2048x128_S1x128x128_0_1408_0 inb_S1x16x2048_S1x16x128_0_0_1408) _ _
    (fun n q => state11_2 c arg2 harg2 arg4 harg4 arg5 harg5 arg6 harg6 arg7 harg7 arg11 x0 B n q) n q)
theorem state12_3 (B : Blk x2 x3 x4 x5 dtb al) (n q : Fin 128) :
    (kernelRun0_A.sl.v4665 (F := Ideal) c arg2 harg2 arg5 harg5 arg7 harg7 arg11 x0 x3 x5) (ix2 n q) = stS (Xb x0) (dtK dtb) (aOf al) 12 n (jc 3 q) :=
  (congrFun (st12_3 c arg2 harg2 arg5 harg5 arg7 harg7 arg11 x0 x3 x5) _).trans (chunkS3_apply (rows_at arg2 harg2 arg4 harg4 arg5 harg5 arg6 harg6 arg7 harg7 x0 B 11 1408 (by norm_num) (by norm_num) inb_S1x2048x1024_S1x128x1024_0_1408_0 inb_S1x2048x128_S1x128x128_0_1408_0 inb_S1x16x2048_S1x16x128_0_0_1408) _ _
    (fun n q => state11_3 c arg2 harg2 arg4 harg4 arg5 harg5 arg6 harg6 arg7 harg7 arg11 x0 B n q) n q)
theorem state13_0 (B : Blk x2 x3 x4 x5 dtb al) (n q : Fin 128) :
    (kernelRun0_A.sl.v5003 (F := Ideal) c arg2 harg2 arg5 harg5 arg7 harg7 arg11 x0 x3 x5) (ix2 n q) = stS (Xb x0) (dtK dtb) (aOf al) 13 n (jc 0 q) :=
  (congrFun (st13_0 c arg2 harg2 arg5 harg5 arg7 harg7 arg11 x0 x3 x5) _).trans (chunkS0_apply (rows_at arg2 harg2 arg4 harg4 arg5 harg5 arg6 harg6 arg7 harg7 x0 B 12 1536 (by norm_num) (by norm_num) inb_S1x2048x1024_S1x128x1024_0_1536_0 inb_S1x2048x128_S1x128x128_0_1536_0 inb_S1x16x2048_S1x16x128_0_0_1536) _ _
    (fun n q => state12_0 c arg2 harg2 arg4 harg4 arg5 harg5 arg6 harg6 arg7 harg7 arg11 x0 B n q) n q)
theorem state13_1 (B : Blk x2 x3 x4 x5 dtb al) (n q : Fin 128) :
    (kernelRun0_A.sl.v5011 (F := Ideal) c arg2 harg2 arg5 harg5 arg7 harg7 arg11 x0 x3 x5) (ix2 n q) = stS (Xb x0) (dtK dtb) (aOf al) 13 n (jc 1 q) :=
  (congrFun (st13_1 c arg2 harg2 arg5 harg5 arg7 harg7 arg11 x0 x3 x5) _).trans (chunkS1_apply (rows_at arg2 harg2 arg4 harg4 arg5 harg5 arg6 harg6 arg7 harg7 x0 B 12 1536 (by norm_num) (by norm_num) inb_S1x2048x1024_S1x128x1024_0_1536_0 inb_S1x2048x128_S1x128x128_0_1536_0 inb_S1x16x2048_S1x16x128_0_0_1536) _ _
    (fun n q => state12_1 c arg2 harg2 arg4 harg4 arg5 harg5 arg6 harg6 arg7 harg7 arg11 x0 B n q) n q)
theorem state13_2 (B : Blk x2 x3 x4 x5 dtb al) (n q : Fin 128) :
    (kernelRun0_A.sl.v5019 (F := Ideal) c arg2 harg2 arg5 harg5 arg7 harg7 arg11 x0 x3 x5) (ix2 n q) = stS (Xb x0) (dtK dtb) (aOf al) 13 n (jc 2 q) :=
  (congrFun (st13_2 c arg2 harg2 arg5 harg5 arg7 harg7 arg11 x0 x3 x5) _).trans (chunkS2_apply (rows_at arg2 harg2 arg4 harg4 arg5 harg5 arg6 harg6 arg7 harg7 x0 B 12 1536 (by norm_num) (by norm_num) inb_S1x2048x1024_S1x128x1024_0_1536_0 inb_S1x2048x128_S1x128x128_0_1536_0 inb_S1x16x2048_S1x16x128_0_0_1536) _ _
    (fun n q => state12_2 c arg2 harg2 arg4 harg4 arg5 harg5 arg6 harg6 arg7 harg7 arg11 x0 B n q) n q)
theorem state13_3 (B : Blk x2 x3 x4 x5 dtb al) (n q : Fin 128) :
    (kernelRun0_A.sl.v5027 (F := Ideal) c arg2 harg2 arg5 harg5 arg7 harg7 arg11 x0 x3 x5) (ix2 n q) = stS (Xb x0) (dtK dtb) (aOf al) 13 n (jc 3 q) :=
  (congrFun (st13_3 c arg2 harg2 arg5 harg5 arg7 harg7 arg11 x0 x3 x5) _).trans (chunkS3_apply (rows_at arg2 harg2 arg4 harg4 arg5 harg5 arg6 harg6 arg7 harg7 x0 B 12 1536 (by norm_num) (by norm_num) inb_S1x2048x1024_S1x128x1024_0_1536_0 inb_S1x2048x128_S1x128x128_0_1536_0 inb_S1x16x2048_S1x16x128_0_0_1536) _ _
    (fun n q => state12_3 c arg2 harg2 arg4 harg4 arg5 harg5 arg6 harg6 arg7 harg7 arg11 x0 B n q) n q)
theorem state14_0 (B : Blk x2 x3 x4 x5 dtb al) (n q : Fin 128) :
    (kernelRun0_A.sl.v5365 (F := Ideal) c arg2 harg2 arg5 harg5 arg7 harg7 arg11 x0 x3 x5) (ix2 n q) = stS (Xb x0) (dtK dtb) (aOf al) 14 n (jc 0 q) :=
  (congrFun (st14_0 c arg2 harg2 arg5 harg5 arg7 harg7 arg11 x0 x3 x5) _).trans (chunkS0_apply (rows_at arg2 harg2 arg4 harg4 arg5 harg5 arg6 harg6 arg7 harg7 x0 B 13 1664 (by norm_num) (by norm_num) inb_S1x2048x1024_S1x128x1024_0_1664_0 inb_S1x2048x128_S1x128x128_0_1664_0 inb_S1x16x2048_S1x16x128_0_0_1664) _ _
    (fun n q => state13_0 c arg2 harg2 arg4 harg4 arg5 harg5 arg6 harg6 arg7 harg7 arg11 x0 B n q) n q)
theorem state14_1 (B : Blk x2 x3 x4 x5 dtb al) (n q : Fin 128) :
    (kernelRun0_A.sl.v5373 (F := Ideal) c arg2 harg2 arg5 harg5 arg7 harg7 arg11 x0 x3 x5) (ix2 n q) = stS (Xb x0) (dtK dtb) (aOf al) 14 n (jc 1 q) :=
  (congrFun (st14_1 c arg2 harg2 arg5 harg5 arg7 harg7 arg11 x0 x3 x5) _).trans (chunkS1_apply (rows_at arg2 harg2 arg4 harg4 arg5 harg5 arg6 harg6 arg7 harg7 x0 B 13 1664 (by norm_num) (by norm_num) inb_S1x2048x1024_S1x128x1024_0_1664_0 inb_S1x2048x128_S1x128x128_0_1664_0 inb_S1x16x2048_S1x16x128_0_0_1664) _ _
    (fun n q => state13_1 c arg2 harg2 arg4 harg4 arg5 harg5 arg6 harg6 arg7 harg7 arg11 x0 B n q) n q)
theorem state14_2 (B : Blk x2 x3 x4 x5 dtb al) (n q : Fin 128) :
    (kernelRun0_A.sl.v5381 (F := Ideal) c arg2 harg2 arg5 harg5 arg7 harg7 arg11 x0 x3 x5) (ix2 n q) = stS (Xb x0) (dtK dtb) (aOf al) 14 n (jc 2 q) :=
  (congrFun (st14_2 c arg2 harg2 arg5 harg5 arg7 harg7 arg11 x0 x3 x5) _).trans (chunkS2_apply (rows_at arg2 harg2 arg4 harg4 arg5 harg5 arg6 harg6 arg7 harg7 x0 B 13 1664 (by norm_num) (by norm_num) inb_S1x2048x1024_S1x128x1024_0_1664_0 inb_S1x2048x128_S1x128x128_0_1664_0 inb_S1x16x2048_S1x16x128_0_0_1664) _ _
    (fun n q => state13_2 c arg2 harg2 arg4 harg4 arg5 harg5 arg6 harg6 arg7 harg7 arg11 x0 B n q) n q)
theorem state14_3 (B : Blk x2 x3 x4 x5 dtb al) (n q : Fin 128) :
    (kernelRun0_A.sl.v5389 (F := Ideal) c arg2 harg2 arg5 harg5 arg7 harg7 arg11 x0 x3 x5) (ix2 n q) = stS (Xb x0) (dtK dtb) (aOf al) 14 n (jc 3 q) :=
  (congrFun (st14_3 c arg2 harg2 arg5 harg5 arg7 harg7 arg11 x0 x3 x5) _).trans (chunkS3_apply (rows_at arg2 harg2 arg4 harg4 arg5 harg5 arg6 harg6 arg7 harg7 x0 B 13 1664 (by norm_num) (by norm_num) inb_S1x2048x1024_S1x128x1024_0_1664_0 inb_S1x2048x128_S1x128x128_0_1664_0 inb_S1x16x2048_S1x16x128_0_0_1664) _ _
    (fun n q => state13_3 c arg2 harg2 arg4 harg4 arg5 harg5 arg6 harg6 arg7 harg7 arg11 x0 B n q) n q)
theorem state15_0 (B : Blk x2 x3 x4 x5 dtb al) (n q : Fin 128) :
    (kernelRun0_A.sl.v5727 (F := Ideal) c arg2 harg2 arg5 harg5 arg7 harg7 arg11 x0 x3 x5) (ix2 n q) = stS (Xb x0) (dtK dtb) (aOf al) 15 n (jc 0 q) :=
  (congrFun (st15_0 c arg2 harg2 arg5 harg5 arg7 harg7 arg11 x0 x3 x5) _).trans (chunkS0_apply (rows_at arg2 harg2 arg4 harg4 arg5 harg5 arg6 harg6 arg7 harg7 x0 B 14 1792 (by norm_num) (by norm_num) inb_S1x2048x1024_S1x128x1024_0_1792_0 inb_S1x2048x128_S1x128x128_0_1792_0 inb_S1x16x2048_S1x16x128_0_0_1792) _ _
    (fun n q => state14_0 c arg2 harg2 arg4 harg4 arg5 harg5 arg6 harg6 arg7 harg7 arg11 x0 B n q) n q)
theorem state15_1 (B : Blk x2 x3 x4 x5 dtb al) (n q : Fin 128) :
    (kernelRun0_A.sl.v5735 (F := Ideal) c arg2 harg2 arg5 harg5 arg7 harg7 arg11 x0 x3 x5) (ix2 n q) = stS (Xb x0) (dtK dtb) (aOf al) 15 n (jc 1 q) :=
  (congrFun (st15_1 c arg2 harg2 arg5 harg5 arg7 harg7 arg11 x0 x3 x5) _).trans (chunkS1_apply (rows_at arg2 harg2 arg4 harg4 arg5 harg5 arg6 harg6 arg7 harg7 x0 B 14 1792 (by norm_num) (by norm_num) inb_S1x2048x1024_S1x128x1024_0_1792_0 inb_S1x2048x128_S1x128x128_0_1792_0 inb_S1x16x2048_S1x16x128_0_0_1792) _ _
    (fun n q => state14_1 c arg2 harg2 arg4 harg4 arg5 harg5 arg6 harg6 arg7 harg7 arg11 x0 B n q) n q)
theorem state15_2 (B : Blk x2 x3 x4 x5 dtb al) (n q : Fin 128) :
    (kernelRun0_A.sl.v5743 (F := Ideal) c arg2 harg2 arg5 harg5 arg7 harg7 arg11 x0 x3 x5) (ix2 n q) = stS (Xb x0) (dtK dtb) (aOf al) 15 n (jc 2 q) :=
  (congrFun (st15_2 c arg2 harg2 arg5 harg5 arg7 harg7 arg11 x0 x3 x5) _).trans (chunkS2_apply (rows_at arg2 harg2 arg4 harg4 arg5 harg5 arg6 harg6 arg7 harg7 x0 B 14 1792 (by norm_num) (by norm_num) inb_S1x2048x1024_S1x128x1024_0_1792_0 inb_S1x2048x128_S1x128x128_0_1792_0 inb_S1x16x2048_S1x16x128_0_0_1792) _ _
    (fun n q => state14_2 c arg2 harg2 arg4 harg4 arg5 harg5 arg6 harg6 arg7 harg7 arg11 x0 B n q) n q)
theorem state15_3 (B : Blk x2 x3 x4 x5 dtb al) (n q : Fin 128) :
    (kernelRun0_A.sl.v5751 (F := Ideal) c arg2 harg2 arg5 harg5 arg7 harg7 arg11 x0 x3 x5) (ix2 n q) = stS (Xb x0) (dtK dtb) (aOf al) 15 n (jc 3 q) :=
  (congrFun (st15_3 c arg2 harg2 arg5 harg5 arg7 harg7 arg11 x0 x3 x5) _).trans (chunkS3_apply (rows_at arg2 harg2 arg4 harg4 arg5 harg5 arg6 harg6 arg7 harg7 x0 B 14 1792 (by norm_num) (by norm_num) inb_S1x2048x1024_S1x128x1024_0_1792_0 inb_S1x2048x128_S1x128x128_0_1792_0 inb_S1x16x2048_S1x16x128_0_0_1792) _ _
    (fun n q => state14_3 c arg2 harg2 arg4 harg4 arg5 harg5 arg6 harg6 arg7 harg7 arg11 x0 B n q) n q)

end Cert.Proof.Ssd

end
-- ==== Proof.SsdBlock.lean ====
/-
  The block of the result one point of the kernel leaves, chunk by chunk.
-/
module

public import proofs.«01_k».proof.Proof.SsdStates
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

set_option maxHeartbeats 4000000

/-- A chunk's rows of the result: row `l` of chunk `k`, column `j`. -/
def outS (x0 : Vec Ideal S1x2048x1024 .f32) (x1 : Vec Ideal S1x2048x512 .f32) (dtb : Fin 8 → Fin 2048 → EReal) (al dsk : Fin 8 → EReal)
    (N : Fin 512 → EReal) (k : ℕ) (l : Fin 128) (j : Fin 512) : EReal :=
  normS (gatedS (Xb x0 k) (fun l j => x1 (ix3 0 (tok k l) j)) (dtK dtb k) (aOf al) dsk (stS (Xb x0) (dtK dtb) (aOf al) k) l) N j

/-- The block of the result the point leaves. -/
def outBlk (x0 : Vec Ideal S1x2048x1024 .f32) (x1 : Vec Ideal S1x2048x512 .f32) (dtb : Fin 8 → Fin 2048 → EReal) (al dsk : Fin 8 → EReal)
    (N : Fin 512 → EReal) : Vec Ideal S1x2048x512 .bf16 := fun i =>
  outS x0 x1 dtb al dsk N ((i 1).val / 128) ⟨(i 1).val % 128, Nat.mod_lt _ (by norm_num)⟩ (i 2)

theorem outBlk_emb (x0 : Vec Ideal S1x2048x1024 .f32) (x1 : Vec Ideal S1x2048x512 .f32) (dtb : Fin 8 → Fin 2048 → EReal)
    (al dsk : Fin 8 → EReal) (N : Fin 512 → EReal) (k o : ℕ) (ho : o = 128 * k)
    (h : ∀ a, (![0, o, 0] : Fin 3 → Nat) a + S1x128x512.size a ≤ S1x2048x512.size a) (l : Fin 128) (j : Fin 512) :
    outBlk x0 x1 dtb al dsk N ((Rect.unit (s := S1x2048x512) ![0, o, 0] S1x128x512.size h).emb (ix3 0 l j))
      = outS x0 x1 dtb al dsk N k l j := by
  have e1 : (((Rect.unit (s := S1x2048x512) ![0, o, 0] S1x128x512.size h).emb (ix3 0 l j)) 1).val = 128 * k + l.val := by
    show o + 1 * l.val = _
    omega
  have e2 : ((Rect.unit (s := S1x2048x512) ![0, o, 0] S1x128x512.size h).emb (ix3 0 l j)) 2 = j :=
    Fin.ext (show 0 + 1 * j.val = _ by omega)
  unfold outBlk
  rw [e2]
  have a : (((Rect.unit (s := S1x2048x512) ![0, o, 0] S1x128x512.size h).emb (ix3 0 l j)) 1).val / 128 = k := by omega
  have b : (⟨(((Rect.unit (s := S1x2048x512) ![0, o, 0] S1x128x512.size h).emb (ix3 0 l j)) 1).val % 128, Nat.mod_lt _ (by norm_num)⟩ : Fin 128) = l :=
    Fin.ext (by show _ % 128 = l.val; omega)
  rw [a, b]

theorem idx3 (x : S1x128x512.Idx) : x = ix3 0 (x 1) (x 2) := funext fun a => by
  match a with
  | ⟨0, _⟩ => exact Fin.ext (by have := (x 0).isLt; change (x 0).val < 1 at this; show (x 0).val = 0; omega)
  | ⟨1, _⟩ => rfl
  | ⟨2, _⟩ => rfl

variable (c : Dev nD)
  (arg2 : Memref sig .tc .vmem S1x2048x1024 .f32) (harg2 : arg2.IsWhole)
  (arg3 : Memref sig .tc .vmem S1x2048x512 .f32) (harg3 : arg3.IsWhole)
  (arg4 : Memref sig .tc .vmem S1x2048x128 .f32) (harg4 : arg4.IsWhole)
  (arg5 : Memref sig .tc .vmem S1x16x2048 .f32) (harg5 : arg5.IsWhole)
  (arg6 : Memref sig .tc .vmem S1x128 .f32) (harg6 : arg6.IsWhole)
  (arg7 : Memref sig .tc .vmem S16x1 .f32) (harg7 : arg7.IsWhole)
  (arg8 : Memref sig .tc .vmem S1x512 .f32) (harg8 : arg8.IsWhole)
  (arg9 : Memref sig .tc .vmem S1x512 .f32) (harg9 : arg9.IsWhole)
  (arg11 : Memref sig .tc .vmem S4x128x128 .f32)
  (x0 : Vec Ideal S1x2048x1024 .f32) (x1 : Vec Ideal S1x2048x512 .f32) {x2 : Vec Ideal S1x2048x128 .f32} {x3 : Vec Ideal S1x16x2048 .f32} {x4 : Vec Ideal S1x128 .f32} {x5 : Vec Ideal S16x1 .f32} (x6 : Vec Ideal S1x512 .f32) (x7 : Vec Ideal S1x512 .f32)
  {dtb : Fin 8 → Fin 2048 → EReal} {al : Fin 8 → EReal}

theorem piece0 (B : Blk x2 x3 x4 x5 dtb al) (dsk : Fin 8 → EReal) (hd' : ∀ j : Fin 512, x6 (ix2 0 j) = dsk (hd j)) (x : S1x128x512.Idx) :
    (kernelRun0_A.sl.v723 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 0, 0] S1x128x512.size inb_S1x2048x512_S1x128x512_0_0_0).emb x) := by
  obtain ⟨l, j, rfl⟩ : ∃ l j, x = ix3 0 l j := ⟨x 1, x 2, idx3 x⟩
  refine (congrFun (out0 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 0 0 (by norm_num) _ l j).symm
  exact chunkOut_apply (rows_at arg2 harg2 arg4 harg4 arg5 harg5 arg6 harg6 arg7 harg7 x0 B 0 0 (by norm_num) (by norm_num) inb_S1x2048x1024_S1x128x1024_0_0_0 inb_S1x2048x128_S1x128x128_0_0_0 inb_S1x16x2048_S1x16x128_0_0_0) _ _ _ _ _ _ _ _ dsk _ _
    (fun l j => load_gate arg3 harg3 x1 0 0 (by norm_num) (by norm_num) _ l j)
    (fun j => (dsV_apply arg8 harg8 x6 j).trans (hd' j)) (fun j => nwV_apply arg9 harg9 x7 j)
    (fun n q => state0_0 c arg2 harg2 arg4 harg4 arg5 harg5 arg6 harg6 arg7 harg7 arg11 x0 B n q) (fun n q => state0_1 c arg2 harg2 arg4 harg4 arg5 harg5 arg6 harg6 arg7 harg7 arg11 x0 B n q) (fun n q => state0_2 c arg2 harg2 arg4 harg4 arg5 harg5 arg6 harg6 arg7 harg7 arg11 x0 B n q) (fun n q => state0_3 c arg2 harg2 arg4 harg4 arg5 harg5 arg6 harg6 arg7 harg7 arg11 x0 B n q) l j
theorem piece1 (B : Blk x2 x3 x4 x5 dtb al) (dsk : Fin 8 → EReal) (hd' : ∀ j : Fin 512, x6 (ix2 0 j) = dsk (hd j)) (x : S1x128x512.Idx) :
    (kernelRun0_A.sl.v1085 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 128, 0] S1x128x512.size inb_S1x2048x512_S1x128x512_0_128_0).emb x) := by
  obtain ⟨l, j, rfl⟩ : ∃ l j, x = ix3 0 l j := ⟨x 1, x 2, idx3 x⟩
  refine (congrFun (out1 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 1 128 (by norm_num) _ l j).symm
  exact chunkOut_apply (rows_at arg2 harg2 arg4 harg4 arg5 harg5 arg6 harg6 arg7 harg7 x0 B 1 128 (by norm_num) (by norm_num) inb_S1x2048x1024_S1x128x1024_0_128_0 inb_S1x2048x128_S1x128x128_0_128_0 inb_S1x16x2048_S1x16x128_0_0_128) _ _ _ _ _ _ _ _ dsk _ _
    (fun l j => load_gate arg3 harg3 x1 1 128 (by norm_num) (by norm_num) _ l j)
    (fun j => (dsV_apply arg8 harg8 x6 j).trans (hd' j)) (fun j => nwV_apply arg9 harg9 x7 j)
    (fun n q => state1_0 c arg2 harg2 arg4 harg4 arg5 harg5 arg6 harg6 arg7 harg7 arg11 x0 B n q) (fun n q => state1_1 c arg2 harg2 arg4 harg4 arg5 harg5 arg6 harg6 arg7 harg7 arg11 x0 B n q) (fun n q => state1_2 c arg2 harg2 arg4 harg4 arg5 harg5 arg6 harg6 arg7 harg7 arg11 x0 B n q) (fun n q => state1_3 c arg2 harg2 arg4 harg4 arg5 harg5 arg6 harg6 arg7 harg7 arg11 x0 B n q) l j
theorem piece2 (B : Blk x2 x3 x4 x5 dtb al) (dsk : Fin 8 → EReal) (hd' : ∀ j : Fin 512, x6 (ix2 0 j) = dsk (hd j)) (x : S1x128x512.Idx) :
    (kernelRun0_A.sl.v1447 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 256, 0] S1x128x512.size inb_S1x2048x512_S1x128x512_0_256_0).emb x) := by
  obtain ⟨l, j, rfl⟩ : ∃ l j, x = ix3 0 l j := ⟨x 1, x 2, idx3 x⟩
  refine (congrFun (out2 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 2 256 (by norm_num) _ l j).symm
  exact chunkOut_apply (rows_at arg2 harg2 arg4 harg4 arg5 harg5 arg6 harg6 arg7 harg7 x0 B 2 256 (by norm_num) (by norm_num) inb_S1x2048x1024_S1x128x1024_0_256_0 inb_S1x2048x128_S1x128x128_0_256_0 inb_S1x16x2048_S1x16x128_0_0_256) _ _ _ _ _ _ _ _ dsk _ _
    (fun l j => load_gate arg3 harg3 x1 2 256 (by norm_num) (by norm_num) _ l j)
    (fun j => (dsV_apply arg8 harg8 x6 j).trans (hd' j)) (fun j => nwV_apply arg9 harg9 x7 j)
    (fun n q => state2_0 c arg2 harg2 arg4 harg4 arg5 harg5 arg6 harg6 arg7 harg7 arg11 x0 B n q) (fun n q => state2_1 c arg2 harg2 arg4 harg4 arg5 harg5 arg6 harg6 arg7 harg7 arg11 x0 B n q) (fun n q => state2_2 c arg2 harg2 arg4 harg4 arg5 harg5 arg6 harg6 arg7 harg7 arg11 x0 B n q) (fun n q => state2_3 c arg2 harg2 arg4 harg4 arg5 harg5 arg6 harg6 arg7 harg7 arg11 x0 B n q) l j
theorem piece3 (B : Blk x2 x3 x4 x5 dtb al) (dsk : Fin 8 → EReal) (hd' : ∀ j : Fin 512, x6 (ix2 0 j) = dsk (hd j)) (x : S1x128x512.Idx) :
    (kernelRun0_A.sl.v1809 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 384, 0] S1x128x512.size inb_S1x2048x512_S1x128x512_0_384_0).emb x) := by
  obtain ⟨l, j, rfl⟩ : ∃ l j, x = ix3 0 l j := ⟨x 1, x 2, idx3 x⟩
  refine (congrFun (out3 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 3 384 (by norm_num) _ l j).symm
  exact chunkOut_apply (rows_at arg2 harg2 arg4 harg4 arg5 harg5 arg6 harg6 arg7 harg7 x0 B 3 384 (by norm_num) (by norm_num) inb_S1x2048x1024_S1x128x1024_0_384_0 inb_S1x2048x128_S1x128x128_0_384_0 inb_S1x16x2048_S1x16x128_0_0_384) _ _ _ _ _ _ _ _ dsk _ _
    (fun l j => load_gate arg3 harg3 x1 3 384 (by norm_num) (by norm_num) _ l j)
    (fun j => (dsV_apply arg8 harg8 x6 j).trans (hd' j)) (fun j => nwV_apply arg9 harg9 x7 j)
    (fun n q => state3_0 c arg2 harg2 arg4 harg4 arg5 harg5 arg6 harg6 arg7 harg7 arg11 x0 B n q) (fun n q => state3_1 c arg2 harg2 arg4 harg4 arg5 harg5 arg6 harg6 arg7 harg7 arg11 x0 B n q) (fun n q => state3_2 c arg2 harg2 arg4 harg4 arg5 harg5 arg6 harg6 arg7 harg7 arg11 x0 B n q) (fun n q => state3_3 c arg2 harg2 arg4 harg4 arg5 harg5 arg6 harg6 arg7 harg7 arg11 x0 B n q) l j
theorem piece4 (B : Blk x2 x3 x4 x5 dtb al) (dsk : Fin 8 → EReal) (hd' : ∀ j : Fin 512, x6 (ix2 0 j) = dsk (hd j)) (x : S1x128x512.Idx) :
    (kernelRun0_A.sl.v2171 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 512, 0] S1x128x512.size inb_S1x2048x512_S1x128x512_0_512_0).emb x) := by
  obtain ⟨l, j, rfl⟩ : ∃ l j, x = ix3 0 l j := ⟨x 1, x 2, idx3 x⟩
  refine (congrFun (out4 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 4 512 (by norm_num) _ l j).symm
  exact chunkOut_apply (rows_at arg2 harg2 arg4 harg4 arg5 harg5 arg6 harg6 arg7 harg7 x0 B 4 512 (by norm_num) (by norm_num) inb_S1x2048x1024_S1x128x1024_0_512_0 inb_S1x2048x128_S1x128x128_0_512_0 inb_S1x16x2048_S1x16x128_0_0_512) _ _ _ _ _ _ _ _ dsk _ _
    (fun l j => load_gate arg3 harg3 x1 4 512 (by norm_num) (by norm_num) _ l j)
    (fun j => (dsV_apply arg8 harg8 x6 j).trans (hd' j)) (fun j => nwV_apply arg9 harg9 x7 j)
    (fun n q => state4_0 c arg2 harg2 arg4 harg4 arg5 harg5 arg6 harg6 arg7 harg7 arg11 x0 B n q) (fun n q => state4_1 c arg2 harg2 arg4 harg4 arg5 harg5 arg6 harg6 arg7 harg7 arg11 x0 B n q) (fun n q => state4_2 c arg2 harg2 arg4 harg4 arg5 harg5 arg6 harg6 arg7 harg7 arg11 x0 B n q) (fun n q => state4_3 c arg2 harg2 arg4 harg4 arg5 harg5 arg6 harg6 arg7 harg7 arg11 x0 B n q) l j
theorem piece5 (B : Blk x2 x3 x4 x5 dtb al) (dsk : Fin 8 → EReal) (hd' : ∀ j : Fin 512, x6 (ix2 0 j) = dsk (hd j)) (x : S1x128x512.Idx) :
    (kernelRun0_A.sl.v2533 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 640, 0] S1x128x512.size inb_S1x2048x512_S1x128x512_0_640_0).emb x) := by
  obtain ⟨l, j, rfl⟩ : ∃ l j, x = ix3 0 l j := ⟨x 1, x 2, idx3 x⟩
  refine (congrFun (out5 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 5 640 (by norm_num) _ l j).symm
  exact chunkOut_apply (rows_at arg2 harg2 arg4 harg4 arg5 harg5 arg6 harg6 arg7 harg7 x0 B 5 640 (by norm_num) (by norm_num) inb_S1x2048x1024_S1x128x1024_0_640_0 inb_S1x2048x128_S1x128x128_0_640_0 inb_S1x16x2048_S1x16x128_0_0_640) _ _ _ _ _ _ _ _ dsk _ _
    (fun l j => load_gate arg3 harg3 x1 5 640 (by norm_num) (by norm_num) _ l j)
    (fun j => (dsV_apply arg8 harg8 x6 j).trans (hd' j)) (fun j => nwV_apply arg9 harg9 x7 j)
    (fun n q => state5_0 c arg2 harg2 arg4 harg4 arg5 harg5 arg6 harg6 arg7 harg7 arg11 x0 B n q) (fun n q => state5_1 c arg2 harg2 arg4 harg4 arg5 harg5 arg6 harg6 arg7 harg7 arg11 x0 B n q) (fun n q => state5_2 c arg2 harg2 arg4 harg4 arg5 harg5 arg6 harg6 arg7 harg7 arg11 x0 B n q) (fun n q => state5_3 c arg2 harg2 arg4 harg4 arg5 harg5 arg6 harg6 arg7 harg7 arg11 x0 B n q) l j
theorem piece6 (B : Blk x2 x3 x4 x5 dtb al) (dsk : Fin 8 → EReal) (hd' : ∀ j : Fin 512, x6 (ix2 0 j) = dsk (hd j)) (x : S1x128x512.Idx) :
    (kernelRun0_A.sl.v2895 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 768, 0] S1x128x512.size inb_S1x2048x512_S1x128x512_0_768_0).emb x) := by
  obtain ⟨l, j, rfl⟩ : ∃ l j, x = ix3 0 l j := ⟨x 1, x 2, idx3 x⟩
  refine (congrFun (out6 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 6 768 (by norm_num) _ l j).symm
  exact chunkOut_apply (rows_at arg2 harg2 arg4 harg4 arg5 harg5 arg6 harg6 arg7 harg7 x0 B 6 768 (by norm_num) (by norm_num) inb_S1x2048x1024_S1x128x1024_0_768_0 inb_S1x2048x128_S1x128x128_0_768_0 inb_S1x16x2048_S1x16x128_0_0_768) _ _ _ _ _ _ _ _ dsk _ _
    (fun l j => load_gate arg3 harg3 x1 6 768 (by norm_num) (by norm_num) _ l j)
    (fun j => (dsV_apply arg8 harg8 x6 j).trans (hd' j)) (fun j => nwV_apply arg9 harg9 x7 j)
    (fun n q => state6_0 c arg2 harg2 arg4 harg4 arg5 harg5 arg6 harg6 arg7 harg7 arg11 x0 B n q) (fun n q => state6_1 c arg2 harg2 arg4 harg4 arg5 harg5 arg6 harg6 arg7 harg7 arg11 x0 B n q) (fun n q => state6_2 c arg2 harg2 arg4 harg4 arg5 harg5 arg6 harg6 arg7 harg7 arg11 x0 B n q) (fun n q => state6_3 c arg2 harg2 arg4 harg4 arg5 harg5 arg6 harg6 arg7 harg7 arg11 x0 B n q) l j
theorem piece7 (B : Blk x2 x3 x4 x5 dtb al) (dsk : Fin 8 → EReal) (hd' : ∀ j : Fin 512, x6 (ix2 0 j) = dsk (hd j)) (x : S1x128x512.Idx) :
    (kernelRun0_A.sl.v3257 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 896, 0] S1x128x512.size inb_S1x2048x512_S1x128x512_0_896_0).emb x) := by
  obtain ⟨l, j, rfl⟩ : ∃ l j, x = ix3 0 l j := ⟨x 1, x 2, idx3 x⟩
  refine (congrFun (out7 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 7 896 (by norm_num) _ l j).symm
  exact chunkOut_apply (rows_at arg2 harg2 arg4 harg4 arg5 harg5 arg6 harg6 arg7 harg7 x0 B 7 896 (by norm_num) (by norm_num) inb_S1x2048x1024_S1x128x1024_0_896_0 inb_S1x2048x128_S1x128x128_0_896_0 inb_S1x16x2048_S1x16x128_0_0_896) _ _ _ _ _ _ _ _ dsk _ _
    (fun l j => load_gate arg3 harg3 x1 7 896 (by norm_num) (by norm_num) _ l j)
    (fun j => (dsV_apply arg8 harg8 x6 j).trans (hd' j)) (fun j => nwV_apply arg9 harg9 x7 j)
    (fun n q => state7_0 c arg2 harg2 arg4 harg4 arg5 harg5 arg6 harg6 arg7 harg7 arg11 x0 B n q) (fun n q => state7_1 c arg2 harg2 arg4 harg4 arg5 harg5 arg6 harg6 arg7 harg7 arg11 x0 B n q) (fun n q => state7_2 c arg2 harg2 arg4 harg4 arg5 harg5 arg6 harg6 arg7 harg7 arg11 x0 B n q) (fun n q => state7_3 c arg2 harg2 arg4 harg4 arg5 harg5 arg6 harg6 arg7 harg7 arg11 x0 B n q) l j
theorem piece8 (B : Blk x2 x3 x4 x5 dtb al) (dsk : Fin 8 → EReal) (hd' : ∀ j : Fin 512, x6 (ix2 0 j) = dsk (hd j)) (x : S1x128x512.Idx) :
    (kernelRun0_A.sl.v3619 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 1024, 0] S1x128x512.size inb_S1x2048x512_S1x128x512_0_1024_0).emb x) := by
  obtain ⟨l, j, rfl⟩ : ∃ l j, x = ix3 0 l j := ⟨x 1, x 2, idx3 x⟩
  refine (congrFun (out8 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 8 1024 (by norm_num) _ l j).symm
  exact chunkOut_apply (rows_at arg2 harg2 arg4 harg4 arg5 harg5 arg6 harg6 arg7 harg7 x0 B 8 1024 (by norm_num) (by norm_num) inb_S1x2048x1024_S1x128x1024_0_1024_0 inb_S1x2048x128_S1x128x128_0_1024_0 inb_S1x16x2048_S1x16x128_0_0_1024) _ _ _ _ _ _ _ _ dsk _ _
    (fun l j => load_gate arg3 harg3 x1 8 1024 (by norm_num) (by norm_num) _ l j)
    (fun j => (dsV_apply arg8 harg8 x6 j).trans (hd' j)) (fun j => nwV_apply arg9 harg9 x7 j)
    (fun n q => state8_0 c arg2 harg2 arg4 harg4 arg5 harg5 arg6 harg6 arg7 harg7 arg11 x0 B n q) (fun n q => state8_1 c arg2 harg2 arg4 harg4 arg5 harg5 arg6 harg6 arg7 harg7 arg11 x0 B n q) (fun n q => state8_2 c arg2 harg2 arg4 harg4 arg5 harg5 arg6 harg6 arg7 harg7 arg11 x0 B n q) (fun n q => state8_3 c arg2 harg2 arg4 harg4 arg5 harg5 arg6 harg6 arg7 harg7 arg11 x0 B n q) l j
theorem piece9 (B : Blk x2 x3 x4 x5 dtb al) (dsk : Fin 8 → EReal) (hd' : ∀ j : Fin 512, x6 (ix2 0 j) = dsk (hd j)) (x : S1x128x512.Idx) :
    (kernelRun0_A.sl.v3981 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 1152, 0] S1x128x512.size inb_S1x2048x512_S1x128x512_0_1152_0).emb x) := by
  obtain ⟨l, j, rfl⟩ : ∃ l j, x = ix3 0 l j := ⟨x 1, x 2, idx3 x⟩
  refine (congrFun (out9 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 9 1152 (by norm_num) _ l j).symm
  exact chunkOut_apply (rows_at arg2 harg2 arg4 harg4 arg5 harg5 arg6 harg6 arg7 harg7 x0 B 9 1152 (by norm_num) (by norm_num) inb_S1x2048x1024_S1x128x1024_0_1152_0 inb_S1x2048x128_S1x128x128_0_1152_0 inb_S1x16x2048_S1x16x128_0_0_1152) _ _ _ _ _ _ _ _ dsk _ _
    (fun l j => load_gate arg3 harg3 x1 9 1152 (by norm_num) (by norm_num) _ l j)
    (fun j => (dsV_apply arg8 harg8 x6 j).trans (hd' j)) (fun j => nwV_apply arg9 harg9 x7 j)
    (fun n q => state9_0 c arg2 harg2 arg4 harg4 arg5 harg5 arg6 harg6 arg7 harg7 arg11 x0 B n q) (fun n q => state9_1 c arg2 harg2 arg4 harg4 arg5 harg5 arg6 harg6 arg7 harg7 arg11 x0 B n q) (fun n q => state9_2 c arg2 harg2 arg4 harg4 arg5 harg5 arg6 harg6 arg7 harg7 arg11 x0 B n q) (fun n q => state9_3 c arg2 harg2 arg4 harg4 arg5 harg5 arg6 harg6 arg7 harg7 arg11 x0 B n q) l j
theorem piece10 (B : Blk x2 x3 x4 x5 dtb al) (dsk : Fin 8 → EReal) (hd' : ∀ j : Fin 512, x6 (ix2 0 j) = dsk (hd j)) (x : S1x128x512.Idx) :
    (kernelRun0_A.sl.v4343 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 1280, 0] S1x128x512.size inb_S1x2048x512_S1x128x512_0_1280_0).emb x) := by
  obtain ⟨l, j, rfl⟩ : ∃ l j, x = ix3 0 l j := ⟨x 1, x 2, idx3 x⟩
  refine (congrFun (out10 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 10 1280 (by norm_num) _ l j).symm
  exact chunkOut_apply (rows_at arg2 harg2 arg4 harg4 arg5 harg5 arg6 harg6 arg7 harg7 x0 B 10 1280 (by norm_num) (by norm_num) inb_S1x2048x1024_S1x128x1024_0_1280_0 inb_S1x2048x128_S1x128x128_0_1280_0 inb_S1x16x2048_S1x16x128_0_0_1280) _ _ _ _ _ _ _ _ dsk _ _
    (fun l j => load_gate arg3 harg3 x1 10 1280 (by norm_num) (by norm_num) _ l j)
    (fun j => (dsV_apply arg8 harg8 x6 j).trans (hd' j)) (fun j => nwV_apply arg9 harg9 x7 j)
    (fun n q => state10_0 c arg2 harg2 arg4 harg4 arg5 harg5 arg6 harg6 arg7 harg7 arg11 x0 B n q) (fun n q => state10_1 c arg2 harg2 arg4 harg4 arg5 harg5 arg6 harg6 arg7 harg7 arg11 x0 B n q) (fun n q => state10_2 c arg2 harg2 arg4 harg4 arg5 harg5 arg6 harg6 arg7 harg7 arg11 x0 B n q) (fun n q => state10_3 c arg2 harg2 arg4 harg4 arg5 harg5 arg6 harg6 arg7 harg7 arg11 x0 B n q) l j
theorem piece11 (B : Blk x2 x3 x4 x5 dtb al) (dsk : Fin 8 → EReal) (hd' : ∀ j : Fin 512, x6 (ix2 0 j) = dsk (hd j)) (x : S1x128x512.Idx) :
    (kernelRun0_A.sl.v4705 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 1408, 0] S1x128x512.size inb_S1x2048x512_S1x128x512_0_1408_0).emb x) := by
  obtain ⟨l, j, rfl⟩ : ∃ l j, x = ix3 0 l j := ⟨x 1, x 2, idx3 x⟩
  refine (congrFun (out11 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 11 1408 (by norm_num) _ l j).symm
  exact chunkOut_apply (rows_at arg2 harg2 arg4 harg4 arg5 harg5 arg6 harg6 arg7 harg7 x0 B 11 1408 (by norm_num) (by norm_num) inb_S1x2048x1024_S1x128x1024_0_1408_0 inb_S1x2048x128_S1x128x128_0_1408_0 inb_S1x16x2048_S1x16x128_0_0_1408) _ _ _ _ _ _ _ _ dsk _ _
    (fun l j => load_gate arg3 harg3 x1 11 1408 (by norm_num) (by norm_num) _ l j)
    (fun j => (dsV_apply arg8 harg8 x6 j).trans (hd' j)) (fun j => nwV_apply arg9 harg9 x7 j)
    (fun n q => state11_0 c arg2 harg2 arg4 harg4 arg5 harg5 arg6 harg6 arg7 harg7 arg11 x0 B n q) (fun n q => state11_1 c arg2 harg2 arg4 harg4 arg5 harg5 arg6 harg6 arg7 harg7 arg11 x0 B n q) (fun n q => state11_2 c arg2 harg2 arg4 harg4 arg5 harg5 arg6 harg6 arg7 harg7 arg11 x0 B n q) (fun n q => state11_3 c arg2 harg2 arg4 harg4 arg5 harg5 arg6 harg6 arg7 harg7 arg11 x0 B n q) l j
theorem piece12 (B : Blk x2 x3 x4 x5 dtb al) (dsk : Fin 8 → EReal) (hd' : ∀ j : Fin 512, x6 (ix2 0 j) = dsk (hd j)) (x : S1x128x512.Idx) :
    (kernelRun0_A.sl.v5067 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 1536, 0] S1x128x512.size inb_S1x2048x512_S1x128x512_0_1536_0).emb x) := by
  obtain ⟨l, j, rfl⟩ : ∃ l j, x = ix3 0 l j := ⟨x 1, x 2, idx3 x⟩
  refine (congrFun (out12 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 12 1536 (by norm_num) _ l j).symm
  exact chunkOut_apply (rows_at arg2 harg2 arg4 harg4 arg5 harg5 arg6 harg6 arg7 harg7 x0 B 12 1536 (by norm_num) (by norm_num) inb_S1x2048x1024_S1x128x1024_0_1536_0 inb_S1x2048x128_S1x128x128_0_1536_0 inb_S1x16x2048_S1x16x128_0_0_1536) _ _ _ _ _ _ _ _ dsk _ _
    (fun l j => load_gate arg3 harg3 x1 12 1536 (by norm_num) (by norm_num) _ l j)
    (fun j => (dsV_apply arg8 harg8 x6 j).trans (hd' j)) (fun j => nwV_apply arg9 harg9 x7 j)
    (fun n q => state12_0 c arg2 harg2 arg4 harg4 arg5 harg5 arg6 harg6 arg7 harg7 arg11 x0 B n q) (fun n q => state12_1 c arg2 harg2 arg4 harg4 arg5 harg5 arg6 harg6 arg7 harg7 arg11 x0 B n q) (fun n q => state12_2 c arg2 harg2 arg4 harg4 arg5 harg5 arg6 harg6 arg7 harg7 arg11 x0 B n q) (fun n q => state12_3 c arg2 harg2 arg4 harg4 arg5 harg5 arg6 harg6 arg7 harg7 arg11 x0 B n q) l j
theorem piece13 (B : Blk x2 x3 x4 x5 dtb al) (dsk : Fin 8 → EReal) (hd' : ∀ j : Fin 512, x6 (ix2 0 j) = dsk (hd j)) (x : S1x128x512.Idx) :
    (kernelRun0_A.sl.v5429 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 1664, 0] S1x128x512.size inb_S1x2048x512_S1x128x512_0_1664_0).emb x) := by
  obtain ⟨l, j, rfl⟩ : ∃ l j, x = ix3 0 l j := ⟨x 1, x 2, idx3 x⟩
  refine (congrFun (out13 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 13 1664 (by norm_num) _ l j).symm
  exact chunkOut_apply (rows_at arg2 harg2 arg4 harg4 arg5 harg5 arg6 harg6 arg7 harg7 x0 B 13 1664 (by norm_num) (by norm_num) inb_S1x2048x1024_S1x128x1024_0_1664_0 inb_S1x2048x128_S1x128x128_0_1664_0 inb_S1x16x2048_S1x16x128_0_0_1664) _ _ _ _ _ _ _ _ dsk _ _
    (fun l j => load_gate arg3 harg3 x1 13 1664 (by norm_num) (by norm_num) _ l j)
    (fun j => (dsV_apply arg8 harg8 x6 j).trans (hd' j)) (fun j => nwV_apply arg9 harg9 x7 j)
    (fun n q => state13_0 c arg2 harg2 arg4 harg4 arg5 harg5 arg6 harg6 arg7 harg7 arg11 x0 B n q) (fun n q => state13_1 c arg2 harg2 arg4 harg4 arg5 harg5 arg6 harg6 arg7 harg7 arg11 x0 B n q) (fun n q => state13_2 c arg2 harg2 arg4 harg4 arg5 harg5 arg6 harg6 arg7 harg7 arg11 x0 B n q) (fun n q => state13_3 c arg2 harg2 arg4 harg4 arg5 harg5 arg6 harg6 arg7 harg7 arg11 x0 B n q) l j
theorem piece14 (B : Blk x2 x3 x4 x5 dtb al) (dsk : Fin 8 → EReal) (hd' : ∀ j : Fin 512, x6 (ix2 0 j) = dsk (hd j)) (x : S1x128x512.Idx) :
    (kernelRun0_A.sl.v5791 (F := Ideal) c arg2 harg2 arg3 harg3 arg4 harg4 arg5 harg5 arg6 harg6 arg7 harg7 arg8 harg8 arg9 harg9 arg11 x0 x1 x2 x3 x4 x5 x6 x7) x
      = outBlk x0 x1 dtb al dsk (fun j => x7 (ix2 0 j)) ((Rect.unit (s := S1x2048x512) ![0, 1792, 0] S1x128x512.size inb_S1x2048x512_S1x128x512_0_1792_0).emb x) := by
  obtain ⟨l, j, rfl⟩ : ∃ l j, x = ix3 0 l j := ⟨x 1, x 2, idx3 x⟩
  refine (congrFun (out14 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 14 1792 (by norm_num) _ l j).symm
  exact chunkOut_apply (rows_at arg2 harg2 arg4 harg4 arg5 harg5 arg6 harg6 arg7 harg7 x0 B 14 1792 (by norm_num) (by norm_num) inb_S1x2048x1024_S1x128x1024_0_1792_0 inb_S1x2048x128_S1x128x128_0_1792_0 inb_S1x16x2048_S1x16x128_0_0_1792) _ _ _ _ _ _ _ _ dsk _ _
    (fun l j => load_gate arg3 harg3 x1 14 1792 (by norm_num) (by norm_num) _ l j)
    (fun j => (dsV_apply arg8 harg8 x6 j).trans (hd' j)) (fun j => nwV_apply arg9 harg9 x7 j)
    (fun n q => state14_0 c arg2 harg2 arg4 harg4 arg5 harg5 arg6 harg6 arg7 harg7 arg11 x0 B n q) (fun n q => state14_1 c arg2 harg2 arg4 harg4 arg5 harg5 arg6 harg6 arg7 harg7 arg11 x0 B n q) (fun n q => state14_2 c arg2 harg2 arg4 harg4 arg5 harg5 arg6 harg6 arg7 harg7 arg11 x0 B n q) (fun n q => state14_3 c arg2 harg2 arg4 harg4 arg5 harg5 arg6 harg6 arg7 harg7 arg11 x0 B n q) l j
theorem piece15 (B : Blk x2 x3 x4 x5 dtb al) (dsk : Fin 8 → EReal) (hd' : ∀ j : Fin 512, x6 (ix2 0 j) = dsk (hd j)) (x : S1x128x512.Idx) :
    k0_pay1 (kernelRun0_A.sl.v5843 (F := Ideal) c arg2 harg2 arg3 harg3 arg4 harg4 arg5 harg5 arg6 harg6 arg7 harg7 arg8 harg8 arg11 x0 x1 x2 x3 x4 x5 x6) (kernelRun0_A.sl.v5844 (F := Ideal) c arg2 harg2 arg3 harg3 arg4 harg4 arg5 harg5 arg6 harg6 arg7 harg7 arg8 harg8 arg11 x0 x1 x2 x3 x4 x5 x6) (kernelRun0_A.sl.r_530 (F := Ideal) c arg2 harg2 arg3 harg3 arg4 harg4 arg5 harg5 arg6 harg6 arg7 harg7 arg8 harg8 arg11 x0 x1 x2 x3 x4 x5 x6)
      (View.readAt (Elt Ideal) arg9.view (Rect.unit (s := S1x512) ![0, 0] S1x512.size inb_S1x512_S1x512_0_0).toLoadRect (harg9.unread x7)) x
      = outBlk x0 x1 dtb al dsk (fun j => x7 (ix2 0 j)) ((Rect.unit (s := S1x2048x512) ![0, 1920, 0] S1x128x512.size inb_S1x2048x512_S1x128x512_0_1920_0).emb x) := by
  obtain ⟨l, j, rfl⟩ : ∃ l j, x = ix3 0 l j := ⟨x 1, x 2, idx3 x⟩
  refine (congrFun (out15 c arg2 harg2 arg3 harg3 arg4 harg4 arg5 harg5 arg6 harg6 arg7 harg7 arg8 harg8 arg9 harg9 arg11 x0 x1 x2 x3 x4 x5 x6 x7) _).trans ?_
  refine Eq.trans ?_ (outBlk_emb x0 x1 dtb al dsk _ 15 1920 (by norm_num) _ l j).symm
  exact chunkOut_apply (rows_at arg2 harg2 arg4 harg4 arg5 harg5 arg6 harg6 arg7 harg7 x0 B 15 1920 (by norm_num) (by norm_num) inb_S1x2048x1024_S1x128x1024_0_1920_0 inb_S1x2048x128_S1x128x128_0_1920_0 inb_S1x16x2048_S1x16x128_0_0_1920) _ _ _ _ _ _ _ _ dsk _ _
    (fun l j => load_gate arg3 harg3 x1 15 1920 (by norm_num) (by norm_num) _ l j)
    (fun j => (dsV_apply arg8 harg8 x6 j).trans (hd' j)) (fun j => nwV_apply arg9 harg9 x7 j)
    (fun n q => state15_0 c arg2 harg2 arg4 harg4 arg5 harg5 arg6 harg6 arg7 harg7 arg11 x0 B n q) (fun n q => state15_1 c arg2 harg2 arg4 harg4 arg5 harg5 arg6 harg6 arg7 harg7 arg11 x0 B n q) (fun n q => state15_2 c arg2 harg2 arg4 harg4 arg5 harg5 arg6 harg6 arg7 harg7 arg11 x0 B n q) (fun n q => state15_3 c arg2 harg2 arg4 harg4 arg5 harg5 arg6 harg6 arg7 harg7 arg11 x0 B n q) l j

end Cert.Proof.Ssd

end
-- ==== Proof.SsdOutEq.lean ====
/-
  The block of the result one point of the kernel leaves.
-/
module

public import proofs.«01_k».proof.Proof.SsdBlock
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

set_option maxHeartbeats 4000000
variable (c : Dev nD)
  (arg2 : Memref sig .tc .vmem S1x2048x1024 .f32) (harg2 : arg2.IsWhole)
  (arg3 : Memref sig .tc .vmem S1x2048x512 .f32) (harg3 : arg3.IsWhole)
  (arg4 : Memref sig .tc .vmem S1x2048x128 .f32) (harg4 : arg4.IsWhole)
  (arg5 : Memref sig .tc .vmem S1x16x2048 .f32) (harg5 : arg5.IsWhole)
  (arg6 : Memref sig .tc .vmem S1x128 .f32) (harg6 : arg6.IsWhole)
  (arg7 : Memref sig .tc .vmem S16x1 .f32) (harg7 : arg7.IsWhole)
  (arg8 : Memref sig .tc .vmem S1x512 .f32) (harg8 : arg8.IsWhole)
  (arg9 : Memref sig .tc .vmem S1x512 .f32) (harg9 : arg9.IsWhole)
  (arg11 : Memref sig .tc .vmem S4x128x128 .f32)
  (x0 : Vec Ideal S1x2048x1024 .f32) (x1 : Vec Ideal S1x2048x512 .f32) {x2 : Vec Ideal S1x2048x128 .f32} {x3 : Vec Ideal S1x16x2048 .f32} {x4 : Vec Ideal S1x128 .f32} {x5 : Vec Ideal S16x1 .f32} (x6 : Vec Ideal S1x512 .f32) (x7 : Vec Ideal S1x512 .f32)
  {dtb : Fin 8 → Fin 2048 → EReal} {al : Fin 8 → EReal}

/-- The block of the result after the body, as one function of the argument blocks. -/
theorem out_eq (i : grid0.Coords) (arg10 : Memref sig .tc .vmem S1x2048x512 .bf16) (harg10 : arg10.IsWhole) (harg11 : arg11.IsWhole)
    (hc0 : cond0_0 i) (B : Blk x2 x3 x4 x5 dtb al) (dsk : Fin 8 → EReal) (hd' : ∀ j : Fin 512, x6 (ix2 0 j) = dsk (hd j)) :
    out0_A_8 c i arg2 harg2 arg3 harg3 arg4 harg4 arg5 harg5 arg6 harg6 arg7 harg7 arg8 harg8 arg9 harg9 arg10 harg10 arg11 harg11 hc0 x0 x1 x2 x3 x4 x5 x6 x7 = outBlk x0 x1 dtb al dsk (fun j => x7 (ix2 0 j)) := by
  funext y
  have hc := cover0_A_8 c i arg2 harg2 arg3 harg3 arg4 harg4 arg5 harg5 arg6 harg6 arg7 harg7 arg8 harg8 arg9 harg9 arg10 harg10 arg11 harg11 hc0 x0 x1 x2 x3 x4 x5 x6 x7 y
  unfold out0_A_8
  rw [View.read_writes_junk_eq_canon]
  revert hc
  unfold kernelRun0_A
  dsimp only
  intro hc
  refine View.canon_apply_of_pieces (outBlk x0 x1 dtb al dsk (fun j => x7 (ix2 0 j))) _ ?_ y hc
  refine List.forall_mem_cons.2 ⟨fun x => piece15 c arg2 harg2 arg3 harg3 arg4 harg4 arg5 harg5 arg6 harg6 arg7 harg7 arg8 harg8 arg9 harg9 arg11 x0 x1 x6 x7 B dsk hd' x, ?_⟩
  refine List.forall_mem_cons.2 ⟨fun x => piece14 c arg2 harg2 arg3 harg3 arg4 harg4 arg5 harg5 arg6 harg6 arg7 harg7 arg8 harg8 arg9 harg9 arg11 x0 x1 x6 x7 B dsk hd' x, ?_⟩
  refine List.forall_mem_cons.2 ⟨fun x => piece13 c arg2 harg2 arg3 harg3 arg4 harg4 arg5 harg5 arg6 harg6 arg7 harg7 arg8 harg8 arg9 harg9 arg11 x0 x1 x6 x7 B dsk hd' x, ?_⟩
  refine List.forall_mem_cons.2 ⟨fun x => piece12 c arg2 harg2 arg3 harg3 arg4 harg4 arg5 harg5 arg6 harg6 arg7 harg7 arg8 harg8 arg9 harg9 arg11 x0 x1 x6 x7 B dsk hd' x, ?_⟩
  refine List.forall_mem_cons.2 ⟨fun x => piece11 c arg2 harg2 arg3 harg3 arg4 harg4 arg5 harg5 arg6 harg6 arg7 harg7 arg8 harg8 arg9 harg9 arg11 x0 x1 x6 x7 B dsk hd' x, ?_⟩
  refine List.forall_mem_cons.2 ⟨fun x => piece10 c arg2 harg2 arg3 harg3 arg4 harg4 arg5 harg5 arg6 harg6 arg7 harg7 arg8 harg8 arg9 harg9 arg11 x0 x1 x6 x7 B dsk hd' x, ?_⟩
  refine List.forall_mem_cons.2 ⟨fun x => piece9 c arg2 harg2 arg3 harg3 arg4 harg4 arg5 harg5 arg6 harg6 arg7 harg7 arg8 harg8 arg9 harg9 arg11 x0 x1 x6 x7 B dsk hd' x, ?_⟩
  refine List.forall_mem_cons.2 ⟨fun x => piece8 c arg2 harg2 arg3 harg3 arg4 harg4 arg5 harg5 arg6 harg6 arg7 harg7 arg8 harg8 arg9 harg9 arg11 x0 x1 x6 x7 B dsk hd' x, ?_⟩
  refine List.forall_mem_cons.2 ⟨fun x => piece7 c arg2 harg2 arg3 harg3 arg4 harg4 arg5 harg5 arg6 harg6 arg7 harg7 arg8 harg8 arg9 harg9 arg11 x0 x1 x6 x7 B dsk hd' x, ?_⟩
  refine List.forall_mem_cons.2 ⟨fun x => piece6 c arg2 harg2 arg3 harg3 arg4 harg4 arg5 harg5 arg6 harg6 arg7 harg7 arg8 harg8 arg9 harg9 arg11 x0 x1 x6 x7 B dsk hd' x, ?_⟩
  refine List.forall_mem_cons.2 ⟨fun x => piece5 c arg2 harg2 arg3 harg3 arg4 harg4 arg5 harg5 arg6 harg6 arg7 harg7 arg8 harg8 arg9 harg9 arg11 x0 x1 x6 x7 B dsk hd' x, ?_⟩
  refine List.forall_mem_cons.2 ⟨fun x => piece4 c arg2 harg2 arg3 harg3 arg4 harg4 arg5 harg5 arg6 harg6 arg7 harg7 arg8 harg8 arg9 harg9 arg11 x0 x1 x6 x7 B dsk hd' x, ?_⟩
  refine List.forall_mem_cons.2 ⟨fun x => piece3 c arg2 harg2 arg3 harg3 arg4 harg4 arg5 harg5 arg6 harg6 arg7 harg7 arg8 harg8 arg9 harg9 arg11 x0 x1 x6 x7 B dsk hd' x, ?_⟩
  refine List.forall_mem_cons.2 ⟨fun x => piece2 c arg2 harg2 arg3 harg3 arg4 harg4 arg5 harg5 arg6 harg6 arg7 harg7 arg8 harg8 arg9 harg9 arg11 x0 x1 x6 x7 B dsk hd' x, ?_⟩
  refine List.forall_mem_cons.2 ⟨fun x => piece1 c arg2 harg2 arg3 harg3 arg4 harg4 arg5 harg5 arg6 harg6 arg7 harg7 arg8 harg8 arg9 harg9 arg11 x0 x1 x6 x7 B dsk hd' x, ?_⟩
  refine List.forall_mem_cons.2 ⟨fun x => piece0 c arg2 harg2 arg3 harg3 arg4 harg4 arg5 harg5 arg6 harg6 arg7 harg7 arg8 harg8 arg9 harg9 arg11 x0 x1 x6 x7 B dsk hd' x, ?_⟩
  exact fun p hp => absurd hp List.not_mem_nil

end Cert.Proof.Ssd

end
-- ==== Proof.SsdHost.lean ====
/-
  The blocks the recurrence kernel is given at a grid point, in terms of the argument arrays.
-/
module

public import proofs.«01_k».proof.Proof.SsdOutEq
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

variable (m : (ℓ : Loc nD τ sig) → Buf (Elt Ideal) ℓ) (ρ : Dev nD → PrngReg)

/-- The whole result array as one function of the argument arrays: sequence by sequence the block of that sequence. -/
def ssdOut (act : Vec Ideal S8x2048x1024 .f32) (gate : Vec Ideal S8x2048x512 .f32) (dt : Vec Ideal S8x2048x8 .f32)
    (al dsk : Vec Ideal S8 .f32) (nw : Vec Ideal S512 .f32) : Vec Ideal S8x2048x512 .bf16 := fun i =>
  outBlk (fun j => act (ix3 (i 0) (j 1) (j 2))) (fun j => gate (ix3 (i 0) (j 1) (j 2))) (fun h t => dt (ix3 (i 0) t h))
    (fun h => al (ix1 h)) (fun h => dsk (ix1 h)) (fun j => nw (ix1 j)) (ix3 0 (i 1) (i 2))

theorem fz (x : Fin 1) : x = 0 := Subsingleton.elim _ _

/-- Where each window's block begins at point `t`. -/
theorem widx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem widx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem widx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem widx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem widx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem widx4 : ∀ t : Fin cfg0.N, win0_4.index t (0 : Fin 2) = 0 ∧ win0_4.index t (1 : Fin 2) = 0 :=
  (by decide +kernel : ∀ t : Fin grid0.N, _)
theorem widx5 : ∀ t : Fin cfg0.N, win0_5.index t (0 : Fin 2) = 0 ∧ win0_5.index t (1 : Fin 2) = 0 :=
  (by decide +kernel : ∀ t : Fin grid0.N, _)
theorem widx6 : ∀ t : Fin cfg0.N, win0_6.index t (0 : Fin 2) = 0 ∧ win0_6.index t (1 : Fin 2) = 0 :=
  (by decide +kernel : ∀ t : Fin grid0.N, _)
theorem widx7 : ∀ t : Fin cfg0.N, win0_7.index t (0 : Fin 2) = 0 ∧ win0_7.index t (1 : Fin 2) = 0 :=
  (by decide +kernel : ∀ t : Fin grid0.N, _)

/-- The sequence of point `t`. -/
def sq (t : Fin cfg0.N) : Fin 8 := ⟨t.val, by have := t.isLt; have h : cfg0.N = 8 := by decide
                                              omega⟩

/-- The blocks of the windows at point `t`, as parts of their arrays. -/
theorem iblk0 (c : Dev nD) (t : Fin cfg0.N) (p : Fin 2048) (q : Fin 1024) :
    iblk m c 0 t (ix3 0 p q) = V m c main_arg0 (ix3 (sq t) p q) := by
  obtain ⟨e0, e1, e2⟩ := widx0 t
  show V m c main_arg0 (((cfg0.win 0).blk t).view.emb (ix3 0 p q)) = _
  congr 1; funext a; apply Fin.ext
  match a with
  | ⟨0, _⟩ => show win0_0.index t (0 : Fin 3) * 1 + 1 * 0 = t.val; omega
  | ⟨1, _⟩ => show win0_0.index t (1 : Fin 3) * 2048 + 1 * p.val = p.val; omega
  | ⟨2, _⟩ => show win0_0.index t (2 : Fin 3) * 1024 + 1 * q.val = q.val; omega
theorem iblk1 (c : Dev nD) (t : Fin cfg0.N) (p : Fin 2048) (q : Fin 512) :
    iblk m c 1 t (ix3 0 p q) = V m c main_arg1 (ix3 (sq t) p q) := by
  obtain ⟨e0, e1, e2⟩ := widx1 t
  show V m c main_arg1 (((cfg0.win 1).blk t).view.emb (ix3 0 p q)) = _
  congr 1; funext a; apply Fin.ext
  match a with
  | ⟨0, _⟩ => show win0_1.index t (0 : Fin 3) * 1 + 1 * 0 = t.val; omega
  | ⟨1, _⟩ => show win0_1.index t (1 : Fin 3) * 2048 + 1 * p.val = p.val; omega
  | ⟨2, _⟩ => show win0_1.index t (2 : Fin 3) * 512 + 1 * q.val = q.val; omega
theorem iblk2 (c : Dev nD) (t : Fin cfg0.N) (p : Fin 2048) (q : Fin 128) :
    iblk m c 2 t (ix3 0 p q) = V m c main_v0 (ix3 (sq t) p q) := by
  obtain ⟨e0, e1, e2⟩ := widx2 t
  show V m c main_v0 (((cfg0.win 2).blk t).view.emb (ix3 0 p q)) = _
  congr 1; funext a; apply Fin.ext
  match a with
  | ⟨0, _⟩ => show win0_2.index t (0 : Fin 3) * 1 + 1 * 0 = t.val; omega
  | ⟨1, _⟩ => show win0_2.index t (1 : Fin 3) * 2048 + 1 * p.val = p.val; omega
  | ⟨2, _⟩ => show win0_2.index t (2 : Fin 3) * 128 + 1 * q.val = q.val; omega
theorem iblk3 (c : Dev nD) (t : Fin cfg0.N) (p : Fin 16) (q : Fin 2048) :
    iblk m c 3 t (ix3 0 p q) = V m c main_v2 (ix3 (sq t) p q) := by
  obtain ⟨e0, e1, e2⟩ := widx3 t
  show V m c main_v2 (((cfg0.win 3).blk t).view.emb (ix3 0 p q)) = _
  congr 1; funext a; apply Fin.ext
  match a with
  | ⟨0, _⟩ => show win0_3.index t (0 : Fin 3) * 1 + 1 * 0 = t.val; omega
  | ⟨1, _⟩ => show win0_3.index t (1 : Fin 3) * 16 + 1 * p.val = p.val; omega
  | ⟨2, _⟩ => show win0_3.index t (2 : Fin 3) * 2048 + 1 * q.val = q.val; omega
theorem iblk4 (c : Dev nD) (t : Fin cfg0.N) (p : Fin 1) (q : Fin 128) :
    iblk m c 4 t (ix2 p q) = V m c main_v4 (ix2 p q) := by
  obtain ⟨e0, e1⟩ := widx4 t
  show V m c main_v4 (((cfg0.win 4).blk t).view.emb (ix2 p q)) = _
  congr 1; funext a; apply Fin.ext
  match a with
  | ⟨0, _⟩ => show win0_4.index t (0 : Fin 2) * 1 + 1 * p.val = p.val; omega
  | ⟨1, _⟩ => show win0_4.index t (1 : Fin 2) * 128 + 1 * q.val = q.val; omega
theorem iblk5 (c : Dev nD) (t : Fin cfg0.N) (p : Fin 16) (q : Fin 1) :
    iblk m c 5 t (ix2 p q) = V m c main_v6 (ix2 p q) := by
  obtain ⟨e0, e1⟩ := widx5 t
  show V m c main_v6 (((cfg0.win 5).blk t).view.emb (ix2 p q)) = _
  congr 1; funext a; apply Fin.ext
  match a with
  | ⟨0, _⟩ => show win0_5.index t (0 : Fin 2) * 16 + 1 * p.val = p.val; omega
  | ⟨1, _⟩ => show win0_5.index t (1 : Fin 2) * 1 + 1 * q.val = q.val; omega
theorem iblk6 (c : Dev nD) (t : Fin cfg0.N) (p : Fin 1) (q : Fin 512) :
    iblk m c 6 t (ix2 p q) = V m c main_v9 (ix2 p q) := by
  obtain ⟨e0, e1⟩ := widx6 t
  show V m c main_v9 (((cfg0.win 6).blk t).view.emb (ix2 p q)) = _
  congr 1; funext a; apply Fin.ext
  match a with
  | ⟨0, _⟩ => show win0_6.index t (0 : Fin 2) * 1 + 1 * p.val = p.val; omega
  | ⟨1, _⟩ => show win0_6.index t (1 : Fin 2) * 512 + 1 * q.val = q.val; omega
theorem iblk7 (c : Dev nD) (t : Fin cfg0.N) (p : Fin 1) (q : Fin 512) :
    iblk m c 7 t (ix2 p q) = V m c main_v10 (ix2 p q) := by
  obtain ⟨e0, e1⟩ := widx7 t
  show V m c main_v10 (((cfg0.win 7).blk t).view.emb (ix2 p q)) = _
  congr 1; funext a; apply Fin.ext
  match a with
  | ⟨0, _⟩ => show win0_7.index t (0 : Fin 2) * 1 + 1 * p.val = p.val; omega
  | ⟨1, _⟩ => show win0_7.index t (1 : Fin 2) * 512 + 1 * q.val = q.val; omega

/-- The arrays the host prepares, as the region finds them. -/
theorem V_main_v0 (c : Dev nD) : (V m c main_v0 : Vec Ideal S8x2048x128 .f32)
    = pad S8x2048x128 ![0, 0, 0] ![0, 0, 120] ![0, 0, 0] (m ((c : Thread nD τ).loc main_arg2)) (sitofp (F := Ideal) .f32 (constantI S_ 32 0#32)) pads_S8x2048x8_S8x2048x128_000_000_01200 h_S_ := by
  show StableHlo.after (List.flatten [hostOps0, hostOps0_1, hostOps0_2, hostOps0_3, hostOps0_4, hostOps0_5, hostOps0_6, hostOps0_7, hostOps0_8]) (fun b => m (c, b)) main_v0 = _
  unfold hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_main_v2 (c : Dev nD) : (V m c main_v2 : Vec Ideal S8x16x2048 .f32)
    = pad S8x16x2048 ![0, 0, 0] ![0, 8, 0] ![0, 0, 0] (transpose S8x8x2048 [0, 2, 1] (m ((c : Thread nD τ).loc main_arg2)) transposes_S8x2048x8_S8x8x2048_0_2_1) (sitofp (F := Ideal) .f32 (constantI S_ 32 0#32)) pads_S8x8x2048_S8x16x2048_000_080_000 h_S_ := by
  show StableHlo.after (List.flatten [hostOps0, hostOps0_1, hostOps0_2, hostOps0_3, hostOps0_4, hostOps0_5, hostOps0_6, hostOps0_7, hostOps0_8]) (fun b => m (c, b)) main_v2 = _
  unfold hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_main_v4 (c : Dev nD) : (V m c main_v4 : Vec Ideal S1x128 .f32)
    = pad S1x128 ![0, 0] ![0, 120] ![0, 0] (broadcastInDim S1x8 ![1] bcast_S8_S1x8_1 (m ((c : Thread nD τ).loc main_arg3))) (sitofp (F := Ideal) .f32 (constantI S_ 32 0#32)) pads_S1x8_S1x128_000_01200 h_S_ := by
  show StableHlo.after (List.flatten [hostOps0, hostOps0_1, hostOps0_2, hostOps0_3, hostOps0_4, hostOps0_5, hostOps0_6, hostOps0_7, hostOps0_8]) (fun b => m (c, b)) main_v4 = _
  unfold hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_main_v6 (c : Dev nD) : (V m c main_v6 : Vec Ideal S16x1 .f32)
    = pad S16x1 ![0, 0] ![8, 0] ![0, 0] (broadcastInDim S8x1 ![0] bcast_S8_S8x1_0 (m ((c : Thread nD τ).loc main_arg3))) (sitofp (F := Ideal) .f32 (constantI S_ 32 0#32)) pads_S8x1_S16x1_080_000 h_S_ := by
  show StableHlo.after (List.flatten [hostOps0, hostOps0_1, hostOps0_2, hostOps0_3, hostOps0_4, hostOps0_5, hostOps0_6, hostOps0_7, hostOps0_8]) (fun b => m (c, b)) main_v6 = _
  unfold hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_main_v9 (c : Dev nD) : (V m c main_v9 : Vec Ideal S1x512 .f32)
    = broadcastInDim S1x512 ![1] bcast_S512_S1x512_1 (shapeCast S512 (broadcastInDim S8x64 ![0] bcast_S8_S8x64_0 (m ((c : Thread nD τ).loc main_arg4))) shapeCasts_S8x64_S512) := by
  show StableHlo.after (List.flatten [hostOps0, hostOps0_1, hostOps0_2, hostOps0_3, hostOps0_4, hostOps0_5, hostOps0_6, hostOps0_7, hostOps0_8]) (fun b => m (c, b)) main_v9 = _
  unfold hostOps0 hostOps0_1 hostOps0_2 hostOps0_3 hostOps0_4 hostOps0_5 hostOps0_6 hostOps0_7 hostOps0_8
  simp only [List.flatten_cons, List.flatten_nil, List.append_nil, List.cons_append, List.nil_append]
  after_results
  rfl
theorem V_main_v10 (c : Dev nD) : (V m c main_v10 : Vec Ideal S1x512 .f32)
    = broadcastInDim S1x512 ![1] bcast_S512_S1x512_1 (m ((c : Thread nD τ).loc main_arg5)) := by
  show StableHlo.after (List.flatten [hostOps0, hostOps0_1, hostOps0_2, hostOps0_3, hostOps0_4, hostOps0_5, hostOps0_6, hostOps0_7, hostOps0_8]) (fun b => m (c, b)) main_v10 = _
  unfold hostOps0 hostOps0_1 hostOps0_2 hostOps0_3 hostOps0_4 hostOps0_5 hostOps0_6 hostOps0_7 hostOps0_8
  simp only [List.flatten_cons, List.flatten_nil, List.append_nil, List.cons_append, List.nil_append]
  after_results

/-- A padded array read inside its operand, and in the padding. -/
theorem zero_const (j : S_.Idx) : (sitofp (F := Ideal) .f32 (constantI S_ 32 0#32)) j = 0 := by
  show (((0 : BitVec 32).toInt : ℝ) : EReal) = 0
  simp
theorem v0_in (x : Vec Ideal S8x2048x8 .f32) (b : Fin 8) (t : Fin 2048) (h : Fin 8) :
    (pad S8x2048x128 ![0, 0, 0] ![0, 0, 120] ![0, 0, 0] x (sitofp (F := Ideal) .f32 (constantI S_ 32 0#32)) pads_S8x2048x8_S8x2048x128_000_000_01200 h_S_ : Vec Ideal S8x2048x128 .f32)
      (ix3 b t ⟨h.val, by omega⟩) = x (ix3 b t h) := by
  pointwise
theorem v0_out (x : Vec Ideal S8x2048x8 .f32) (b : Fin 8) (t : Fin 2048) (h : Fin 128) (hh : 8 ≤ h.val) :
    (pad S8x2048x128 ![0, 0, 0] ![0, 0, 120] ![0, 0, 0] x (sitofp (F := Ideal) .f32 (constantI S_ 32 0#32)) pads_S8x2048x8_S8x2048x128_000_000_01200 h_S_ : Vec Ideal S8x2048x128 .f32)
      (ix3 b t h) = 0 := by
  pointwise
  rw [dif_neg (by omega)]
  exact zero_const (fun a => a.elim0)
theorem v2_in (x : Vec Ideal S8x2048x8 .f32) (b : Fin 8) (t : Fin 2048) (h : Fin 8) :
    (pad S8x16x2048 ![0, 0, 0] ![0, 8, 0] ![0, 0, 0] (transpose S8x8x2048 [0, 2, 1] x transposes_S8x2048x8_S8x8x2048_0_2_1) (sitofp (F := Ideal) .f32 (constantI S_ 32 0#32)) pads_S8x8x2048_S8x16x2048_000_080_000 h_S_ : Vec Ideal S8x16x2048 .f32)
      (ix3 b ⟨h.val, by omega⟩ t) = x (ix3 b t h) := by
  pointwise
theorem v4_in (x : Vec Ideal S8 .f32) (h : Fin 8) :
    (pad S1x128 ![0, 0] ![0, 120] ![0, 0] (broadcastInDim S1x8 ![1] bcast_S8_S1x8_1 x) (sitofp (F := Ideal) .f32 (constantI S_ 32 0#32)) pads_S1x8_S1x128_000_01200 h_S_ : Vec Ideal S1x128 .f32)
      (ix2 0 ⟨h.val, by omega⟩) = x (ix1 h) := by
  pointwise
theorem v6_in (x : Vec Ideal S8 .f32) (h : Fin 8) :
    (pad S16x1 ![0, 0] ![8, 0] ![0, 0] (broadcastInDim S8x1 ![0] bcast_S8_S8x1_0 x) (sitofp (F := Ideal) .f32 (constantI S_ 32 0#32)) pads_S8x1_S16x1_080_000 h_S_ : Vec Ideal S16x1 .f32)
      (ix2 ⟨h.val, by omega⟩ 0) = x (ix1 h) := by
  pointwise
theorem v9_in (x : Vec Ideal S8 .f32) (j : Fin 512) :
    (broadcastInDim S1x512 ![1] bcast_S512_S1x512_1 (shapeCast S512 (broadcastInDim S8x64 ![0] bcast_S8_S8x64_0 x : Vec Ideal S8x64 .f32) shapeCasts_S8x64_S512) : Vec Ideal S1x512 .f32)
      (ix2 0 j) = x (ix1 (hd j)) := by
  pointwise
  rfl
theorem v10_in (x : Vec Ideal S512 .f32) (j : Fin 512) :
    (broadcastInDim S1x512 ![1] bcast_S512_S1x512_1 x : Vec Ideal S1x512 .f32) (ix2 0 j) = x (ix1 j) := by
  pointwise

end Cert.Proof.Ssd

end
-- ==== Proof.SsdValue.lean ====
/-
  The result array of the recurrence kernel: the eight sequences the grid writes make up one array.
-/
module

public import proofs.«01_k».proof.Proof.SsdHost
public import Idealize.ShloMosaic.Lib.Pointwise

@[expose] public section

set_option maxRecDepth 16384

noncomputable section

namespace Cert.Proof.Ssd

open Idealize.ShloMosaic Idealize.ShloMosaic.TcCoe Idealize.SL.Sem
open Idealize.ShloMosaic.Pipeline (Dat)
open Cert.SsdIdeal Cert.SsdIdeal.Gen Cert.SsdIdeal.Value
open Idealize.ShloMosaic.Pointwise

variable (m : (ℓ : Loc nD τ sig) → Buf (Elt Ideal) ℓ) (ρ : Dev nD → PrngReg)

/-- The steps are nonnegative. -/
def DtNonneg (dt : Vec Ideal S8x2048x8 .f32) : Prop := ∀ i, 0 ≤ dt i

/-- A nonnegative step times a rate is not positive. -/
theorem neg_rate (x y : EReal) (hx : 0 ≤ x) : x * -Ideal.exp y ≤ 0 := by
  have hy : 0 ≤ Ideal.exp y := by
    induction y with
    | bot => exact le_of_eq rfl
    | coe r => exact EReal.coe_nonneg.mpr (Real.exp_pos r).le
    | top => exact le_top
  rw [mul_neg]
  exact (EReal.neg_le_neg_iff.mpr (mul_nonneg hx hy)).trans_eq neg_zero

/-- The blocks at point `t` are those of its sequence. -/
theorem blk_at (c : Dev nD) (t : Fin cfg0.N) (h : DtNonneg (m ((c : Thread nD τ).loc main_arg2))) :
    Blk (iblk m c 2 t) (iblk m c 3 t) (iblk m c 4 t) (iblk m c 5 t)
      (fun k p => (m ((c : Thread nD τ).loc main_arg2) : Vec Ideal S8x2048x8 .f32) (ix3 (sq t) p k))
      (fun k => (m ((c : Thread nD τ).loc main_arg3) : Vec Ideal S8 .f32) (ix1 k)) where
  col p k := (iblk2 m c t p _).trans ((congrFun (V_main_v0 m c) _).trans (v0_in _ _ p k))
  pad p k hk := (iblk2 m c t p k).trans ((congrFun (V_main_v0 m c) _).trans (v0_out _ _ p k hk))
  row k p := (iblk3 m c t _ p).trans ((congrFun (V_main_v2 m c) _).trans (v2_in _ _ p k))
  ar k := (iblk4 m c t 0 _).trans ((congrFun (V_main_v4 m c) _).trans (v4_in _ k))
  ac k := (iblk5 m c t _ 0).trans ((congrFun (V_main_v6 m c) _).trans (v6_in _ k))
  neg k p := neg_rate _ _ (h _)

/-- The whole result array of the run from memory `m` on device `c`. -/
def final (c : Dev nD) : Vec Ideal S8x2048x512 .bf16 :=
  ssdOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem i3 {n k : ℕ} (x : (⟨3, ![1, n, k]⟩ : Shape).Idx) : x = ix3 0 (x 1) (x 2) := funext fun a => by
  match a with
  | ⟨0, _⟩ => exact Fin.ext (by have := (x 0).isLt; change (x 0).val < 1 at this; show (x 0).val = 0; omega)
  | ⟨1, _⟩ => rfl
  | ⟨2, _⟩ => rfl

/-- What the body leaves at point `t` is its sequence's part of the whole array. -/
theorem out_at (c : Dev nD) (h : DtNonneg (m ((c : Thread nD τ).loc main_arg2))) (t : Fin cfg0.N) (p : Fin 2048) (q : Fin 512) :
    outsAt0 m c t (ix3 0 p q) = final m c (ix3 (sq t) p q) := by
  unfold outsAt0
  rw [out_eq (hc0 := hcond0_0 t) (B := blk_at m c t h) (dsk := fun k => (m ((c : Thread nD τ).loc main_arg4) : Vec Ideal S8 .f32) (ix1 k))
    (hd' := fun j => (iblk6 m c t 0 j).trans ((congrFun (V_main_v9 m c) _).trans (v9_in _ j)))]
  unfold final ssdOut
  have e0 : (iblk m c 0 t : Vec Ideal S1x2048x1024 .f32)
      = fun j => (m ((c : Thread nD τ).loc main_arg0) : Vec Ideal S8x2048x1024 .f32) (ix3 (sq t) (j 1) (j 2)) := funext fun j =>
    (congrArg (iblk m c 0 t) (i3 j)).trans ((iblk0 m c t _ _).trans (congrFun (V_main_arg0 m c) _))
  have e1 : (iblk m c 1 t : Vec Ideal S1x2048x512 .f32)
      = fun j => (m ((c : Thread nD τ).loc main_arg1) : Vec Ideal S8x2048x512 .f32) (ix3 (sq t) (j 1) (j 2)) := funext fun j =>
    (congrArg (iblk m c 1 t) (i3 j)).trans ((iblk1 m c t _ _).trans (congrFun (V_main_arg1 m c) _))
  have e7 : (fun j => (iblk m c 7 t : Vec Ideal S1x512 .f32) (ix2 0 j))
      = fun j : Fin 512 => (m ((c : Thread nD τ).loc main_arg5) : Vec Ideal S512 .f32) (ix1 j) := funext fun j =>
    (iblk7 m c t 0 j).trans ((congrFun (V_main_v10 m c) _).trans (v10_in _ j))
  rw [e0, e1, e7]
  rfl

/-- What point `t` writes back is its block of the whole array. -/
theorem flushed_eq (c : Dev nD) (h : DtNonneg (m ((c : Thread nD τ).loc main_arg2))) (t : Fin cfg0.N) :
    (dats m 0 c).flushed 8 t = ((cfg0.win 8).blk t).view.read (Elt Ideal) (final m c) := by
  rw [flushed8]
  obtain ⟨e0, e1, e2⟩ := widx8 t
  funext j
  show outsAt0 m c t j = final m c (((cfg0.win 8).blk t).view.emb j)
  refine ((congrArg (outsAt0 m c t) (i3 j)).trans (out_at m c h t (j 1) (j 2))).trans ?_
  congr 1; funext a; apply Fin.ext
  match a with
  | ⟨0, _⟩ =>
    have := (j 0).isLt
    change (j 0).val < 1 at this
    show t.val = win0_8.index t (0 : Fin 3) * 1 + 1 * (j 0).val
    omega
  | ⟨1, _⟩ => show (j 1).val = win0_8.index t (1 : Fin 3) * 2048 + 1 * (j 1).val; omega
  | ⟨2, _⟩ => show (j 2).val = win0_8.index t (2 : Fin 3) * 512 + 1 * (j 2).val; omega

/-- Every index of the result array lies in the block of its sequence's point. -/
theorem covered (i : S8x2048x512.Idx) :
    ∃ t : Fin cfg0.N, (cfg0.win 8).flush t = true ∧ i ∈ ((cfg0.win 8).blk t).view.set := by
  have h0 := (i 0).isLt
  have hN : cfg0.N = 8 := by decide
  have h0' : (i 0).val < 8 := h0
  obtain ⟨t, ht⟩ : ∃ t : Fin cfg0.N, t.val = (i 0).val := ⟨⟨(i 0).val, by omega⟩, rfl⟩
  refine ⟨t, flush0_8 _, ?_⟩
  have h := ((cfg0.win 8).blk t).view.emb_mem_set (ix3 0 (i 1) (i 2) : S1x2048x512.Idx)
  obtain ⟨e0, e1, e2⟩ := widx8 t
  have he : ((cfg0.win 8).blk t).view.emb (ix3 0 (i 1) (i 2) : S1x2048x512.Idx) = i := by
    funext a; apply Fin.ext
    match a with
    | ⟨0, _⟩ => show win0_8.index t (0 : Fin 3) * 1 + 1 * 0 = (i 0).val; omega
    | ⟨1, _⟩ => show win0_8.index t (1 : Fin 3) * 2048 + 1 * (i 1).val = (i 1).val; omega
    | ⟨2, _⟩ => show win0_8.index t (2 : Fin 3) * 512 + 1 * (i 2).val = (i 2).val; omega
  rwa [he] at h

/-- The result array after the run. -/
theorem arr_eq (c : Dev nD) (h : DtNonneg (m ((c : Thread nD τ).loc main_arg2))) : (dats m 0 c).arrAt 8 cfg0.N = final m c :=
  (dats m 0 c).arrAt_eq_of_cover 8 (final m c) (fun t _ => flushed_eq m c h t) covered

end Cert.Proof.Ssd

end
-- ==== Proof.SsdRefA.lean ====
/-
  x
-/
module

public import proofs.«01_k».proof.Proof.SsdSpec
public import proofs.«01_k».proof.Proof.Gen.SsdReferenceIdeal.Read
public import Idealize.ShloMosaic.Lib.Pointwise

@[expose] public section

set_option maxRecDepth 16384

noncomputable section

namespace Cert.Proof.Ssd.Ref

open Idealize.ShloMosaic Idealize.ShloMosaic.TcCoe Idealize.SL.Sem
open Cert.SsdReferenceIdeal Cert.SsdReferenceIdeal.Read
open Idealize.ShloMosaic.Pointwise

set_option maxHeartbeats 4000000
variable (x0 : Vec Ideal S8x2048x1024 .f32) (x1 : Vec Ideal S8x2048x512 .f32) (x2 : Vec Ideal S8x2048x8 .f32)
  (x3 x4 : Vec Ideal S8 .f32) (x5 : Vec Ideal S512 .f32)

/-- Token `l` of chunk `k` in its sequence; the columns of a head's inputs, and of its group's B and C. -/
def tk (k : Fin 16) (l : Fin 128) : Fin 2048 := ⟨k.val * 128 + l.val, by omega⟩
def xcR (h : Fin 8) (p : Fin 64) : Fin 1024 := ⟨h.val * 64 + p.val, by omega⟩
def bcR (h : Fin 8) (n : Fin 128) : Fin 1024 := ⟨512 + (h.val / 4 * 128 + n.val), by omega⟩
def ccR (h : Fin 8) (n : Fin 128) : Fin 1024 := ⟨768 + (h.val / 4 * 128 + n.val), by omega⟩

/-- The inputs times their steps, chunked. -/
theorem r11 (b : Fin 8) (k : Fin 16) (l : Fin 128) (h : Fin 8) (p : Fin 64) :
    val_main_v11 (F := Ideal) x0 x2 (ix5 b k l h p) = x0 (ix3 b (tk k l) (xcR h p)) * x2 (ix3 b (tk k l) h) := by
  pointwise [val_main_v11, val_main_v10, val_main_v9, val_main_v8, val_main_v3, val_main_v0]
  rfl
/-- The steps times the rates, chunked. -/
theorem r15 (b : Fin 8) (k : Fin 16) (l : Fin 128) (h : Fin 8) :
    val_main_v15 (F := Ideal) x2 x3 (ix4 b k l h) = x2 (ix3 b (tk k l) h) * -Ideal.exp (x3 (ix1 h)) := by
  pointwise [val_main_v15, val_main_v14, val_main_v13, val_main_v12, val_main_v7, val_main_v6]
  rfl
/-- B and C, repeated for the heads of their group. -/
theorem r18 (b : Fin 8) (k : Fin 16) (l : Fin 128) (h : Fin 8) (n : Fin 128) :
    val_main_v18 (F := Ideal) x0 (ix5 b k l h n) = x0 (ix3 b (tk k l) (bcR h n)) := by
  pointwise [val_main_v18, val_main_v17, val_main_v16, val_main_v4, val_main_v1]
  rfl
theorem r21 (b : Fin 8) (k : Fin 16) (l : Fin 128) (h : Fin 8) (n : Fin 128) :
    val_main_v21 (F := Ideal) x0 (ix5 b k l h n) = x0 (ix3 b (tk k l) (ccR h n)) := by
  pointwise [val_main_v21, val_main_v20, val_main_v19, val_main_v5, val_main_v2]
  rfl

/-- A left fold of sums from zero is the sum. -/
theorem fold_sum {N : ℕ} (g : Fin N → EReal) : (List.finRange N).foldl (fun r n => r + g n) 0 = ∑ n, g n := by
  rw [← List.sum_ofFn, List.ofFn_eq_map, List.sum_eq_foldl, List.foldl_map]
/-- The window of a running sum over the tokens, as a shape. -/
abbrev win : Shape := ⟨4, ![1, 1, 128, 1]⟩
/-- The places of the window that ends at token `l`, counted by the token they fall on. -/
def winAt (l : Fin 128) : Fin 128 ≃ win.Idx where
  toFun s := ix4 (0 : Fin 1) (0 : Fin 1) (⟨(s.val + 127 - l.val) % 128, by omega⟩ : Fin 128) (0 : Fin 1)
  invFun i := ⟨((i 2).val + l.val + 1) % 128, by omega⟩
  left_inv s := by
    apply Fin.ext
    show ((s.val + 127 - l.val) % 128 + l.val + 1) % 128 = s.val
    omega
  right_inv i := by
    have h2 : (i 2).val < 128 := (i 2).isLt
    funext a
    fin_cases a
    · exact Subsingleton.elim (α := Fin 1) _ _
    · exact Subsingleton.elim (α := Fin 1) _ _
    · apply Fin.ext
      show (((i 2).val + l.val + 1) % 128 + 127 - l.val) % 128 = (i 2).val
      omega
    · exact Subsingleton.elim (α := Fin 1) _ _
/-- A running sum over the tokens of a chunk, written as a sum over a window that ends at the token. -/
theorem window_sum (y : Vec Ideal S8x16x128x8 .f32) (z : Vec Ideal S_ .f32) (hz : ∀ j, z j = 0) (b : Fin 8) (k : Fin 16) (l : Fin 128) (h : Fin 8) :
    Host.reduceWindowAdd (F := Ideal) (φ := .f32) ![1, 1, 128, 1] ![1, 1, 1, 1] ![0, 0, 127, 0] ![0, 0, 0, 0] y z Gen.reduceWindows_S8x16x128x8_S8x16x128x8_w1s1p0_0_w1s1p0_0_w128s1p127_0_w1s1p0_0 Gen.h_S_ (ix4 b k l h)
      = ∑ s : Fin 128, if s ≤ l then y (ix4 b k s h) else 0 := by
  unfold Host.reduceWindowAdd
  rw [Ideal.hostReduceWindowAdd_def, hz]
  unfold Ideal.hostReduceWindowAdd Host.reduceWindow
  refine (fold_sum _).trans ?_
  refine (Equiv.sum_comp ((winAt l).trans win.rowMajor) _).symm.trans ?_
  refine Finset.sum_congr rfl fun s _ => ?_
  simp only [Equiv.trans_apply, Equiv.symm_apply_apply]
  by_cases hs : s ≤ l
  · have hv : s.val ≤ l.val := hs
    rw [if_pos hs, dif_pos]
    · congr 1
      funext a
      fin_cases a <;> apply Fin.ext
      · show b.val * 1 + 0 - 0 = b.val
        omega
      · show k.val * 1 + 0 - 0 = k.val
        omega
      · show l.val * 1 + (s.val + 127 - l.val) % 128 - 127 = s.val
        omega
      · show h.val * 1 + 0 - 0 = h.val
        omega
    · intro a
      fin_cases a
      · show 0 ≤ b.val * 1 + 0 ∧ b.val * 1 + 0 - 0 < 8
        omega
      · show 0 ≤ k.val * 1 + 0 ∧ k.val * 1 + 0 - 0 < 16
        omega
      · show 127 ≤ l.val * 1 + (s.val + 127 - l.val) % 128 ∧ l.val * 1 + (s.val + 127 - l.val) % 128 - 127 < 128
        omega
      · show 0 ≤ h.val * 1 + 0 ∧ h.val * 1 + 0 - 0 < 8
        omega
  · have hv : ¬ s.val ≤ l.val := hs
    rw [if_neg hs, dif_neg]
    intro hin
    have h2 : 127 ≤ l.val * 1 + (s.val + 127 - l.val) % 128 := (hin 2).1
    omega

theorem r22 (b : Fin 8) (k : Fin 16) (l : Fin 128) (h : Fin 8) :
    val_main_v22 (F := Ideal) x2 x3 (ix4 b k l h) = cum (fun s => x2 (ix3 b (tk k s) h)) (-Ideal.exp (x3 (ix1 h))) l := by
  unfold val_main_v22 cum
  rw [window_sum]
  · simp only [r15]
  · intro j
    pointwise [val_main_call0_call0_v0, val_main_call0_call0_cst]
theorem le_bit : ∀ l s : Fin 128, IntOp.cmpi CmpIPredicate.sge (BitVec.ofNat 32 l.val) (BitVec.ofNat 32 s.val) = if s ≤ l then 1#1 else 0#1 := by
  decide +kernel
theorem exp_bot : Ideal.exp (⊥ : EReal) = 0 := rfl
/-- The decay between two tokens of a chunk. -/
theorem r32 (b : Fin 8) (k : Fin 16) (h : Fin 8) (l s : Fin 128) :
    val_main_v32 (F := Ideal) x2 x3 (ix5 b k h l s)
      = segS (fun s => x2 (ix3 b (tk k s) h)) (-Ideal.exp (x3 (ix1 h))) l s := by
  unfold segS
  rw [← r22 x2 x3, ← r22 x2 x3]
  unfold val_main_v32 val_main_v31 val_main_v30 val_main_v29 val_main_v28 val_main_v27 val_main_v26 val_main_v23
  generalize val_main_v22 (F := Ideal) x2 x3 = y
  pointwise [val_main_call2_v2, val_main_call2_v1, val_main_call2_v0, val_main_v25, val_main_call1_v5, val_main_call1_c_0, val_main_call1_v4, val_main_call1_v3, val_main_call1_v2, val_main_call1_v1, val_main_call1_v0, val_main_call1_c, val_main_v24, val_main_c, val_main_cst]
  rw [show IntOp.addi (BitVec.ofNat 32 l.val) 0#32 = BitVec.ofNat 32 l.val from BitVec.add_zero _,
    show IntOp.cmpi CmpIPredicate.sge (BitVec.ofNat 32 l.val) (BitVec.ofNat 32 s.val) = if s ≤ l then 1#1 else 0#1 from le_bit l s]
  by_cases hs : s ≤ l
  · rw [if_pos hs, if_pos hs]
    rfl
  · rw [if_neg hs, if_neg hs]
    refine (congrArg Ideal.exp ?_).trans exp_bot
    show Ideal.ofBits .f32 0xFF800000#32 = ⊥
    simp [Ideal.ofBits, Ideal.ieee]
theorem r33 (b : Fin 8) (k : Fin 16) (h : Fin 8) (l s : Fin 128) :
    val_main_v33 (F := Ideal) x0 (ix5 b k h l s) = ∑ n : Fin 128, x0 (ix3 b (tk k l) (ccR h n)) * x0 (ix3 b (tk k s) (bcR h n)) := by
  unfold val_main_v33
  simp only [← r18, ← r21]
  generalize val_main_v18 (F := Ideal) x0 = y
  generalize val_main_v21 (F := Ideal) x0 = z
  pointwise
theorem r35 (y : Vec Ideal S8x16x128x8x64 .f32) (z : Vec Ideal S8x16x8x128x128 .f32) (b : Fin 8) (k : Fin 16) (h : Fin 8) (p : Fin 64) (l : Fin 128) :
    (Host.dotGeneral (F := Ideal) (φ₁ := .f32) (φ₂ := .f32) dot_S8x16x128x8x64_S8x16x8x128x128_S8x16x8x64x128_2_4_4_3_013_012 none y z : Vec Ideal S8x16x8x64x128 .f32) (ix5 b k h p l)
      = ∑ s : Fin 128, y (ix5 b k s h p) * z (ix5 b k h l s) := by
  pointwise
theorem r44 (y : Vec Ideal S8x16x128x8x64 .f32) (z : Vec Ideal S8x16x128x8x128 .f32) (b : Fin 8) (k : Fin 16) (h : Fin 8) (p : Fin 64) (n : Fin 128) :
    (Host.dotGeneral (F := Ideal) (φ₁ := .f32) (φ₂ := .f32) dot_S8x16x128x8x64_S8x16x128x8x128_S8x16x8x64x128_2_2_4_4_013_013 none y z : Vec Ideal S8x16x8x64x128 .f32) (ix5 b k h p n)
      = ∑ s : Fin 128, y (ix5 b k s h p) * z (ix5 b k s h n) := by
  pointwise
theorem r194 (y : Vec Ideal S8x16x8x64x128 .f32) (z : Vec Ideal S8x16x128x8x128 .f32) (b : Fin 8) (k : Fin 16) (h : Fin 8) (p : Fin 64) (l : Fin 128) :
    (Host.dotGeneral (F := Ideal) (φ₁ := .f32) (φ₂ := .f32) dot_S8x16x8x64x128_S8x16x128x8x128_S8x16x8x64x128_4_4_3_2_012_013 none y z : Vec Ideal S8x16x8x64x128 .f32) (ix5 b k h p l)
      = ∑ n : Fin 128, y (ix5 b k h p n) * z (ix5 b k l h n) := by
  pointwise
theorem r47 (b : Fin 8) (k : Fin 16) (h : Fin 8) :
    val_main_v47 (F := Ideal) x2 x3 (ix3 b k h) = Ideal.exp (cum (fun s => x2 (ix3 b (tk k s) h)) (-Ideal.exp (x3 (ix1 h))) 127) := by
  rw [← r22 x2 x3]
  unfold val_main_v47 val_main_v46 val_main_v45
  generalize val_main_v22 (F := Ideal) x2 x3 = y
  pointwise
theorem r43 (b : Fin 8) (k : Fin 16) (l : Fin 128) (h : Fin 8) (p : Fin 64) :
    val_main_v43 (F := Ideal) x0 x2 x3 (ix5 b k l h p)
      = Ideal.exp (cum (fun s => x2 (ix3 b (tk k s) h)) (-Ideal.exp (x3 (ix1 h))) 127 - cum (fun s => x2 (ix3 b (tk k s) h)) (-Ideal.exp (x3 (ix1 h))) l)
        * (x0 (ix3 b (tk k l) (xcR h p)) * x2 (ix3 b (tk k l) h)) := by
  rw [← r22 x2 x3, ← r22 x2 x3, ← r11]
  unfold val_main_v43 val_main_v42 val_main_v41 val_main_v40 val_main_v39 val_main_v38 val_main_v37
  generalize val_main_v22 (F := Ideal) x2 x3 = y
  generalize val_main_v11 (F := Ideal) x0 x2 = z
  pointwise
theorem r198 (b : Fin 8) (k : Fin 16) (l : Fin 128) (h : Fin 8) (p : Fin 64) :
    val_main_v198 (F := Ideal) x2 x3 (ix5 b k l h p) = Ideal.exp (cum (fun s => x2 (ix3 b (tk k s) h)) (-Ideal.exp (x3 (ix1 h))) l) := by
  rw [← r22 x2 x3]
  unfold val_main_v198 val_main_v197 val_main_v196
  generalize val_main_v22 (F := Ideal) x2 x3 = y
  pointwise

end Cert.Proof.Ssd.Ref

end
-- ==== Proof.SsdRefB.lean ====
/-
  The states of the reference, chunk by chunk, and the sum inside a chunk.
-/
module

public import proofs.«01_k».proof.Proof.SsdRefA
public import proofs.«01_k».proof.Proof.SsdHost

@[expose] public section

set_option maxRecDepth 16384

noncomputable section

namespace Cert.Proof.Ssd.Ref

open Idealize.ShloMosaic Idealize.ShloMosaic.TcCoe Idealize.SL.Sem
open Cert.SsdReferenceIdeal Cert.SsdReferenceIdeal.Read
open Idealize.ShloMosaic.Pointwise

set_option maxHeartbeats 4000000
variable (x0 : Vec Ideal S8x2048x1024 .f32) (x1 : Vec Ideal S8x2048x512 .f32) (x2 : Vec Ideal S8x2048x8 .f32)
  (x3 x4 : Vec Ideal S8 .f32) (x5 : Vec Ideal S512 .f32)

/-- A sequence's activations, steps and rates by chunk. -/
def Xr (b : Fin 8) : ℕ → Fin 128 → Fin 1024 → EReal := Xb (fun j => x0 (ix3 b (j 1) (j 2)))
def Dr (b : Fin 8) : ℕ → Fin 8 → Fin 128 → EReal := dtK (fun h t => x2 (ix3 b t h))
def Ar : Fin 8 → EReal := aOf (fun h => x3 (ix1 h))
/-- The column of entry `p` of head `h`. -/
def jx (h : Fin 8) (p : Fin 64) : Fin 512 := ⟨h.val * 64 + p.val, by omega⟩
theorem hd_jx (h : Fin 8) (p : Fin 64) : hd (jx h p) = h := Fin.ext (by show (h.val * 64 + p.val) / 64 = h.val; omega)
theorem xcol_jx (h : Fin 8) (p : Fin 64) : xcol (jx h p) = xcR h p := rfl
theorem bcol_eq (h : Fin 8) (n : Fin 128) : bcol h n = bcR h n :=
  Fin.ext (by show 512 + 128 * (h.val / 4) + n.val = 512 + (h.val / 4 * 128 + n.val); omega)
theorem ccol_eq (h : Fin 8) (n : Fin 128) : ccol h n = ccR h n :=
  Fin.ext (by show 768 + 128 * (h.val / 4) + n.val = 768 + (h.val / 4 * 128 + n.val); omega)
theorem tok_tk (k : Fin 16) (l : Fin 128) : tok k.val l = tk k l :=
  Fin.ext (by show (128 * k.val + l.val) % 2048 = k.val * 128 + l.val; omega)
theorem Xr_at (b : Fin 8) (k : Fin 16) (l : Fin 128) (c : Fin 1024) : Xr x0 b k.val l c = x0 (ix3 b (tk k l) c) :=
  congrArg (fun t => x0 (ix3 b t c)) (tok_tk k l)
theorem Dr_at (b : Fin 8) (k : Fin 16) (l : Fin 128) (h : Fin 8) : Dr x2 b k.val h l = x2 (ix3 b (tk k l) h) :=
  congrArg (fun t => x2 (ix3 b t h)) (tok_tk k l)
theorem Dr_fun (b : Fin 8) (k : Fin 16) (h : Fin 8) : Dr x2 b k.val h = fun s => x2 (ix3 b (tk k s) h) :=
  funext fun s => Dr_at x2 b k s h
theorem Ar_at (h : Fin 8) : Ar x3 h = -Ideal.exp (x3 (ix1 h)) := rfl

/-- One step of the recurrence, as the reference writes it. -/
theorem nextR (b : Fin 8) (k : Fin 16) (h : Fin 8) (p : Fin 64) (n : Fin 128) (S : Fin 128 → Fin 512 → EReal) :
    val_main_v47 (F := Ideal) x2 x3 (ix3 b k h) * S n (jx h p) + val_main_v44 (F := Ideal) x0 x2 x3 (ix5 b k h p n)
      = nextS (Xr x0 b k.val) (Dr x2 b k.val) (Ar x3) S n (jx h p) := by
  have e : val_main_v44 (F := Ideal) x0 x2 x3 (ix5 b k h p n)
      = ∑ s : Fin 128, val_main_v43 (F := Ideal) x0 x2 x3 (ix5 b k s h p) * val_main_v18 (F := Ideal) x0 (ix5 b k s h n) := r44 _ _ b k h p n
  rw [e, r47]
  unfold nextS
  rw [hd_jx, xcol_jx, bcol_eq, Dr_fun, Ar_at]
  congr 1
  refine Finset.sum_congr rfl fun s _ => ?_
  rw [r43, r18, Xr_at, Xr_at]
  beta_reduce
  ac_rfl

/-- Everything inside a chunk. -/
theorem diagR (b : Fin 8) (k : Fin 16) (l : Fin 128) (h : Fin 8) (p : Fin 64) :
    val_main_v36 (F := Ideal) x0 x2 x3 (ix5 b k l h p) = diagS (Xr x0 b k.val) (Dr x2 b k.val) (Ar x3) l (jx h p) := by
  have e : val_main_v36 (F := Ideal) x0 x2 x3 (ix5 b k l h p) = val_main_v35 (F := Ideal) x0 x2 x3 (ix5 b k h p l) := by
    unfold val_main_v36
    generalize val_main_v35 (F := Ideal) x0 x2 x3 = y
    pointwise
  have e2 : val_main_v35 (F := Ideal) x0 x2 x3 (ix5 b k h p l)
      = ∑ s : Fin 128, val_main_v11 (F := Ideal) x0 x2 (ix5 b k s h p) * val_main_v34 (F := Ideal) x0 x2 x3 (ix5 b k h l s) := r35 _ _ b k h p l
  rw [e, e2]
  unfold diagS
  refine Finset.sum_congr rfl fun s _ => ?_
  have e3 : val_main_v34 (F := Ideal) x0 x2 x3 (ix5 b k h l s) = val_main_v33 (F := Ideal) x0 (ix5 b k h l s) * val_main_v32 (F := Ideal) x2 x3 (ix5 b k h l s) := rfl
  rw [e3, r11, r33, r32, hd_jx, xcol_jx, Dr_fun, Ar_at, Xr_at]
  unfold cbS
  simp only [Xr_at, bcol_eq, ccol_eq]
  beta_reduce
  ac_rfl

theorem zeroR (b h : Fin 8) (p : Fin 64) (n : Fin 128) :
    val_main_v48 (F := Ideal) (ix4 b h p n) = stS (Xr x0 b) (Dr x2 b) (Ar x3) 0 n (jx h p) := by
  pointwise [val_main_v48, val_main_cst_0]
  all_goals rfl

theorem step0 (b h : Fin 8) (p : Fin 64) (n : Fin 128) :
    val_main_v56 (F := Ideal) x0 x2 x3 (ix4 b h p n)
      = val_main_v47 (F := Ideal) x2 x3 (ix3 b (0 : Fin 16) h) * val_main_v48 (F := Ideal) (ix4 b h p n) + val_main_v44 (F := Ideal) x0 x2 x3 (ix5 b (0 : Fin 16) h p n) := by
  unfold val_main_v56 val_main_v55 val_main_v54 val_main_v53 val_main_v52 val_main_v51 val_main_v50 val_main_v49
  generalize val_main_v47 (F := Ideal) x2 x3 = y
  generalize val_main_v44 (F := Ideal) x0 x2 x3 = z
  generalize val_main_v48 (F := Ideal) = w
  pointwise
/-- The state after chunk 0. -/
theorem state0 (b h : Fin 8) (p : Fin 64) (n : Fin 128) :
    val_main_v56 (F := Ideal) x0 x2 x3 (ix4 b h p n) = stS (Xr x0 b) (Dr x2 b) (Ar x3) 1 n (jx h p) := by
  rw [step0, zeroR x0 x2 x3]
  exact nextR x0 x2 x3 b 0 h p n _

theorem step1 (b h : Fin 8) (p : Fin 64) (n : Fin 128) :
    val_main_v64 (F := Ideal) x0 x2 x3 (ix4 b h p n)
      = val_main_v47 (F := Ideal) x2 x3 (ix3 b (1 : Fin 16) h) * val_main_v56 (F := Ideal) x0 x2 x3 (ix4 b h p n) + val_main_v44 (F := Ideal) x0 x2 x3 (ix5 b (1 : Fin 16) h p n) := by
  unfold val_main_v64 val_main_v63 val_main_v62 val_main_v61 val_main_v60 val_main_v59 val_main_v58 val_main_v57
  generalize val_main_v47 (F := Ideal) x2 x3 = y
  generalize val_main_v44 (F := Ideal) x0 x2 x3 = z
  generalize val_main_v56 (F := Ideal) x0 x2 x3 = w
  pointwise
/-- The state after chunk 1. -/
theorem state1 (b h : Fin 8) (p : Fin 64) (n : Fin 128) :
    val_main_v64 (F := Ideal) x0 x2 x3 (ix4 b h p n) = stS (Xr x0 b) (Dr x2 b) (Ar x3) 2 n (jx h p) := by
  rw [step1, state0]
  exact nextR x0 x2 x3 b 1 h p n _

theorem step2 (b h : Fin 8) (p : Fin 64) (n : Fin 128) :
    val_main_v72 (F := Ideal) x0 x2 x3 (ix4 b h p n)
      = val_main_v47 (F := Ideal) x2 x3 (ix3 b (2 : Fin 16) h) * val_main_v64 (F := Ideal) x0 x2 x3 (ix4 b h p n) + val_main_v44 (F := Ideal) x0 x2 x3 (ix5 b (2 : Fin 16) h p n) := by
  unfold val_main_v72 val_main_v71 val_main_v70 val_main_v69 val_main_v68 val_main_v67 val_main_v66 val_main_v65
  generalize val_main_v47 (F := Ideal) x2 x3 = y
  generalize val_main_v44 (F := Ideal) x0 x2 x3 = z
  generalize val_main_v64 (F := Ideal) x0 x2 x3 = w
  pointwise
/-- The state after chunk 2. -/
theorem state2 (b h : Fin 8) (p : Fin 64) (n : Fin 128) :
    val_main_v72 (F := Ideal) x0 x2 x3 (ix4 b h p n) = stS (Xr x0 b) (Dr x2 b) (Ar x3) 3 n (jx h p) := by
  rw [step2, state1]
  exact nextR x0 x2 x3 b 2 h p n _

theorem step3 (b h : Fin 8) (p : Fin 64) (n : Fin 128) :
    val_main_v80 (F := Ideal) x0 x2 x3 (ix4 b h p n)
      = val_main_v47 (F := Ideal) x2 x3 (ix3 b (3 : Fin 16) h) * val_main_v72 (F := Ideal) x0 x2 x3 (ix4 b h p n) + val_main_v44 (F := Ideal) x0 x2 x3 (ix5 b (3 : Fin 16) h p n) := by
  unfold val_main_v80 val_main_v79 val_main_v78 val_main_v77 val_main_v76 val_main_v75 val_main_v74 val_main_v73
  generalize val_main_v47 (F := Ideal) x2 x3 = y
  generalize val_main_v44 (F := Ideal) x0 x2 x3 = z
  generalize val_main_v72 (F := Ideal) x0 x2 x3 = w
  pointwise
/-- The state after chunk 3. -/
theorem state3 (b h : Fin 8) (p : Fin 64) (n : Fin 128) :
    val_main_v80 (F := Ideal) x0 x2 x3 (ix4 b h p n) = stS (Xr x0 b) (Dr x2 b) (Ar x3) 4 n (jx h p) := by
  rw [step3, state2]
  exact nextR x0 x2 x3 b 3 h p n _

theorem step4 (b h : Fin 8) (p : Fin 64) (n : Fin 128) :
    val_main_v88 (F := Ideal) x0 x2 x3 (ix4 b h p n)
      = val_main_v47 (F := Ideal) x2 x3 (ix3 b (4 : Fin 16) h) * val_main_v80 (F := Ideal) x0 x2 x3 (ix4 b h p n) + val_main_v44 (F := Ideal) x0 x2 x3 (ix5 b (4 : Fin 16) h p n) := by
  unfold val_main_v88 val_main_v87 val_main_v86 val_main_v85 val_main_v84 val_main_v83 val_main_v82 val_main_v81
  generalize val_main_v47 (F := Ideal) x2 x3 = y
  generalize val_main_v44 (F := Ideal) x0 x2 x3 = z
  generalize val_main_v80 (F := Ideal) x0 x2 x3 = w
  pointwise
/-- The state after chunk 4. -/
theorem state4 (b h : Fin 8) (p : Fin 64) (n : Fin 128) :
    val_main_v88 (F := Ideal) x0 x2 x3 (ix4 b h p n) = stS (Xr x0 b) (Dr x2 b) (Ar x3) 5 n (jx h p) := by
  rw [step4, state3]
  exact nextR x0 x2 x3 b 4 h p n _

theorem step5 (b h : Fin 8) (p : Fin 64) (n : Fin 128) :
    val_main_v96 (F := Ideal) x0 x2 x3 (ix4 b h p n)
      = val_main_v47 (F := Ideal) x2 x3 (ix3 b (5 : Fin 16) h) * val_main_v88 (F := Ideal) x0 x2 x3 (ix4 b h p n) + val_main_v44 (F := Ideal) x0 x2 x3 (ix5 b (5 : Fin 16) h p n) := by
  unfold val_main_v96 val_main_v95 val_main_v94 val_main_v93 val_main_v92 val_main_v91 val_main_v90 val_main_v89
  generalize val_main_v47 (F := Ideal) x2 x3 = y
  generalize val_main_v44 (F := Ideal) x0 x2 x3 = z
  generalize val_main_v88 (F := Ideal) x0 x2 x3 = w
  pointwise
/-- The state after chunk 5. -/
theorem state5 (b h : Fin 8) (p : Fin 64) (n : Fin 128) :
    val_main_v96 (F := Ideal) x0 x2 x3 (ix4 b h p n) = stS (Xr x0 b) (Dr x2 b) (Ar x3) 6 n (jx h p) := by
  rw [step5, state4]
  exact nextR x0 x2 x3 b 5 h p n _

theorem step6 (b h : Fin 8) (p : Fin 64) (n : Fin 128) :
    val_main_v104 (F := Ideal) x0 x2 x3 (ix4 b h p n)
      = val_main_v47 (F := Ideal) x2 x3 (ix3 b (6 : Fin 16) h) * val_main_v96 (F := Ideal) x0 x2 x3 (ix4 b h p n) + val_main_v44 (F := Ideal) x0 x2 x3 (ix5 b (6 : Fin 16) h p n) := by
  unfold val_main_v104 val_main_v103 val_main_v102 val_main_v101 val_main_v100 val_main_v99 val_main_v98 val_main_v97
  generalize val_main_v47 (F := Ideal) x2 x3 = y
  generalize val_main_v44 (F := Ideal) x0 x2 x3 = z
  generalize val_main_v96 (F := Ideal) x0 x2 x3 = w
  pointwise
/-- The state after chunk 6. -/
theorem state6 (b h : Fin 8) (p : Fin 64) (n : Fin 128) :
    val_main_v104 (F := Ideal) x0 x2 x3 (ix4 b h p n) = stS (Xr x0 b) (Dr x2 b) (Ar x3) 7 n (jx h p) := by
  rw [step6, state5]
  exact nextR x0 x2 x3 b 6 h p n _

theorem step7 (b h : Fin 8) (p : Fin 64) (n : Fin 128) :
    val_main_v112 (F := Ideal) x0 x2 x3 (ix4 b h p n)
      = val_main_v47 (F := Ideal) x2 x3 (ix3 b (7 : Fin 16) h) * val_main_v104 (F := Ideal) x0 x2 x3 (ix4 b h p n) + val_main_v44 (F := Ideal) x0 x2 x3 (ix5 b (7 : Fin 16) h p n) := by
  unfold val_main_v112 val_main_v111 val_main_v110 val_main_v109 val_main_v108 val_main_v107 val_main_v106 val_main_v105
  generalize val_main_v47 (F := Ideal) x2 x3 = y
  generalize val_main_v44 (F := Ideal) x0 x2 x3 = z
  generalize val_main_v104 (F := Ideal) x0 x2 x3 = w
  pointwise
/-- The state after chunk 7. -/
theorem state7 (b h : Fin 8) (p : Fin 64) (n : Fin 128) :
    val_main_v112 (F := Ideal) x0 x2 x3 (ix4 b h p n) = stS (Xr x0 b) (Dr x2 b) (Ar x3) 8 n (jx h p) := by
  rw [step7, state6]
  exact nextR x0 x2 x3 b 7 h p n _

theorem step8 (b h : Fin 8) (p : Fin 64) (n : Fin 128) :
    val_main_v120 (F := Ideal) x0 x2 x3 (ix4 b h p n)
      = val_main_v47 (F := Ideal) x2 x3 (ix3 b (8 : Fin 16) h) * val_main_v112 (F := Ideal) x0 x2 x3 (ix4 b h p n) + val_main_v44 (F := Ideal) x0 x2 x3 (ix5 b (8 : Fin 16) h p n) := by
  unfold val_main_v120 val_main_v119 val_main_v118 val_main_v117 val_main_v116 val_main_v115 val_main_v114 val_main_v113
  generalize val_main_v47 (F := Ideal) x2 x3 = y
  generalize val_main_v44 (F := Ideal) x0 x2 x3 = z
  generalize val_main_v112 (F := Ideal) x0 x2 x3 = w
  pointwise
/-- The state after chunk 8. -/
theorem state8 (b h : Fin 8) (p : Fin 64) (n : Fin 128) :
    val_main_v120 (F := Ideal) x0 x2 x3 (ix4 b h p n) = stS (Xr x0 b) (Dr x2 b) (Ar x3) 9 n (jx h p) := by
  rw [step8, state7]
  exact nextR x0 x2 x3 b 8 h p n _

theorem step9 (b h : Fin 8) (p : Fin 64) (n : Fin 128) :
    val_main_v128 (F := Ideal) x0 x2 x3 (ix4 b h p n)
      = val_main_v47 (F := Ideal) x2 x3 (ix3 b (9 : Fin 16) h) * val_main_v120 (F := Ideal) x0 x2 x3 (ix4 b h p n) + val_main_v44 (F := Ideal) x0 x2 x3 (ix5 b (9 : Fin 16) h p n) := by
  unfold val_main_v128 val_main_v127 val_main_v126 val_main_v125 val_main_v124 val_main_v123 val_main_v122 val_main_v121
  generalize val_main_v47 (F := Ideal) x2 x3 = y
  generalize val_main_v44 (F := Ideal) x0 x2 x3 = z
  generalize val_main_v120 (F := Ideal) x0 x2 x3 = w
  pointwise
/-- The state after chunk 9. -/
theorem state9 (b h : Fin 8) (p : Fin 64) (n : Fin 128) :
    val_main_v128 (F := Ideal) x0 x2 x3 (ix4 b h p n) = stS (Xr x0 b) (Dr x2 b) (Ar x3) 10 n (jx h p) := by
  rw [step9, state8]
  exact nextR x0 x2 x3 b 9 h p n _

theorem step10 (b h : Fin 8) (p : Fin 64) (n : Fin 128) :
    val_main_v136 (F := Ideal) x0 x2 x3 (ix4 b h p n)
      = val_main_v47 (F := Ideal) x2 x3 (ix3 b (10 : Fin 16) h) * val_main_v128 (F := Ideal) x0 x2 x3 (ix4 b h p n) + val_main_v44 (F := Ideal) x0 x2 x3 (ix5 b (10 : Fin 16) h p n) := by
  unfold val_main_v136 val_main_v135 val_main_v134 val_main_v133 val_main_v132 val_main_v131 val_main_v130 val_main_v129
  generalize val_main_v47 (F := Ideal) x2 x3 = y
  generalize val_main_v44 (F := Ideal) x0 x2 x3 = z
  generalize val_main_v128 (F := Ideal) x0 x2 x3 = w
  pointwise
/-- The state after chunk 10. -/
theorem state10 (b h : Fin 8) (p : Fin 64) (n : Fin 128) :
    val_main_v136 (F := Ideal) x0 x2 x3 (ix4 b h p n) = stS (Xr x0 b) (Dr x2 b) (Ar x3) 11 n (jx h p) := by
  rw [step10, state9]
  exact nextR x0 x2 x3 b 10 h p n _

theorem step11 (b h : Fin 8) (p : Fin 64) (n : Fin 128) :
    val_main_v144 (F := Ideal) x0 x2 x3 (ix4 b h p n)
      = val_main_v47 (F := Ideal) x2 x3 (ix3 b (11 : Fin 16) h) * val_main_v136 (F := Ideal) x0 x2 x3 (ix4 b h p n) + val_main_v44 (F := Ideal) x0 x2 x3 (ix5 b (11 : Fin 16) h p n) := by
  unfold val_main_v144 val_main_v143 val_main_v142 val_main_v141 val_main_v140 val_main_v139 val_main_v138 val_main_v137
  generalize val_main_v47 (F := Ideal) x2 x3 = y
  generalize val_main_v44 (F := Ideal) x0 x2 x3 = z
  generalize val_main_v136 (F := Ideal) x0 x2 x3 = w
  pointwise
/-- The state after chunk 11. -/
theorem state11 (b h : Fin 8) (p : Fin 64) (n : Fin 128) :
    val_main_v144 (F := Ideal) x0 x2 x3 (ix4 b h p n) = stS (Xr x0 b) (Dr x2 b) (Ar x3) 12 n (jx h p) := by
  rw [step11, state10]
  exact nextR x0 x2 x3 b 11 h p n _

theorem step12 (b h : Fin 8) (p : Fin 64) (n : Fin 128) :
    val_main_v152 (F := Ideal) x0 x2 x3 (ix4 b h p n)
      = val_main_v47 (F := Ideal) x2 x3 (ix3 b (12 : Fin 16) h) * val_main_v144 (F := Ideal) x0 x2 x3 (ix4 b h p n) + val_main_v44 (F := Ideal) x0 x2 x3 (ix5 b (12 : Fin 16) h p n) := by
  unfold val_main_v152 val_main_v151 val_main_v150 val_main_v149 val_main_v148 val_main_v147 val_main_v146 val_main_v145
  generalize val_main_v47 (F := Ideal) x2 x3 = y
  generalize val_main_v44 (F := Ideal) x0 x2 x3 = z
  generalize val_main_v144 (F := Ideal) x0 x2 x3 = w
  pointwise
/-- The state after chunk 12. -/
theorem state12 (b h : Fin 8) (p : Fin 64) (n : Fin 128) :
    val_main_v152 (F := Ideal) x0 x2 x3 (ix4 b h p n) = stS (Xr x0 b) (Dr x2 b) (Ar x3) 13 n (jx h p) := by
  rw [step12, state11]
  exact nextR x0 x2 x3 b 12 h p n _

theorem step13 (b h : Fin 8) (p : Fin 64) (n : Fin 128) :
    val_main_v160 (F := Ideal) x0 x2 x3 (ix4 b h p n)
      = val_main_v47 (F := Ideal) x2 x3 (ix3 b (13 : Fin 16) h) * val_main_v152 (F := Ideal) x0 x2 x3 (ix4 b h p n) + val_main_v44 (F := Ideal) x0 x2 x3 (ix5 b (13 : Fin 16) h p n) := by
  unfold val_main_v160 val_main_v159 val_main_v158 val_main_v157 val_main_v156 val_main_v155 val_main_v154 val_main_v153
  generalize val_main_v47 (F := Ideal) x2 x3 = y
  generalize val_main_v44 (F := Ideal) x0 x2 x3 = z
  generalize val_main_v152 (F := Ideal) x0 x2 x3 = w
  pointwise
/-- The state after chunk 13. -/
theorem state13 (b h : Fin 8) (p : Fin 64) (n : Fin 128) :
    val_main_v160 (F := Ideal) x0 x2 x3 (ix4 b h p n) = stS (Xr x0 b) (Dr x2 b) (Ar x3) 14 n (jx h p) := by
  rw [step13, state12]
  exact nextR x0 x2 x3 b 13 h p n _

theorem step14 (b h : Fin 8) (p : Fin 64) (n : Fin 128) :
    val_main_v168 (F := Ideal) x0 x2 x3 (ix4 b h p n)
      = val_main_v47 (F := Ideal) x2 x3 (ix3 b (14 : Fin 16) h) * val_main_v160 (F := Ideal) x0 x2 x3 (ix4 b h p n) + val_main_v44 (F := Ideal) x0 x2 x3 (ix5 b (14 : Fin 16) h p n) := by
  unfold val_main_v168 val_main_v167 val_main_v166 val_main_v165 val_main_v164 val_main_v163 val_main_v162 val_main_v161
  generalize val_main_v47 (F := Ideal) x2 x3 = y
  generalize val_main_v44 (F := Ideal) x0 x2 x3 = z
  generalize val_main_v160 (F := Ideal) x0 x2 x3 = w
  pointwise
/-- The state after chunk 14. -/
theorem state14 (b h : Fin 8) (p : Fin 64) (n : Fin 128) :
    val_main_v168 (F := Ideal) x0 x2 x3 (ix4 b h p n) = stS (Xr x0 b) (Dr x2 b) (Ar x3) 15 n (jx h p) := by
  rw [step14, state13]
  exact nextR x0 x2 x3 b 14 h p n _

theorem step15 (b h : Fin 8) (p : Fin 64) (n : Fin 128) :
    val_main_v176 (F := Ideal) x0 x2 x3 (ix4 b h p n)
      = val_main_v47 (F := Ideal) x2 x3 (ix3 b (15 : Fin 16) h) * val_main_v168 (F := Ideal) x0 x2 x3 (ix4 b h p n) + val_main_v44 (F := Ideal) x0 x2 x3 (ix5 b (15 : Fin 16) h p n) := by
  unfold val_main_v176 val_main_v175 val_main_v174 val_main_v173 val_main_v172 val_main_v171 val_main_v170 val_main_v169
  generalize val_main_v47 (F := Ideal) x2 x3 = y
  generalize val_main_v44 (F := Ideal) x0 x2 x3 = z
  generalize val_main_v168 (F := Ideal) x0 x2 x3 = w
  pointwise
/-- The state after chunk 15. -/
theorem state15 (b h : Fin 8) (p : Fin 64) (n : Fin 128) :
    val_main_v176 (F := Ideal) x0 x2 x3 (ix4 b h p n) = stS (Xr x0 b) (Dr x2 b) (Ar x3) 16 n (jx h p) := by
  rw [step15, state14]
  exact nextR x0 x2 x3 b 15 h p n _

end Cert.Proof.Ssd.Ref

end
-- ==== Proof.SsdRefC.lean ====
/-
  The reference reads as the SSD of its arguments.
-/
module

public import proofs.«01_k».proof.Proof.SsdRefB
public import Idealize.ShloMosaic.Lib.Pipeline.Value

@[expose] public section

set_option maxRecDepth 16384

noncomputable section

namespace Cert.Proof.Ssd.Ref

open Idealize.ShloMosaic Idealize.ShloMosaic.TcCoe Idealize.SL.Sem
open Cert.SsdReferenceIdeal Cert.SsdReferenceIdeal.Read
open Idealize.ShloMosaic.Pointwise

set_option maxHeartbeats 4000000
variable (x0 : Vec Ideal S8x2048x1024 .f32) (x1 : Vec Ideal S8x2048x512 .f32) (x2 : Vec Ideal S8x2048x8 .f32)
  (x3 x4 : Vec Ideal S8 .f32) (x5 : Vec Ideal S512 .f32)

theorem cat0 (b h : Fin 8) (p : Fin 64) (n : Fin 128) :
    val_main_v193 (F := Ideal) x0 x2 x3 (ix5 b (0 : Fin 16) h p n) = stS (Xr x0 b) (Dr x2 b) (Ar x3) 0 n (jx h p) := by
  unfold val_main_v193
  refine (concatenate_apply_piece 1 _ _ (ix5 b (0 : Fin 16) h p n) 0 (by show 0 < 16; decide) S8x1x8x64x128 _ rfl rfl 0 rfl (ix5 b (0 : Fin 1) h p n) ?_ rfl).trans ?_
  · intro a ha
    fin_cases a <;> first | rfl | exact absurd rfl ha
  · unfold val_main_v177
    refine Eq.trans ?_ (zeroR x0 x2 x3 b h p n)
    generalize val_main_v48 (F := Ideal) = y
    pointwise
theorem cat1 (b h : Fin 8) (p : Fin 64) (n : Fin 128) :
    val_main_v193 (F := Ideal) x0 x2 x3 (ix5 b (1 : Fin 16) h p n) = stS (Xr x0 b) (Dr x2 b) (Ar x3) 1 n (jx h p) := by
  unfold val_main_v193
  refine (concatenate_apply_piece 1 _ _ (ix5 b (1 : Fin 16) h p n) 1 (by show 1 < 16; decide) S8x1x8x64x128 _ rfl rfl 1 rfl (ix5 b (0 : Fin 1) h p n) ?_ rfl).trans ?_
  · intro a ha
    fin_cases a <;> first | rfl | exact absurd rfl ha
  · unfold val_main_v178
    refine Eq.trans ?_ (state0 x0 x2 x3 b h p n)
    generalize val_main_v56 (F := Ideal) x0 x2 x3 = y
    pointwise
theorem cat2 (b h : Fin 8) (p : Fin 64) (n : Fin 128) :
    val_main_v193 (F := Ideal) x0 x2 x3 (ix5 b (2 : Fin 16) h p n) = stS (Xr x0 b) (Dr x2 b) (Ar x3) 2 n (jx h p) := by
  unfold val_main_v193
  refine (concatenate_apply_piece 1 _ _ (ix5 b (2 : Fin 16) h p n) 2 (by show 2 < 16; decide) S8x1x8x64x128 _ rfl rfl 2 rfl (ix5 b (0 : Fin 1) h p n) ?_ rfl).trans ?_
  · intro a ha
    fin_cases a <;> first | rfl | exact absurd rfl ha
  · unfold val_main_v179
    refine Eq.trans ?_ (state1 x0 x2 x3 b h p n)
    generalize val_main_v64 (F := Ideal) x0 x2 x3 = y
    pointwise
theorem cat3 (b h : Fin 8) (p : Fin 64) (n : Fin 128) :
    val_main_v193 (F := Ideal) x0 x2 x3 (ix5 b (3 : Fin 16) h p n) = stS (Xr x0 b) (Dr x2 b) (Ar x3) 3 n (jx h p) := by
  unfold val_main_v193
  refine (concatenate_apply_piece 1 _ _ (ix5 b (3 : Fin 16) h p n) 3 (by show 3 < 16; decide) S8x1x8x64x128 _ rfl rfl 3 rfl (ix5 b (0 : Fin 1) h p n) ?_ rfl).trans ?_
  · intro a ha
    fin_cases a <;> first | rfl | exact absurd rfl ha
  · unfold val_main_v180
    refine Eq.trans ?_ (state2 x0 x2 x3 b h p n)
    generalize val_main_v72 (F := Ideal) x0 x2 x3 = y
    pointwise
theorem cat4 (b h : Fin 8) (p : Fin 64) (n : Fin 128) :
    val_main_v193 (F := Ideal) x0 x2 x3 (ix5 b (4 : Fin 16) h p n) = stS (Xr x0 b) (Dr x2 b) (Ar x3) 4 n (jx h p) := by
  unfold val_main_v193
  refine (concatenate_apply_piece 1 _ _ (ix5 b (4 : Fin 16) h p n) 4 (by show 4 < 16; decide) S8x1x8x64x128 _ rfl rfl 4 rfl (ix5 b (0 : Fin 1) h p n) ?_ rfl).trans ?_
  · intro a ha
    fin_cases a <;> first | rfl | exact absurd rfl ha
  · unfold val_main_v181
    refine Eq.trans ?_ (state3 x0 x2 x3 b h p n)
    generalize val_main_v80 (F := Ideal) x0 x2 x3 = y
    pointwise
theorem cat5 (b h : Fin 8) (p : Fin 64) (n : Fin 128) :
    val_main_v193 (F := Ideal) x0 x2 x3 (ix5 b (5 : Fin 16) h p n) = stS (Xr x0 b) (Dr x2 b) (Ar x3) 5 n (jx h p) := by
  unfold val_main_v193
  refine (concatenate_apply_piece 1 _ _ (ix5 b (5 : Fin 16) h p n) 5 (by show 5 < 16; decide) S8x1x8x64x128 _ rfl rfl 5 rfl (ix5 b (0 : Fin 1) h p n) ?_ rfl).trans ?_
  · intro a ha
    fin_cases a <;> first | rfl | exact absurd rfl ha
  · unfold val_main_v182
    refine Eq.trans ?_ (state4 x0 x2 x3 b h p n)
    generalize val_main_v88 (F := Ideal) x0 x2 x3 = y
    pointwise
theorem cat6 (b h : Fin 8) (p : Fin 64) (n : Fin 128) :
    val_main_v193 (F := Ideal) x0 x2 x3 (ix5 b (6 : Fin 16) h p n) = stS (Xr x0 b) (Dr x2 b) (Ar x3) 6 n (jx h p) := by
  unfold val_main_v193
  refine (concatenate_apply_piece 1 _ _ (ix5 b (6 : Fin 16) h p n) 6 (by show 6 < 16; decide) S8x1x8x64x128 _ rfl rfl 6 rfl (ix5 b (0 : Fin 1) h p n) ?_ rfl).trans ?_
  · intro a ha
    fin_cases a <;> first | rfl | exact absurd rfl ha
  · unfold val_main_v183
    refine Eq.trans ?_ (state5 x0 x2 x3 b h p n)
    generalize val_main_v96 (F := Ideal) x0 x2 x3 = y
    pointwise
theorem cat7 (b h : Fin 8) (p : Fin 64) (n : Fin 128) :
    val_main_v193 (F := Ideal) x0 x2 x3 (ix5 b (7 : Fin 16) h p n) = stS (Xr x0 b) (Dr x2 b) (Ar x3) 7 n (jx h p) := by
  unfold val_main_v193
  refine (concatenate_apply_piece 1 _ _ (ix5 b (7 : Fin 16) h p n) 7 (by show 7 < 16; decide) S8x1x8x64x128 _ rfl rfl 7 rfl (ix5 b (0 : Fin 1) h p n) ?_ rfl).trans ?_
  · intro a ha
    fin_cases a <;> first | rfl | exact absurd rfl ha
  · unfold val_main_v184
    refine Eq.trans ?_ (state6 x0 x2 x3 b h p n)
    generalize val_main_v104 (F := Ideal) x0 x2 x3 = y
    pointwise
theorem cat8 (b h : Fin 8) (p : Fin 64) (n : Fin 128) :
    val_main_v193 (F := Ideal) x0 x2 x3 (ix5 b (8 : Fin 16) h p n) = stS (Xr x0 b) (Dr x2 b) (Ar x3) 8 n (jx h p) := by
  unfold val_main_v193
  refine (concatenate_apply_piece 1 _ _ (ix5 b (8 : Fin 16) h p n) 8 (by show 8 < 16; decide) S8x1x8x64x128 _ rfl rfl 8 rfl (ix5 b (0 : Fin 1) h p n) ?_ rfl).trans ?_
  · intro a ha
    fin_cases a <;> first | rfl | exact absurd rfl ha
  · unfold val_main_v185
    refine Eq.trans ?_ (state7 x0 x2 x3 b h p n)
    generalize val_main_v112 (F := Ideal) x0 x2 x3 = y
    pointwise
theorem cat9 (b h : Fin 8) (p : Fin 64) (n : Fin 128) :
    val_main_v193 (F := Ideal) x0 x2 x3 (ix5 b (9 : Fin 16) h p n) = stS (Xr x0 b) (Dr x2 b) (Ar x3) 9 n (jx h p) := by
  unfold val_main_v193
  refine (concatenate_apply_piece 1 _ _ (ix5 b (9 : Fin 16) h p n) 9 (by show 9 < 16; decide) S8x1x8x64x128 _ rfl rfl 9 rfl (ix5 b (0 : Fin 1) h p n) ?_ rfl).trans ?_
  · intro a ha
    fin_cases a <;> first | rfl | exact absurd rfl ha
  · unfold val_main_v186
    refine Eq.trans ?_ (state8 x0 x2 x3 b h p n)
    generalize val_main_v120 (F := Ideal) x0 x2 x3 = y
    pointwise
theorem cat10 (b h : Fin 8) (p : Fin 64) (n : Fin 128) :
    val_main_v193 (F := Ideal) x0 x2 x3 (ix5 b (10 : Fin 16) h p n) = stS (Xr x0 b) (Dr x2 b) (Ar x3) 10 n (jx h p) := by
  unfold val_main_v193
  refine (concatenate_apply_piece 1 _ _ (ix5 b (10 : Fin 16) h p n) 10 (by show 10 < 16; decide) S8x1x8x64x128 _ rfl rfl 10 rfl (ix5 b (0 : Fin 1) h p n) ?_ rfl).trans ?_
  · intro a ha
    fin_cases a <;> first | rfl | exact absurd rfl ha
  · unfold val_main_v187
    refine Eq.trans ?_ (state9 x0 x2 x3 b h p n)
    generalize val_main_v128 (F := Ideal) x0 x2 x3 = y
    pointwise
theorem cat11 (b h : Fin 8) (p : Fin 64) (n : Fin 128) :
    val_main_v193 (F := Ideal) x0 x2 x3 (ix5 b (11 : Fin 16) h p n) = stS (Xr x0 b) (Dr x2 b) (Ar x3) 11 n (jx h p) := by
  unfold val_main_v193
  refine (concatenate_apply_piece 1 _ _ (ix5 b (11 : Fin 16) h p n) 11 (by show 11 < 16; decide) S8x1x8x64x128 _ rfl rfl 11 rfl (ix5 b (0 : Fin 1) h p n) ?_ rfl).trans ?_
  · intro a ha
    fin_cases a <;> first | rfl | exact absurd rfl ha
  · unfold val_main_v188
    refine Eq.trans ?_ (state10 x0 x2 x3 b h p n)
    generalize val_main_v136 (F := Ideal) x0 x2 x3 = y
    pointwise
theorem cat12 (b h : Fin 8) (p : Fin 64) (n : Fin 128) :
    val_main_v193 (F := Ideal) x0 x2 x3 (ix5 b (12 : Fin 16) h p n) = stS (Xr x0 b) (Dr x2 b) (Ar x3) 12 n (jx h p) := by
  unfold val_main_v193
  refine (concatenate_apply_piece 1 _ _ (ix5 b (12 : Fin 16) h p n) 12 (by show 12 < 16; decide) S8x1x8x64x128 _ rfl rfl 12 rfl (ix5 b (0 : Fin 1) h p n) ?_ rfl).trans ?_
  · intro a ha
    fin_cases a <;> first | rfl | exact absurd rfl ha
  · unfold val_main_v189
    refine Eq.trans ?_ (state11 x0 x2 x3 b h p n)
    generalize val_main_v144 (F := Ideal) x0 x2 x3 = y
    pointwise
theorem cat13 (b h : Fin 8) (p : Fin 64) (n : Fin 128) :
    val_main_v193 (F := Ideal) x0 x2 x3 (ix5 b (13 : Fin 16) h p n) = stS (Xr x0 b) (Dr x2 b) (Ar x3) 13 n (jx h p) := by
  unfold val_main_v193
  refine (concatenate_apply_piece 1 _ _ (ix5 b (13 : Fin 16) h p n) 13 (by show 13 < 16; decide) S8x1x8x64x128 _ rfl rfl 13 rfl (ix5 b (0 : Fin 1) h p n) ?_ rfl).trans ?_
  · intro a ha
    fin_cases a <;> first | rfl | exact absurd rfl ha
  · unfold val_main_v190
    refine Eq.trans ?_ (state12 x0 x2 x3 b h p n)
    generalize val_main_v152 (F := Ideal) x0 x2 x3 = y
    pointwise
theorem cat14 (b h : Fin 8) (p : Fin 64) (n : Fin 128) :
    val_main_v193 (F := Ideal) x0 x2 x3 (ix5 b (14 : Fin 16) h p n) = stS (Xr x0 b) (Dr x2 b) (Ar x3) 14 n (jx h p) := by
  unfold val_main_v193
  refine (concatenate_apply_piece 1 _ _ (ix5 b (14 : Fin 16) h p n) 14 (by show 14 < 16; decide) S8x1x8x64x128 _ rfl rfl 14 rfl (ix5 b (0 : Fin 1) h p n) ?_ rfl).trans ?_
  · intro a ha
    fin_cases a <;> first | rfl | exact absurd rfl ha
  · unfold val_main_v191
    refine Eq.trans ?_ (state13 x0 x2 x3 b h p n)
    generalize val_main_v160 (F := Ideal) x0 x2 x3 = y
    pointwise
theorem cat15 (b h : Fin 8) (p : Fin 64) (n : Fin 128) :
    val_main_v193 (F := Ideal) x0 x2 x3 (ix5 b (15 : Fin 16) h p n) = stS (Xr x0 b) (Dr x2 b) (Ar x3) 15 n (jx h p) := by
  unfold val_main_v193
  refine (concatenate_apply_piece 1 _ _ (ix5 b (15 : Fin 16) h p n) 15 (by show 15 < 16; decide) S8x1x8x64x128 _ rfl rfl 15 rfl (ix5 b (0 : Fin 1) h p n) ?_ rfl).trans ?_
  · intro a ha
    fin_cases a <;> first | rfl | exact absurd rfl ha
  · unfold val_main_v192
    refine Eq.trans ?_ (state14 x0 x2 x3 b h p n)
    generalize val_main_v168 (F := Ideal) x0 x2 x3 = y
    pointwise

/-- The state before every chunk. -/
theorem stateR (b : Fin 8) (k : Fin 16) (h : Fin 8) (p : Fin 64) (n : Fin 128) :
    val_main_v193 (F := Ideal) x0 x2 x3 (ix5 b k h p n) = stS (Xr x0 b) (Dr x2 b) (Ar x3) k.val n (jx h p) := by
  fin_cases k
  · exact cat0 x0 x2 x3 b h p n
  · exact cat1 x0 x2 x3 b h p n
  · exact cat2 x0 x2 x3 b h p n
  · exact cat3 x0 x2 x3 b h p n
  · exact cat4 x0 x2 x3 b h p n
  · exact cat5 x0 x2 x3 b h p n
  · exact cat6 x0 x2 x3 b h p n
  · exact cat7 x0 x2 x3 b h p n
  · exact cat8 x0 x2 x3 b h p n
  · exact cat9 x0 x2 x3 b h p n
  · exact cat10 x0 x2 x3 b h p n
  · exact cat11 x0 x2 x3 b h p n
  · exact cat12 x0 x2 x3 b h p n
  · exact cat13 x0 x2 x3 b h p n
  · exact cat14 x0 x2 x3 b h p n
  · exact cat15 x0 x2 x3 b h p n

/-- What the state before a chunk gives. -/
theorem offR (b : Fin 8) (k : Fin 16) (l : Fin 128) (h : Fin 8) (p : Fin 64) :
    val_main_v195 (F := Ideal) x0 x2 x3 (ix5 b k l h p)
      = offS (Xr x0 b k.val) (stS (Xr x0 b) (Dr x2 b) (Ar x3) k.val) l (jx h p) := by
  have e : val_main_v195 (F := Ideal) x0 x2 x3 (ix5 b k l h p) = val_main_v194 (F := Ideal) x0 x2 x3 (ix5 b k h p l) := by
    unfold val_main_v195
    generalize val_main_v194 (F := Ideal) x0 x2 x3 = y
    pointwise
  have e2 : val_main_v194 (F := Ideal) x0 x2 x3 (ix5 b k h p l)
      = ∑ n : Fin 128, val_main_v193 (F := Ideal) x0 x2 x3 (ix5 b k h p n) * val_main_v21 (F := Ideal) x0 (ix5 b k l h n) := r194 _ _ b k h p l
  rw [e, e2]
  unfold offS
  refine Finset.sum_congr rfl fun n _ => ?_
  rw [stateR, r21, hd_jx, ccol_eq, Xr_at, mul_comm]
theorem mixR (b : Fin 8) (k : Fin 16) (l : Fin 128) (h : Fin 8) (p : Fin 64) :
    val_main_v200 (F := Ideal) x0 x2 x3 (ix5 b k l h p)
      = mixS (Xr x0 b k.val) (Dr x2 b k.val) (Ar x3) (stS (Xr x0 b) (Dr x2 b) (Ar x3) k.val) l (jx h p) := by
  have e : val_main_v200 (F := Ideal) x0 x2 x3 (ix5 b k l h p) = val_main_v36 (F := Ideal) x0 x2 x3 (ix5 b k l h p)
      + val_main_v195 (F := Ideal) x0 x2 x3 (ix5 b k l h p) * val_main_v198 (F := Ideal) x2 x3 (ix5 b k l h p) := rfl
  rw [e, diagR, offR, r198]
  unfold mixS
  rw [hd_jx, Dr_fun, Ar_at, mul_comm]

/-- The chunk of a token and its place there; the head of a column and its place there. -/
def kOf (t : Fin 2048) : Fin 16 := ⟨t.val / 128, by omega⟩
def lOf (t : Fin 2048) : Fin 128 := ⟨t.val % 128, by omega⟩
def pOf (j : Fin 512) : Fin 64 := ⟨j.val % 64, by omega⟩
theorem tk_of (t : Fin 2048) : tk (kOf t) (lOf t) = t := Fin.ext (by show t.val / 128 * 128 + t.val % 128 = t.val; omega)
theorem jx_of (j : Fin 512) : jx (hd j) (pOf j) = j := Fin.ext (by show j.val / 64 * 64 + j.val % 64 = j.val; omega)

/-- The gated output. -/
theorem gatedR (b : Fin 8) (t : Fin 2048) (j : Fin 512) :
    val_main_v208 (F := Ideal) x0 x1 x2 x3 x4 (ix3 b t j)
      = gatedS (Xr x0 b (kOf t).val) (fun l j => x1 (ix3 b (tok (kOf t).val l) j)) (Dr x2 b (kOf t).val) (Ar x3) (fun h => x4 (ix1 h))
          (stS (Xr x0 b) (Dr x2 b) (Ar x3) (kOf t).val) (lOf t) j := by
  have e : val_main_v208 (F := Ideal) x0 x1 x2 x3 x4 (ix3 b t j)
      = (val_main_v200 (F := Ideal) x0 x2 x3 (ix5 b (kOf t) (lOf t) (hd j) (pOf j)) + x4 (ix1 (hd j)) * x0 (ix3 b t (xcol j))) * x1 (ix3 b t j) := by
    unfold val_main_v208 val_main_v207 val_main_v206 val_main_v201
    generalize val_main_v200 (F := Ideal) x0 x2 x3 = y
    pointwise [val_main_v205, val_main_v204, val_main_v203, val_main_v202, val_main_v3, val_main_v0]
    rfl
  have et : tok (kOf t).val (lOf t) = t := (tok_tk _ _).trans (tk_of t)
  rw [e, mixR, jx_of]
  unfold gatedS
  beta_reduce
  rw [et, Xr_at, tk_of]

/-- The result, from its gated output. -/
theorem normR (b : Fin 8) (t : Fin 2048) (j : Fin 512) :
    val_main_v225 (F := Ideal) x0 x1 x2 x3 x4 x5 (ix3 b t j)
      = normS (fun j => val_main_v208 (F := Ideal) x0 x1 x2 x3 x4 (ix3 b t j)) (fun j => x5 (ix1 j)) j := by
  unfold val_main_v225 val_main_v224 val_main_v223 val_main_v222 val_main_v221 val_main_v210 val_main_v220 val_main_v219 val_main_v218 val_main_v217 val_main_v215 val_main_v213 val_main_v212 val_main_v211 val_main_v209 normS
  generalize val_main_v208 (F := Ideal) x0 x1 x2 x3 x4 = y
  pointwise [val_main_v216, val_main_v214, val_main_cst_1, val_main_cst_2, val_main_cst_3]
  have g : ∀ x : Fin 256, gcol j x = ⟨j.val / 256 * 256 + x.val, by omega⟩ := fun x =>
    Fin.ext (by show 256 * (j.val / 256) + x.val = j.val / 256 * 256 + x.val; omega)
  simp only [g]

/-- The reference's result is the SSD of its arguments. -/
theorem ref_eq : val_main_v225 (F := Ideal) x0 x1 x2 x3 x4 x5 = ssdOut x0 x1 x2 x3 x4 x5 := by
  funext i
  obtain ⟨b, t, j, rfl⟩ : ∃ b t j, i = ix3 b t j := ⟨i 0, i 1, i 2, by funext a; fin_cases a <;> rfl⟩
  rw [normR]
  simp only [gatedR]
  rfl

end Cert.Proof.Ssd.Ref

end
-- ==== Proof.SsdClaim.lean ====
/-
  The two programs of the recurrence end with the same array.
-/
module

public import proofs.«01_k».proof.Defs
public import proofs.«01_k».proof.Proof.SsdValue
public import proofs.«01_k».proof.Proof.SsdRefC

@[expose] public section

set_option maxRecDepth 16384

noncomputable section

namespace Cert.Proof.Ssd

open Idealize.ShloMosaic Idealize.ShloMosaic.TcCoe Idealize.SL.Sem

/-- The reference runs, leaves its arguments as they were, and every counter at zero. -/
theorem ref_frame : Cert.quiescent_SsdReferenceIdeal := fun m g _ =>
  (θ_run _ _ _).mono
    (fun r h => ⟨fun c => (h c).2, Idealize.ShloMosaic.sem_eq_zero_of_no_sems (by decide) r.2⟩)
    (Cert.SsdReferenceIdeal.Value.run m g)
theorem ref_frame_pre [Cert.Pre_dt_nonneg.Facts] : Cert.quiescent_SsdReferenceIdeal_pre_dt_nonneg := fun m g _ => ref_frame m g trivial

/-- The broadcast of the precondition's zero is one. -/
instance pre_facts : Cert.Pre_dt_nonneg.Facts := ⟨by decide⟩

/-- The precondition says that no step is negative. -/
theorem steps_nonneg {m : (ℓ : Loc Cert.SsdIdeal.nD Cert.SsdIdeal.τ Cert.SsdIdeal.sig) → Buf (Elt Ideal) ℓ}
    (h : Cert.Pre_SsdIdeal_dt_nonneg m) (c : Dev Cert.SsdIdeal.nD) :
    DtNonneg (m ((c.tc : Thread Cert.SsdIdeal.nD Cert.SsdIdeal.τ).loc Cert.SsdIdeal.main_arg2)) := by
  intro i
  have e := congrFun (h c) i
  have e2 : BitVec.ofBool (decide (Ideal.ofBits .f32 0x00000000#32 ≤ (m ((c.tc : Thread Cert.SsdIdeal.nD Cert.SsdIdeal.τ).loc Cert.SsdIdeal.main_arg2) i : EReal))) = 1#1 := e
  have e3 : Ideal.ofBits .f32 0x00000000#32 ≤ (m ((c.tc : Thread Cert.SsdIdeal.nD Cert.SsdIdeal.τ).loc Cert.SsdIdeal.main_arg2) i : EReal) := by
    by_contra hn
    rw [decide_eq_false hn] at e2
    exact absurd e2 (by decide)
  have z : Ideal.ofBits .f32 0x00000000#32 = 0 := by simp [Ideal.ofBits, Ideal.ieee]
  rwa [z] at e3

/-- From equal arguments the kernel and the reference end with equal results. -/
theorem algebraic : Cert.algebraic_SsdIdeal_SsdReferenceIdeal_pre_dt_nonneg := fun m g m' g' hp ha =>
  ⟨fun c => final m c,
    (θ_run _ _ _).mono (fun r h c => ⟨(h c).1.trans (arr_eq m c (steps_nonneg hp c)), (h c).2⟩) (Cert.SsdIdeal.Value.run_blocks m g),
    (θ_run _ _ _).mono (fun r h c => ⟨(h c).1.trans (by
        obtain ⟨a0, a1, a2, a3, a4, a5⟩ := ha c
        rw [Cert.SsdReferenceIdeal.Read.val_main_v225_eq]
        refine (Ref.ref_eq _ _ _ _ _ _).trans ?_
        show ssdOut (m' ((c.tc : Thread Cert.SsdReferenceIdeal.nD Cert.SsdReferenceIdeal.τ).loc Cert.SsdReferenceIdeal.main_arg0)) (m' ((c.tc : Thread Cert.SsdReferenceIdeal.nD Cert.SsdReferenceIdeal.τ).loc Cert.SsdReferenceIdeal.main_arg1))
          (m' ((c.tc : Thread Cert.SsdReferenceIdeal.nD Cert.SsdReferenceIdeal.τ).loc Cert.SsdReferenceIdeal.main_arg2)) (m' ((c.tc : Thread Cert.SsdReferenceIdeal.nD Cert.SsdReferenceIdeal.τ).loc Cert.SsdReferenceIdeal.main_arg3))
          (m' ((c.tc : Thread Cert.SsdReferenceIdeal.nD Cert.SsdReferenceIdeal.τ).loc Cert.SsdReferenceIdeal.main_arg4)) (m' ((c.tc : Thread Cert.SsdReferenceIdeal.nD Cert.SsdReferenceIdeal.τ).loc Cert.SsdReferenceIdeal.main_arg5)) = _
        rw [a0, a1, a2, a3, a4, a5]
        rfl), (h c).2⟩) (Cert.SsdReferenceIdeal.Value.run m' g')⟩

end Cert.Proof.Ssd

end
-- ==== Proof.lean ====
/-
  The claims about the recurrence, about the output projection with the feed-forward part and about the input projection.
-/
module

public import proofs.«01_k».proof.Defs
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdReferenceIdeal
public import proofs.«01_k».proof.Proof.Gen.OutMlp
public import proofs.«01_k».proof.Proof.Gen.OutMlp.Skeleton
public import proofs.«01_k».proof.Proof.Gen.OutMlp.Launch
public import proofs.«01_k».proof.Proof.Gen.OutMlp.Points
public import proofs.«01_k».proof.Proof.Gen.OutMlp.Frame
public import proofs.«01_k».proof.Proof.Gen.OutMlpIdeal
public import proofs.«01_k».proof.Proof.Gen.OutMlpIdeal.Skeleton
public import proofs.«01_k».proof.Proof.Gen.OutMlpIdeal.Launch
public import proofs.«01_k».proof.Proof.Gen.OutMlpIdeal.Points
public import proofs.«01_k».proof.Proof.Gen.OutMlpIdeal.Frame
public import proofs.«01_k».proof.Proof.Gen.OutMlpReferenceIdeal
public import proofs.«01_k».proof.Proof.Gen.SsdIdeal.Value
public import proofs.«01_k».proof.Proof.Gen.SsdReferenceIdeal.Read
public import proofs.«01_k».proof.Proof.Gen.OutMlpIdeal.Value
public import proofs.«01_k».proof.Proof.Gen.OutMlpReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Read
public import proofs.«01_k».proof.Proof.MlpClaim
public import proofs.«01_k».proof.Proof.SsdClaim
public import Idealize.ShloMosaic.Adequacy
public import Idealize.ShloMosaic.Init

@[expose] public section

noncomputable section

namespace Cert.Proof

open Idealize.ShloMosaic Idealize.SL.Sem

/-- The input projection's reference ends and leaves its arguments as they were. -/
theorem in_ref_frame : Cert.quiescent_InProjReferenceIdeal (hInProjReferenceIdeal := Cert.InProjReferenceIdeal.Gen.facts) :=
  fun m g _ => (θ_run _ _ _).mono (fun r h => ⟨fun c => (h c).2.2.2.2.2.2.2,
    Idealize.ShloMosaic.sem_eq_zero_of_no_sems (by decide) r.2⟩) (Cert.InProjReferenceIdeal.Value.run m g)

/-- Every claim. -/
theorem claim : Cert.Claim := ⟨Cert.Ssd.Gen.facts, Cert.SsdIdeal.Gen.facts, Cert.SsdReferenceIdeal.Gen.facts, Cert.OutMlp.Gen.facts,
  Cert.OutMlpIdeal.Gen.facts, Cert.OutMlpReferenceIdeal.Gen.facts,
  Cert.InProj.Gen.facts, Cert.InProjIdeal.Gen.facts, Cert.InProjReferenceIdeal.Gen.facts, Ssd.pre_facts,
  fun m ρ _ => Cert.Ssd.Gen.frame m ρ, fun m ρ _ => Cert.SsdIdeal.Gen.frame m ρ, fun m ρ _ => Cert.SsdIdeal.Gen.frame m ρ,
  Ssd.ref_frame, Ssd.ref_frame_pre,
  fun m ρ _ => Cert.OutMlp.Gen.frame m ρ, fun m ρ _ => Cert.OutMlpIdeal.Gen.frame m ρ, Mlp.ref_frame,
  fun m ρ _ => Cert.InProj.Gen.frame m ρ, fun m ρ _ => Cert.InProjIdeal.Gen.frame m ρ, in_ref_frame,
  ⟨IdealRules.named_const.statement Cert.SsdIdeal.κ "log2_e" .f32 0x3FB8AA3B#32 (((Real.log 2)⁻¹ : ℝ) : EReal) rfl,
    IdealRules.named_const.statement Cert.SsdIdeal.κ "mask" .f32 0xF149F2CA#32 ⊥ rfl⟩,
  Ssd.algebraic, trivial, Mlp.algebraic, trivial⟩

end Cert.Proof

end
